-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)) (v3 : (c : Dev Cert.KernelIdeal.nD) → Buf (Elt Ideal) ((c.tc : Thread Cert.KernelIdeal.nD Cert.KernelIdeal.τ).loc Cert.KernelIdeal.main_v63_3)) (v4 : (c : Dev Cert.KernelIdeal.nD) → Buf (Elt Ideal) ((c.tc : Thread Cert.KernelIdeal.nD Cert.KernelIdeal.τ).loc Cert.KernelIdeal.main_v63_4)) (v5 : (c : Dev Cert.KernelIdeal.nD) → Buf (Elt Ideal) ((c.tc : Thread Cert.KernelIdeal.nD Cert.KernelIdeal.τ).loc Cert.KernelIdeal.main_v63_5)) (v6 : (c : Dev Cert.KernelIdeal.nD) → Buf (Elt Ideal) ((c.tc : Thread Cert.KernelIdeal.nD Cert.KernelIdeal.τ).loc Cert.KernelIdeal.main_v63_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_v63_2) = v2 c
          ∧ r.2.mem ((c.tc : Thread Cert.KernelIdeal.nD Cert.KernelIdeal.τ).loc Cert.KernelIdeal.main_v63_3) = v3 c
          ∧ r.2.mem ((c.tc : Thread Cert.KernelIdeal.nD Cert.KernelIdeal.τ).loc Cert.KernelIdeal.main_v63_4) = v4 c
          ∧ r.2.mem ((c.tc : Thread Cert.KernelIdeal.nD Cert.KernelIdeal.τ).loc Cert.KernelIdeal.main_v63_5) = v5 c
          ∧ r.2.mem ((c.tc : Thread Cert.KernelIdeal.nD Cert.KernelIdeal.τ).loc Cert.KernelIdeal.main_v63_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_v141) = v3 c
          ∧ r.2.mem ((c.tc : Thread Cert.ReferenceIdeal.nD Cert.ReferenceIdeal.τ).loc Cert.ReferenceIdeal.main_v137) = v4 c
          ∧ r.2.mem ((c.tc : Thread Cert.ReferenceIdeal.nD Cert.ReferenceIdeal.τ).loc Cert.ReferenceIdeal.main_v100) = v5 c
          ∧ r.2.mem ((c.tc : Thread Cert.ReferenceIdeal.nD Cert.ReferenceIdeal.τ).loc Cert.ReferenceIdeal.main_v105) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v83)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v83) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v60)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v60) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)) (v4 : (c : Dev Cert.Kernel4Ideal.nD) → Buf (Elt Ideal) ((c.tc : Thread Cert.Kernel4Ideal.nD Cert.Kernel4Ideal.τ).loc Cert.Kernel4Ideal.main_v6_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_v6_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_v61) = v2 c
          ∧ r.2.mem ((c.tc : Thread Cert.Reference4Ideal.nD Cert.Reference4Ideal.τ).loc Cert.Reference4Ideal.main_v62) = v3 c
          ∧ r.2.mem ((c.tc : Thread Cert.Reference4Ideal.nD Cert.Reference4Ideal.τ).loc Cert.Reference4Ideal.main_v59) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v7) = v2 c
          ∧ r.2.mem ((c.tc : Thread Cert.Reference8Ideal.nD Cert.Reference8Ideal.τ).loc Cert.Reference8Ideal.main_v13) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_v13) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4x2048x1024 : Shape := ⟨3, ![4, 2048, 1024]⟩
abbrev S4x1024 : Shape := ⟨2, ![4, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  bcast_S_S4x1024 : S_.BroadcastsInDim S4x1024 (![] : Fin 0 → Fin S4x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x2816 : S_.BroadcastsInDim S3x2816 (![] : Fin 0 → Fin S3x2816.rank)
  bcast_S_S1x2816 : S_.BroadcastsInDim S1x2816 (![] : Fin 0 → Fin S1x2816.rank)
  bcast_S_S2816x1024 : S_.BroadcastsInDim S2816x1024 (![] : Fin 0 → Fin S2816x1024.rank)

variable [Facts]

def fn_part1 {F : FTy → Type} [FloatOps F] (main_arg6 : FVec F S3x2816 .f32) (main_arg7 : FVec F S1x2816 .f32) (main_arg8 : FVec F S2816x1024 .f32) (main_arg9 : FVec F S4x2048x1024 .f32) (main_v2 : IVec S4x2048x1024 1) (main_v5 : IVec S4x1024 1) (main_v8 : IVec S4x1024 1) (main_v11 : IVec S4x1024 1) (main_v14 : IVec S1x1024 1) (main_v17 : IVec S1024x5632 1) : IVec S4x2048x1024 1 × IVec S4x1024 1 × IVec S4x1024 1 × IVec S4x1024 1 × IVec S1x1024 1 × IVec S1024x5632 1 × IVec S3x2816 1 × IVec S1x2816 1 × IVec S2816x1024 1 × IVec S4x2048x1024 1 :=
  let main_v18 : FVec F S3x2816 .f32 := Host.absf main_arg6
  let main_cst_5 : FVec F S_ .f32 := constant S_ .f32 0x7F800000#32
  let main_v19 : FVec F S3x2816 .f32 := broadcastInDim S3x2816 ![] bcast_S_S3x2816 main_cst_5
  let main_v20 : IVec S3x2816 1 := cmpf .olt main_v18 main_v19
  let main_v21 : FVec F S1x2816 .f32 := Host.absf main_arg7
  let main_cst_6 : FVec F S_ .f32 := constant S_ .f32 0x7F800000#32
  let main_v22 : FVec F S1x2816 .f32 := broadcastInDim S1x2816 ![] bcast_S_S1x2816 main_cst_6
  let main_v23 : IVec S1x2816 1 := cmpf .olt main_v21 main_v22
  let main_v24 : FVec F S2816x1024 .f32 := Host.absf main_arg8
  let main_cst_7 : FVec F S_ .f32 := constant S_ .f32 0x7F800000#32
  let main_v25 : FVec F S2816x1024 .f32 := broadcastInDim S2816x1024 ![] bcast_S_S2816x1024 main_cst_7
  let main_v26 : IVec S2816x1024 1 := cmpf .olt main_v24 main_v25
  let main_v27 : FVec F S4x2048x1024 .f32 := Host.absf main_arg9
  let main_cst_8 : FVec F S_ .f32 := constant S_ .f32 0x7F800000#32
  let main_v28 : FVec F S4x2048x1024 .f32 := broadcastInDim S4x2048x1024 ![] bcast_S_S4x2048x1024 main_cst_8
  let main_v29 : IVec S4x2048x1024 1 := cmpf .olt main_v27 main_v28
  (main_v2, main_v5, main_v8, main_v11, main_v14, main_v17, main_v20, main_v23, main_v26, main_v29)

def fn {F : FTy → Type} [FloatOps F] (main_arg0 : FVec F S4x2048x1024 .f32) (main_arg1 : FVec F S4x1024 .f32) (main_arg2 : FVec F S4x1024 .f32) (main_arg3 : FVec F S4x1024 .f32) (main_arg4 : FVec F S1x1024 .f32) (main_arg5 : FVec F S1024x5632 .f32) (main_arg6 : FVec F S3x2816 .f32) (main_arg7 : FVec F S1x2816 .f32) (main_arg8 : FVec F S2816x1024 .f32) (main_arg9 : FVec F S4x2048x1024 .f32) : IVec S4x2048x1024 1 × IVec S4x1024 1 × IVec S4x1024 1 × IVec S4x1024 1 × IVec S1x1024 1 × IVec S1024x5632 1 × IVec S3x2816 1 × IVec S1x2816 1 × IVec S2816x1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S4x1024 .f32 := Host.absf main_arg2
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S4x1024 .f32 := Host.absf main_arg3
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x5632 .f32 := Host.absf main_arg5
  let main_cst_4 : FVec F S_ .f32 := constant S_ .f32 0x7F800000#32
  let main_v16 : FVec F S1024x5632 .f32 := broadcastInDim S1024x5632 ![] bcast_S_S1024x5632 main_cst_4
  let main_v17 : IVec S1024x5632 1 := cmpf .olt main_v15 main_v16
  fn_part1 (F := F) main_arg6 main_arg7 main_arg8 main_arg9 main_v2 main_v5 main_v8 main_v11 main_v14 main_v17
-- ==== Pre_finite4.lean ====
abbrev S4x2048x1024 : Shape := ⟨3, ![4, 2048, 1024]⟩
abbrev S4x1024 : Shape := ⟨2, ![4, 1024]⟩
abbrev S1x1024 : Shape := ⟨2, ![1, 1024]⟩
abbrev S1024x1024 : Shape := ⟨2, ![1024, 1024]⟩
abbrev S4x2048x512 : Shape := ⟨3, ![4, 2048, 512]⟩
abbrev S_ : Shape := ⟨0, ![]⟩

class Facts : Prop where
  bcast_S_S4x2048x1024 : S_.BroadcastsInDim S4x2048x1024 (![] : Fin 0 → Fin S4x2048x1024.rank)
  bcast_S_S4x1024 : S_.BroadcastsInDim S4x1024 (![] : Fin 0 → Fin S4x1024.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S4x2048x512 : S_.BroadcastsInDim S4x2048x512 (![] : Fin 0 → Fin S4x2048x512.rank)

variable [Facts]

def fn {F : FTy → Type} [FloatOps F] (main_arg0 : FVec F S4x2048x1024 .f32) (main_arg1 : FVec F S4x1024 .f32) (main_arg2 : FVec F S4x1024 .f32) (main_arg3 : FVec F S1x1024 .f32) (main_arg4 : FVec F S1024x1024 .f32) (main_arg5 : FVec F S4x2048x512 .f32) (main_arg6 : FVec F S4x2048x512 .f32) (main_arg7 : FVec F S4x2048x1024 .f32) : IVec S4x2048x1024 1 × IVec S4x1024 1 × IVec S1x1024 1 × IVec S1024x1024 1 × IVec S4x2048x512 1 × IVec S4x2048x512 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x1024 .f32 := Host.absf main_arg2
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S4x2048x512 .f32 := Host.absf main_arg5
  let main_cst_3 : FVec F S_ .f32 := constant S_ .f32 0x7F800000#32
  let main_v13 : FVec F S4x2048x512 .f32 := broadcastInDim S4x2048x512 ![] bcast_S_S4x2048x512 main_cst_3
  let main_v14 : IVec S4x2048x512 1 := cmpf .olt main_v12 main_v13
  let main_v15 : FVec F S4x2048x512 .f32 := Host.absf main_arg6
  let main_cst_4 : FVec F S_ .f32 := constant S_ .f32 0x7F800000#32
  let main_v16 : FVec F S4x2048x512 .f32 := broadcastInDim S4x2048x512 ![] bcast_S_S4x2048x512 main_cst_4
  let main_v17 : IVec S4x2048x512 1 := cmpf .olt main_v15 main_v16
  (main_v2, main_v5, main_v8, main_v11, main_v14, main_v17)
-- ==== Kernel.lean ====
abbrev S4x2048x1024 : Shape := ⟨3, ![4, 2048, 1024]⟩
abbrev S4x1024 : Shape := ⟨2, ![4, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S2816 : Shape := ⟨1, ![2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S5632x1024 : Shape := ⟨2, ![5632, 1024]⟩
abbrev S1x256x1024 : Shape := ⟨3, ![1, 256, 1024]⟩
abbrev S1x256x2816 : Shape := ⟨3, ![1, 256, 2816]⟩
abbrev S1x256x5632 : Shape := ⟨3, ![1, 256, 5632]⟩
abbrev S1x264x2816 : Shape := ⟨3, ![1, 264, 2816]⟩
abbrev S1x8x2816 : Shape := ⟨3, ![1, 8, 2816]⟩
abbrev S256x1024 : Shape := ⟨2, ![256, 1024]⟩
abbrev S256x2816 : Shape := ⟨2, ![256, 2816]⟩
abbrev S264x2816 : Shape := ⟨2, ![264, 2816]⟩
abbrev S8x2816 : Shape := ⟨2, ![8, 2816]⟩
abbrev S256 : Shape := ⟨1, ![256]⟩
abbrev S256x1 : Shape := ⟨2, ![256, 1]⟩

abbrev nBuf : Space → Nat
  | .hbm => 85
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1x1024, .f32⟩
  | .hbm, ⟨5, _⟩ => ⟨S1024x5632, .f32⟩
  | .hbm, ⟨6, _⟩ => ⟨S3x2816, .f32⟩
  | .hbm, ⟨7, _⟩ => ⟨S1x2816, .f32⟩
  | .hbm, ⟨8, _⟩ => ⟨S2816x1024, .f32⟩
  | .hbm, ⟨9, _⟩ => ⟨S4x2048x1024, .f32⟩
  | .hbm, ⟨10, _⟩ => ⟨S1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x5632, .f32⟩
  | .hbm, ⟨37, _⟩ => ⟨S4x2048x2816, .f32⟩
  | .hbm, ⟨38, _⟩ => ⟨S4x2048x2816, .f32⟩
  | .hbm, ⟨39, _⟩ => ⟨S2816, .f32⟩
  | .hbm, ⟨40, _⟩ => ⟨S_, .f32⟩
  | .hbm, ⟨41, _⟩ => ⟨S4x2x2816, .f32⟩
  | .hbm, ⟨42, _⟩ => ⟨S4x2050x2816, .f32⟩
  | .hbm, ⟨43, _⟩ => ⟨S4x2048x2816, .f32⟩
  | .hbm, ⟨44, _⟩ => ⟨S1x2816, .f32⟩
  | .hbm, ⟨45, _⟩ => ⟨S2816, .f32⟩
  | .hbm, ⟨46, _⟩ => ⟨S1x1x2816, .f32⟩
  | .hbm, ⟨47, _⟩ => ⟨S4x2048x2816, .f32⟩
  | .hbm, ⟨48, _⟩ => ⟨S4x2048x2816, .f32⟩
  | .hbm, ⟨49, _⟩ => ⟨S4x2048x2816, .f32⟩
  | .hbm, ⟨50, _⟩ => ⟨S1x2816, .f32⟩
  | .hbm, ⟨51, _⟩ => ⟨S2816, .f32⟩
  | .hbm, ⟨52, _⟩ => ⟨S1x1x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S1x2816, .f32⟩
  | .hbm, ⟨58, _⟩ => ⟨S2816, .f32⟩
  | .hbm, ⟨59, _⟩ => ⟨S1x1x2816, .f32⟩
  | .hbm, ⟨60, _⟩ => ⟨S4x2048x2816, .f32⟩
  | .hbm, ⟨61, _⟩ => ⟨S4x2048x2816, .f32⟩
  | .hbm, ⟨62, _⟩ => ⟨S4x2048x2816, .f32⟩
  | .hbm, ⟨63, _⟩ => ⟨S1x1x2816, .f32⟩
  | .hbm, ⟨64, _⟩ => ⟨S4x2048x2816, .f32⟩
  | .hbm, ⟨65, _⟩ => ⟨S4x2048x2816, .f32⟩
  | .hbm, ⟨66, _⟩ => ⟨S4x1x1024, .f32⟩
  | .hbm, ⟨67, _⟩ => ⟨S4x2048x1024, .f32⟩
  | .hbm, ⟨68, _⟩ => ⟨S4x2048x1024, .f32⟩
  | .hbm, ⟨69, _⟩ => ⟨S4x2048x1024, .bf16⟩
  | .hbm, ⟨70, _⟩ => ⟨S5632x1024, .f32⟩
  | .hbm, ⟨71, _⟩ => ⟨S5632x1024, .bf16⟩
  | .hbm, ⟨72, _⟩ => ⟨S2816x1024, .bf16⟩
  | .hbm, ⟨73, _⟩ => ⟨S4x2048x2816, .bf16⟩
  | .hbm, ⟨74, _⟩ => ⟨S4x2048x2816, .bf16⟩
  | .hbm, ⟨75, _⟩ => ⟨S4x2048x2816, .bf16⟩
  | .hbm, ⟨76, _⟩ => ⟨S4x1x1024, .f32⟩
  | .hbm, ⟨77, _⟩ => ⟨S4x1x1024, .f32⟩
  | .hbm, ⟨78, _⟩ => ⟨S4x2048x5632, .bf16⟩
  | .hbm, ⟨79, _⟩ => ⟨S4x2048x1024, .f32⟩
  | .hbm, ⟨80, _⟩ => ⟨S4x1x1024, .f32⟩
  | .hbm, ⟨81, _⟩ => ⟨S4x1x1024, .f32⟩
  | .hbm, ⟨82, _⟩ => ⟨S1x1024, .f32⟩
  | .hbm, ⟨83, _⟩ => ⟨S3x2816, .f32⟩
  | .hbm, ⟨84, _⟩ => ⟨S1x2816, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x2816, .bf16⟩
  | .local _ .vmem, ⟨3, _⟩ => ⟨S1x256x2816, .bf16⟩
  | .local _ .vmem, ⟨4, _⟩ => ⟨S1x256x2816, .bf16⟩
  | .local _ .vmem, ⟨5, _⟩ => ⟨S1x256x2816, .bf16⟩
  | .local _ .vmem, ⟨6, _⟩ => ⟨S1x256x2816, .bf16⟩
  | .local _ .vmem, ⟨7, _⟩ => ⟨S1x256x2816, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S3x2816, .f32⟩
  | .local _ .vmem, ⟨18, _⟩ => ⟨S2816x1024, .bf16⟩
  | .local _ .vmem, ⟨19, _⟩ => ⟨S5632x1024, .bf16⟩
  | .local _ .vmem, ⟨20, _⟩ => ⟨S1x256x5632, .bf16⟩
  | .local _ .vmem, ⟨21, _⟩ => ⟨S1x256x5632, .bf16⟩
  | .local _ .vmem, ⟨22, _⟩ => ⟨S1x256x1024, .f32⟩
  | .local _ .vmem, ⟨23, _⟩ => ⟨S1x256x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1024, .f32⟩
  | .local _ .vmem, ⟨29, _⟩ => ⟨S3x2816, .f32⟩
  | .local _ .vmem, ⟨30, _⟩ => ⟨S1x2816, .f32⟩
  | .local _ .vmem, ⟨31, _⟩ => ⟨S1x264x2816, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63_0 : Ref sig .tc := ⟨.hbm, 78, rfl⟩
abbrev main_v63_1 : Ref sig .tc := ⟨.hbm, 79, rfl⟩
abbrev main_v63_2 : Ref sig .tc := ⟨.hbm, 80, rfl⟩
abbrev main_v63_3 : Ref sig .tc := ⟨.hbm, 81, rfl⟩
abbrev main_v63_4 : Ref sig .tc := ⟨.hbm, 82, rfl⟩
abbrev main_v63_5 : Ref sig .tc := ⟨.hbm, 83, rfl⟩
abbrev main_v63_6 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S5632x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S3x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ReferenceIdeal.lean ====
abbrev S4x2048x1024 : Shape := ⟨3, ![4, 2048, 1024]⟩
abbrev S4x1024 : Shape := ⟨2, ![4, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S2816 : Shape := ⟨1, ![2816]⟩
abbrev S4x2x2816 : Shape := ⟨3, ![4, 2, 2816]⟩
abbrev S4x2050x2816 : Shape := ⟨3, ![4, 2050, 2816]⟩
abbrev S1x1x2816 : Shape := ⟨3, ![1, 1, 2816]⟩

abbrev nBuf : Space → Nat
  | .hbm => 197
  | .vmem => 0
  | .smem => 0
  | _ => 0

abbrev hbmTy0_0 (i : Nat) : BufTy := match i % 128 with
  | 0 => ⟨S4x2048x1024, .f32⟩
  | 1 => ⟨S4x1024, .f32⟩
  | 2 => ⟨S4x1024, .f32⟩
  | 3 => ⟨S4x1024, .f32⟩
  | 4 => ⟨S1x1024, .f32⟩
  | 5 => ⟨S1024x5632, .f32⟩
  | 6 => ⟨S3x2816, .f32⟩
  | 7 => ⟨S1x2816, .f32⟩
  | 8 => ⟨S2816x1024, .f32⟩
  | 9 => ⟨S4x2048x1024, .f32⟩
  | 10 => ⟨S1024, .f32⟩
  | 11 => ⟨S4x2048x1024, .f32⟩
  | 12 => ⟨S_, .f32⟩
  | 13 => ⟨S4x2048, .f32⟩
  | 14 => ⟨S4x2048x1, .f32⟩
  | 15 => ⟨S_, .f32⟩
  | 16 => ⟨S4x2048x1, .f32⟩
  | 17 => ⟨S4x2048x1, .f32⟩
  | 18 => ⟨S_, .f32⟩
  | 19 => ⟨S4x2048x1, .f32⟩
  | 20 => ⟨S4x2048x1, .f32⟩
  | 21 => ⟨S4x2048x1, .f32⟩
  | 22 => ⟨S4x2048x1, .f32⟩
  | 23 => ⟨S_, .f32⟩
  | 24 => ⟨S4x2048x1, .f32⟩
  | 25 => ⟨S4x2048x1, .f32⟩
  | 26 => ⟨S4x2048x1024, .f32⟩
  | 27 => ⟨S4x2048x1024, .f32⟩
  | 28 => ⟨S1x1x1024, .f32⟩
  | 29 => ⟨S4x2048x1024, .f32⟩
  | 30 => ⟨S4x2048x1024, .f32⟩
  | 31 => ⟨S4x1x1024, .f32⟩
  | 32 => ⟨S_, .f32⟩
  | 33 => ⟨S4x1x1024, .f32⟩
  | 34 => ⟨S4x1x1024, .f32⟩
  | 35 => ⟨S4x2048x1024, .f32⟩
  | 36 => ⟨S4x2048x1024, .f32⟩
  | 37 => ⟨S4x1x1024, .f32⟩
  | 38 => ⟨S4x2048x1024, .f32⟩
  | 39 => ⟨S4x2048x1024, .f32⟩
  | 40 => ⟨S4x2048x5632, .f32⟩
  | 41 => ⟨S4x2048x2816, .f32⟩
  | 42 => ⟨S4x2048x2816, .f32⟩
  | 43 => ⟨S2816, .f32⟩
  | 44 => ⟨S_, .f32⟩
  | 45 => ⟨S4x2x2816, .f32⟩
  | 46 => ⟨S4x2050x2816, .f32⟩
  | 47 => ⟨S_, .f32⟩
  | 48 => ⟨S4x2x2816, .f32⟩
  | 49 => ⟨S4x2048x2816, .f32⟩
  | 50 => ⟨S1x2816, .f32⟩
  | 51 => ⟨S2816, .f32⟩
  | 52 => ⟨S1x1x2816, .f32⟩
  | 53 => ⟨S4x2048x2816, .f32⟩
  | 54 => ⟨S4x2048x2816, .f32⟩
  | 55 => ⟨S4x2048x2816, .f32⟩
  | 56 => ⟨S1x2816, .f32⟩
  | 57 => ⟨S2816, .f32⟩
  | 58 => ⟨S1x1x2816, .f32⟩
  | 59 => ⟨S4x2048x2816, .f32⟩
  | 60 => ⟨S4x2048x2816, .f32⟩
  | 61 => ⟨S4x2048x2816, .f32⟩
  | 62 => ⟨S4x2048x2816, .f32⟩
  | 63 => ⟨S1x2816, .f32⟩
  | 64 => ⟨S2816, .f32⟩
  | 65 => ⟨S1x1x2816, .f32⟩
  | 66 => ⟨S4x2048x2816, .f32⟩
  | 67 => ⟨S4x2048x2816, .f32⟩
  | 68 => ⟨S4x2048x2816, .f32⟩
  | 69 => ⟨S1x1x2816, .f32⟩
  | 70 => ⟨S4x2048x2816, .f32⟩
  | 71 => ⟨S4x2048x2816, .f32⟩
  | 72 => ⟨S4x1x1024, .f32⟩
  | 73 => ⟨S4x2048x2816, .f32⟩
  | 74 => ⟨S4x2048x2816, .f32⟩
  | 75 => ⟨S_, .f32⟩
  | 76 => ⟨S4x2048x2816, .f32⟩
  | 77 => ⟨S4x2048x2816, .f32⟩
  | 78 => ⟨S_, .f32⟩
  | 79 => ⟨S4x2048x2816, .f32⟩
  | 80 => ⟨S4x2048x2816, .f32⟩
  | 81 => ⟨S_, .f32⟩
  | 82 => ⟨S4x2048x2816, .f32⟩
  | 83 => ⟨S4x2048x2816, .f32⟩
  | 84 => ⟨S4x2048x2816, .f32⟩
  | 85 => ⟨S4x2048x2816, .f32⟩
  | 86 => ⟨S4x2048x2816, .f32⟩
  | 87 => ⟨S4x2048x1024, .f32⟩
  | 88 => ⟨S4x2048x1024, .f32⟩
  | 89 => ⟨S4x2048x1024, .f32⟩
  | 90 => ⟨S4x2048x1024, .f32⟩
  | 91 => ⟨S4x2048x1024, .f32⟩
  | 92 => ⟨S4x2048x1024, .f32⟩
  | 93 => ⟨S4x2048x1024, .f32⟩
  | 94 => ⟨S4x2048x2816, .f32⟩
  | 95 => ⟨S4x2048x2816, .f32⟩
  | 96 => ⟨S4x2048x2816, .f32⟩
  | 97 => ⟨S4x2048x2816, .f32⟩
  | 98 => ⟨S4x2048x2816, .f32⟩
  | 99 => ⟨S4x2048x2816, .f32⟩
  | 100 => ⟨S4x2048x2816, .f32⟩
  | 101 => ⟨S_, .f32⟩
  | 102 => ⟨S2816, .f32⟩
  | 103 => ⟨S1x1x2816, .f32⟩
  | 104 => ⟨S_, .f32⟩
  | 105 => ⟨S2816, .f32⟩
  | 106 => ⟨S4x2048x2816, .f32⟩
  | 107 => ⟨S_, .f32⟩
  | 108 => ⟨S2816, .f32⟩
  | 109 => ⟨S1x1x2816, .f32⟩
  | 110 => ⟨S4x2048x2816, .f32⟩
  | 111 => ⟨S4x2048x2816, .f32⟩
  | 112 => ⟨S_, .f32⟩
  | 113 => ⟨S2816, .f32⟩
  | 114 => ⟨S1x2816, .f32⟩
  | 115 => ⟨S_, .f32⟩
  | 116 => ⟨S3x2816, .f32⟩
  | 117 => ⟨S_, .f32⟩
  | 118 => ⟨S4x2050x2816, .f32⟩
  | 119 => ⟨S4x2048x2816, .f32⟩
  | 120 => ⟨S_, .f32⟩
  | 121 => ⟨S2816, .f32⟩
  | 122 => ⟨S1x1x2816, .f32⟩
  | 123 => ⟨S4x2048x2816, .f32⟩
  | 124 => ⟨S4x2048x2816, .f32⟩
  | 125 => ⟨S_, .f32⟩
  | 126 => ⟨S2816, .f32⟩
  | 127 => ⟨S1x2816, .f32⟩
  | _ => ⟨S4x2048x1024, .f32⟩

abbrev hbmTy0_1 (i : Nat) : BufTy := match i % 128 with
  | 0 => ⟨S_, .f32⟩
  | 1 => ⟨S3x2816, .f32⟩
  | 2 => ⟨S3x2816, .f32⟩
  | 3 => ⟨S_, .f32⟩
  | 4 => ⟨S4x2050x2816, .f32⟩
  | 5 => ⟨S4x2050x2816, .f32⟩
  | 6 => ⟨S4x2048x2816, .f32⟩
  | 7 => ⟨S_, .f32⟩
  | 8 => ⟨S2816, .f32⟩
  | 9 => ⟨S1x1x2816, .f32⟩
  | 10 => ⟨S4x2048x2816, .f32⟩
  | 11 => ⟨S4x2048x2816, .f32⟩
  | 12 => ⟨S_, .f32⟩
  | 13 => ⟨S2816, .f32⟩
  | 14 => ⟨S1x2816, .f32⟩
  | 15 => ⟨S_, .f32⟩
  | 16 => ⟨S3x2816, .f32⟩
  | 17 => ⟨S3x2816, .f32⟩
  | 18 => ⟨S_, .f32⟩
  | 19 => ⟨S4x2050x2816, .f32⟩
  | 20 => ⟨S4x2050x2816, .f32⟩
  | 21 => ⟨S4x2x2816, .f32⟩
  | 22 => ⟨S4x2048x2816, .f32⟩
  | 23 => ⟨S1x2816, .f32⟩
  | 24 => ⟨S4x2048x5632, .f32⟩
  | 25 => ⟨S4x2048x1024, .f32⟩
  | 26 => ⟨S_, .f32⟩
  | 27 => ⟨S4x1024, .f32⟩
  | 28 => ⟨S4x1x1024, .f32⟩
  | 29 => ⟨S_, .f32⟩
  | 30 => ⟨S4x1024, .f32⟩
  | 31 => ⟨S4x2048x1024, .f32⟩
  | 32 => ⟨S_, .f32⟩
  | 33 => ⟨S4x1024, .f32⟩
  | 34 => ⟨S4x1x1024, .f32⟩
  | 35 => ⟨S4x2048x1024, .f32⟩
  | 36 => ⟨S4x2048x1024, .f32⟩
  | 37 => ⟨S_, .f32⟩
  | 38 => ⟨S4x1024, .f32⟩
  | 39 => ⟨S4x2048x1024, .f32⟩
  | 40 => ⟨S_, .f32⟩
  | 41 => ⟨S1024, .f32⟩
  | 42 => ⟨S1x1x1024, .f32⟩
  | 43 => ⟨S4x2048x1024, .f32⟩
  | 44 => ⟨S4x2048x1024, .f32⟩
  | 45 => ⟨S_, .f32⟩
  | 46 => ⟨S1024, .f32⟩
  | 47 => ⟨S4x2048x1024, .f32⟩
  | 48 => ⟨S_, .f32⟩
  | 49 => ⟨S4x2048, .f32⟩
  | 50 => ⟨S4x2048x1, .f32⟩
  | 51 => ⟨S4x2048x1024, .f32⟩
  | 52 => ⟨S4x2048x1024, .f32⟩
  | 53 => ⟨S4x2048x1, .f32⟩
  | 54 => ⟨S_, .f32⟩
  | 55 => ⟨S4x2048x1, .f32⟩
  | 56 => ⟨S4x2048x1, .f32⟩
  | 57 => ⟨S_, .f32⟩
  | 58 => ⟨S4x2048, .f32⟩
  | 59 => ⟨S4x2048x1024, .f32⟩
  | 60 => ⟨S4x2048x1024, .f32⟩
  | 61 => ⟨S4x2048x1024, .f32⟩
  | 62 => ⟨S4x2048x1024, .f32⟩
  | 63 => ⟨S4x2048x1024, .f32⟩
  | 64 => ⟨S1x1024, .f32⟩
  | 65 => ⟨S4x2048x5632, .bf16⟩
  | 66 => ⟨S4x2048x1024, .f32⟩
  | 67 => ⟨S4x1x1024, .f32⟩
  | 68 => ⟨S4x1x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_v56_2 : Ref sig .tc := ⟨.hbm, 80, rfl⟩
abbrev main_call0_cst_1 : Ref sig .tc := ⟨.hbm, 81, rfl⟩
abbrev main_call0_v6 : Ref sig .tc := ⟨.hbm, 82, rfl⟩
abbrev main_call0_v7 : Ref sig .tc := ⟨.hbm, 83, rfl⟩
abbrev main_v56_1 : Ref sig .tc := ⟨.hbm, 84, rfl⟩
abbrev main_v56_0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v68 : Ref sig .tc := ⟨.hbm, 100, rfl⟩
abbrev main_cst_6 : Ref sig .tc := ⟨.hbm, 101, rfl⟩
abbrev main_v69 : Ref sig .tc := ⟨.hbm, 102, rfl⟩
abbrev main_v70 : Ref sig .tc := ⟨.hbm, 103, rfl⟩
abbrev main_cst_7 : Ref sig .tc := ⟨.hbm, 104, rfl⟩
abbrev main_v71 : Ref sig .tc := ⟨.hbm, 105, rfl⟩
abbrev main_v72 : Ref sig .tc := ⟨.hbm, 106, rfl⟩
abbrev main_cst_8 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_9 : Ref sig .tc := ⟨.hbm, 112, rfl⟩
abbrev main_v77 : Ref sig .tc := ⟨.hbm, 113, rfl⟩
abbrev main_v78 : Ref sig .tc := ⟨.hbm, 114, rfl⟩
abbrev main_cst_10 : Ref sig .tc := ⟨.hbm, 115, rfl⟩
abbrev main_v79 : Ref sig .tc := ⟨.hbm, 116, rfl⟩
abbrev main_cst_11 : Ref sig .tc := ⟨.hbm, 117, rfl⟩
abbrev main_v80 : Ref sig .tc := ⟨.hbm, 118, rfl⟩
abbrev main_v81 : Ref sig .tc := ⟨.hbm, 119, rfl⟩
abbrev main_cst_12 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_13 : Ref sig .tc := ⟨.hbm, 125, rfl⟩
abbrev main_v86 : Ref sig .tc := ⟨.hbm, 126, rfl⟩
abbrev main_v87 : Ref sig .tc := ⟨.hbm, 127, rfl⟩
abbrev main_cst_14 : Ref sig .tc := ⟨.hbm, 128, rfl⟩
abbrev main_v88 : Ref sig .tc := ⟨.hbm, 129, rfl⟩
abbrev main_v89 : Ref sig .tc := ⟨.hbm, 130, rfl⟩
abbrev main_cst_15 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_16 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_17 : Ref sig .tc := ⟨.hbm, 140, rfl⟩
abbrev main_v97 : Ref sig .tc := ⟨.hbm, 141, rfl⟩
abbrev main_v98 : Ref sig .tc := ⟨.hbm, 142, rfl⟩
abbrev main_cst_18 : Ref sig .tc := ⟨.hbm, 143, rfl⟩
abbrev main_v99 : Ref sig .tc := ⟨.hbm, 144, rfl⟩
abbrev main_v100 : Ref sig .tc := ⟨.hbm, 145, rfl⟩
abbrev main_cst_19 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_20 : Ref sig .tc := ⟨.hbm, 154, rfl⟩
abbrev main_v108 : Ref sig .tc := ⟨.hbm, 155, rfl⟩
abbrev main_v109 : Ref sig .tc := ⟨.hbm, 156, rfl⟩
abbrev main_cst_21 : Ref sig .tc := ⟨.hbm, 157, rfl⟩
abbrev main_v110 : Ref sig .tc := ⟨.hbm, 158, rfl⟩
abbrev main_v111 : Ref sig .tc := ⟨.hbm, 159, rfl⟩
abbrev main_cst_22 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_23 : Ref sig .tc := ⟨.hbm, 165, rfl⟩
abbrev main_v116 : Ref sig .tc := ⟨.hbm, 166, rfl⟩
abbrev main_v117 : Ref sig .tc := ⟨.hbm, 167, rfl⟩
abbrev main_cst_24 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_25 : Ref sig .tc := ⟨.hbm, 173, rfl⟩
abbrev main_v122 : Ref sig .tc := ⟨.hbm, 174, rfl⟩
abbrev main_v123 : Ref sig .tc := ⟨.hbm, 175, rfl⟩
abbrev main_cst_26 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_27 : Ref sig .tc := ⟨.hbm, 182, rfl⟩
abbrev main_v129 : Ref sig .tc := ⟨.hbm, 183, rfl⟩
abbrev main_v130 : Ref sig .tc := ⟨.hbm, 184, rfl⟩
abbrev main_cst_28 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩

abbrev nD : Nat := 1
abbrev τ : Topo := Topo.v7x

variable {F : FTy → Type} [FloatOps F]
-- ==== Kernel2.lean ====
abbrev S4x2048x1024 : Shape := ⟨3, ![4, 2048, 1024]⟩
abbrev S4x1024 : Shape := ⟨2, ![4, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S2816 : Shape := ⟨1, ![2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 118
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1x1024, .f32⟩
  | .hbm, ⟨5, _⟩ => ⟨S1024x5632, .f32⟩
  | .hbm, ⟨6, _⟩ => ⟨S3x2816, .f32⟩
  | .hbm, ⟨7, _⟩ => ⟨S1x2816, .f32⟩
  | .hbm, ⟨8, _⟩ => ⟨S2816x1024, .f32⟩
  | .hbm, ⟨9, _⟩ => ⟨S4x2048x1024, .f32⟩
  | .hbm, ⟨10, _⟩ => ⟨S1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x5632, .f32⟩
  | .hbm, ⟨37, _⟩ => ⟨S4x2048x2816, .f32⟩
  | .hbm, ⟨38, _⟩ => ⟨S4x2048x2816, .f32⟩
  | .hbm, ⟨39, _⟩ => ⟨S2816, .f32⟩
  | .hbm, ⟨40, _⟩ => ⟨S_, .f32⟩
  | .hbm, ⟨41, _⟩ => ⟨S4x2x2816, .f32⟩
  | .hbm, ⟨42, _⟩ => ⟨S4x2050x2816, .f32⟩
  | .hbm, ⟨43, _⟩ => ⟨S_, .f32⟩
  | .hbm, ⟨44, _⟩ => ⟨S4x2x2816, .f32⟩
  | .hbm, ⟨45, _⟩ => ⟨S4x2048x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S1x2816, .f32⟩
  | .hbm, ⟨53, _⟩ => ⟨S2816, .f32⟩
  | .hbm, ⟨54, _⟩ => ⟨S1x1x2816, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S1x2816, .f32⟩
  | .hbm, ⟨60, _⟩ => ⟨S2816, .f32⟩
  | .hbm, ⟨61, _⟩ => ⟨S1x1x2816, .f32⟩
  | .hbm, ⟨62, _⟩ => ⟨S4x2048x2816, .f32⟩
  | .hbm, ⟨63, _⟩ => ⟨S4x2048x2816, .f32⟩
  | .hbm, ⟨64, _⟩ => ⟨S4x2048x2816, .f32⟩
  | .hbm, ⟨65, _⟩ => ⟨S1x1x2816, .f32⟩
  | .hbm, ⟨66, _⟩ => ⟨S4x2048x2816, .f32⟩
  | .hbm, ⟨67, _⟩ => ⟨S4x2048x2816, .f32⟩
  | .hbm, ⟨68, _⟩ => ⟨S4x1x1024, .f32⟩
  | .hbm, ⟨69, _⟩ => ⟨S4x2048x2816, .f32⟩
  | .hbm, ⟨70, _⟩ => ⟨S4x2048x2816, .f32⟩
  | .hbm, ⟨71, _⟩ => ⟨S_, .f32⟩
  | .hbm, ⟨72, _⟩ => ⟨S4x2048x2816, .f32⟩
  | .hbm, ⟨73, _⟩ => ⟨S4x2048x2816, .f32⟩
  | .hbm, ⟨74, _⟩ => ⟨S_, .f32⟩
  | .hbm, ⟨75, _⟩ => ⟨S4x2048x2816, .f32⟩
  | .hbm, ⟨76, _⟩ => ⟨S4x2048x2816, .f32⟩
  | .hbm, ⟨77, _⟩ => ⟨S_, .f32⟩
  | .hbm, ⟨78, _⟩ => ⟨S4x2048x2816, .f32⟩
  | .hbm, ⟨79, _⟩ => ⟨S4x2048x2816, .f32⟩
  | .hbm, ⟨80, _⟩ => ⟨S4x2048x2816, .f32⟩
  | .hbm, ⟨81, _⟩ => ⟨S4x2048x2816, .f32⟩
  | .hbm, ⟨82, _⟩ => ⟨S4x2048x2816, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S4x2048x1024, .f32⟩
  | .hbm, ⟨88, _⟩ => ⟨S4x2048x1024, .f32⟩
  | .hbm, ⟨89, _⟩ => ⟨S4x2048x2816, .f32⟩
  | .hbm, ⟨90, _⟩ => ⟨S4x2048x2816, .f32⟩
  | .hbm, ⟨91, _⟩ => ⟨S4x2048x2816, .f32⟩
  | .hbm, ⟨92, _⟩ => ⟨S4x2048x2816, .f32⟩
  | .hbm, ⟨93, _⟩ => ⟨S4x2048x2816, .f32⟩
  | .hbm, ⟨94, _⟩ => ⟨S4x2048x2816, .f32⟩
  | .hbm, ⟨95, _⟩ => ⟨S4x2048x2816, .f32⟩
  | .hbm, ⟨96, _⟩ => ⟨S4x2048x2816, .f32⟩
  | .hbm, ⟨97, _⟩ => ⟨S4x2048x2816, .f32⟩
  | .hbm, ⟨98, _⟩ => ⟨S_, .f32⟩
  | .hbm, ⟨99, _⟩ => ⟨S4x2050x2816, .f32⟩
  | .hbm, ⟨100, _⟩ => ⟨S4x2048x2816, .f32⟩
  | .hbm, ⟨101, _⟩ => ⟨S4x2048x2816, .f32⟩
  | .hbm, ⟨102, _⟩ => ⟨S_, .f32⟩
  | .hbm, ⟨103, _⟩ => ⟨S4x2050x2816, .f32⟩
  | .hbm, ⟨104, _⟩ => ⟨S4x2050x2816, .f32⟩
  | .hbm, ⟨105, _⟩ => ⟨S4x2048x2816, .f32⟩
  | .hbm, ⟨106, _⟩ => ⟨S4x2048x2816, .f32⟩
  | .hbm, ⟨107, _⟩ => ⟨S_, .f32⟩
  | .hbm, ⟨108, _⟩ => ⟨S4x2050x2816, .f32⟩
  | .hbm, ⟨109, _⟩ => ⟨S4x2050x2816, .f32⟩
  | .hbm, ⟨110, _⟩ => ⟨S4x2x2816, .f32⟩
  | .hbm, ⟨111, _⟩ => ⟨S4x2048x2816, .f32⟩
  | .hbm, ⟨112, _⟩ => ⟨S4x2048x5632, .f32⟩
  | .hbm, ⟨113, _⟩ => ⟨S4x2048x5632, .bf16⟩
  | .hbm, ⟨114, _⟩ => ⟨S8192x5632, .bf16⟩
  | .hbm, ⟨115, _⟩ => ⟨S4x2048x1024, .bf16⟩
  | .hbm, ⟨116, _⟩ => ⟨S8192x1024, .bf16⟩
  | .hbm, ⟨117, _⟩ => ⟨S5632x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_v53_2 : Ref sig .tc := ⟨.hbm, 76, rfl⟩
abbrev main_call0_cst_1 : Ref sig .tc := ⟨.hbm, 77, rfl⟩
abbrev main_call0_v6 : Ref sig .tc := ⟨.hbm, 78, rfl⟩
abbrev main_call0_v7 : Ref sig .tc := ⟨.hbm, 79, rfl⟩
abbrev main_v53_1 : Ref sig .tc := ⟨.hbm, 80, rfl⟩
abbrev main_v53_0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_5 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_6 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_7 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4x2048x1024 : Shape := ⟨3, ![4, 2048, 1024]⟩
abbrev S4x1024 : Shape := ⟨2, ![4, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S2816 : Shape := ⟨1, ![2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S5632x1024 : Shape := ⟨2, ![5632, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1x1024, .f32⟩
  | .hbm, ⟨5, _⟩ => ⟨S1024x5632, .f32⟩
  | .hbm, ⟨6, _⟩ => ⟨S3x2816, .f32⟩
  | .hbm, ⟨7, _⟩ => ⟨S1x2816, .f32⟩
  | .hbm, ⟨8, _⟩ => ⟨S2816x1024, .f32⟩
  | .hbm, ⟨9, _⟩ => ⟨S4x2048x1024, .f32⟩
  | .hbm, ⟨10, _⟩ => ⟨S1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x5632, .f32⟩
  | .hbm, ⟨37, _⟩ => ⟨S4x2048x2816, .f32⟩
  | .hbm, ⟨38, _⟩ => ⟨S4x2048x2816, .f32⟩
  | .hbm, ⟨39, _⟩ => ⟨S2816, .f32⟩
  | .hbm, ⟨40, _⟩ => ⟨S_, .f32⟩
  | .hbm, ⟨41, _⟩ => ⟨S4x2x2816, .f32⟩
  | .hbm, ⟨42, _⟩ => ⟨S4x2050x2816, .f32⟩
  | .hbm, ⟨43, _⟩ => ⟨S_, .f32⟩
  | .hbm, ⟨44, _⟩ => ⟨S4x2x2816, .f32⟩
  | .hbm, ⟨45, _⟩ => ⟨S4x2048x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S1x2816, .f32⟩
  | .hbm, ⟨53, _⟩ => ⟨S2816, .f32⟩
  | .hbm, ⟨54, _⟩ => ⟨S1x1x2816, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S1x2816, .f32⟩
  | .hbm, ⟨60, _⟩ => ⟨S2816, .f32⟩
  | .hbm, ⟨61, _⟩ => ⟨S1x1x2816, .f32⟩
  | .hbm, ⟨62, _⟩ => ⟨S4x2048x2816, .f32⟩
  | .hbm, ⟨63, _⟩ => ⟨S4x2048x2816, .f32⟩
  | .hbm, ⟨64, _⟩ => ⟨S4x2048x2816, .f32⟩
  | .hbm, ⟨65, _⟩ => ⟨S1x1x2816, .f32⟩
  | .hbm, ⟨66, _⟩ => ⟨S4x2048x2816, .f32⟩
  | .hbm, ⟨67, _⟩ => ⟨S4x2048x2816, .f32⟩
  | .hbm, ⟨68, _⟩ => ⟨S4x1x1024, .f32⟩
  | .hbm, ⟨69, _⟩ => ⟨S4x2048x2816, .f32⟩
  | .hbm, ⟨70, _⟩ => ⟨S4x2048x2816, .f32⟩
  | .hbm, ⟨71, _⟩ => ⟨S_, .f32⟩
  | .hbm, ⟨72, _⟩ => ⟨S4x2048x2816, .f32⟩
  | .hbm, ⟨73, _⟩ => ⟨S4x2048x2816, .f32⟩
  | .hbm, ⟨74, _⟩ => ⟨S_, .f32⟩
  | .hbm, ⟨75, _⟩ => ⟨S4x2048x2816, .f32⟩
  | .hbm, ⟨76, _⟩ => ⟨S4x2048x2816, .f32⟩
  | .hbm, ⟨77, _⟩ => ⟨S_, .f32⟩
  | .hbm, ⟨78, _⟩ => ⟨S4x2048x2816, .f32⟩
  | .hbm, ⟨79, _⟩ => ⟨S4x2048x2816, .f32⟩
  | .hbm, ⟨80, _⟩ => ⟨S4x2048x2816, .f32⟩
  | .hbm, ⟨81, _⟩ => ⟨S4x2048x2816, .f32⟩
  | .hbm, ⟨82, _⟩ => ⟨S4x2048x2816, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S4x2048x1024, .f32⟩
  | .hbm, ⟨88, _⟩ => ⟨S4x2048x1024, .f32⟩
  | .hbm, ⟨89, _⟩ => ⟨S4x2048x2816, .f32⟩
  | .hbm, ⟨90, _⟩ => ⟨S4x2048x2816, .f32⟩
  | .hbm, ⟨91, _⟩ => ⟨S4x2048x2816, .f32⟩
  | .hbm, ⟨92, _⟩ => ⟨S4x2048x2816, .f32⟩
  | .hbm, ⟨93, _⟩ => ⟨S4x2048x2816, .f32⟩
  | .hbm, ⟨94, _⟩ => ⟨S4x2048x2816, .f32⟩
  | .hbm, ⟨95, _⟩ => ⟨S4x2048x2816, .f32⟩
  | .hbm, ⟨96, _⟩ => ⟨S4x2048x2816, .f32⟩
  | .hbm, ⟨97, _⟩ => ⟨S4x2048x2816, .f32⟩
  | .hbm, ⟨98, _⟩ => ⟨S_, .f32⟩
  | .hbm, ⟨99, _⟩ => ⟨S4x2050x2816, .f32⟩
  | .hbm, ⟨100, _⟩ => ⟨S4x2048x2816, .f32⟩
  | .hbm, ⟨101, _⟩ => ⟨S4x2048x2816, .f32⟩
  | .hbm, ⟨102, _⟩ => ⟨S_, .f32⟩
  | .hbm, ⟨103, _⟩ => ⟨S4x2050x2816, .f32⟩
  | .hbm, ⟨104, _⟩ => ⟨S4x2050x2816, .f32⟩
  | .hbm, ⟨105, _⟩ => ⟨S4x2048x2816, .f32⟩
  | .hbm, ⟨106, _⟩ => ⟨S4x2048x2816, .f32⟩
  | .hbm, ⟨107, _⟩ => ⟨S_, .f32⟩
  | .hbm, ⟨108, _⟩ => ⟨S4x2050x2816, .f32⟩
  | .hbm, ⟨109, _⟩ => ⟨S4x2050x2816, .f32⟩
  | .hbm, ⟨110, _⟩ => ⟨S4x2x2816, .f32⟩
  | .hbm, ⟨111, _⟩ => ⟨S4x2048x2816, .f32⟩
  | .hbm, ⟨112, _⟩ => ⟨S4x2048x5632, .f32⟩
  | .hbm, ⟨113, _⟩ => ⟨S5632x1024, .f32⟩
  | .hbm, ⟨114, _⟩ => ⟨S1024x5632, .f32⟩
  | .hbm, ⟨115, _⟩ => ⟨S5632x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_v53_2 : Ref sig .tc := ⟨.hbm, 76, rfl⟩
abbrev main_call0_cst_1 : Ref sig .tc := ⟨.hbm, 77, rfl⟩
abbrev main_call0_v6 : Ref sig .tc := ⟨.hbm, 78, rfl⟩
abbrev main_call0_v7 : Ref sig .tc := ⟨.hbm, 79, rfl⟩
abbrev main_v53_1 : Ref sig .tc := ⟨.hbm, 80, rfl⟩
abbrev main_v53_0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_5 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_6 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_7 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩

abbrev nD : Nat := 1
abbrev τ : Topo := Topo.v7x

variable {F : FTy → Type} [FloatOps F]
-- ==== Kernel3.lean ====
abbrev S4x2048x1024 : Shape := ⟨3, ![4, 2048, 1024]⟩
abbrev S4x1024 : Shape := ⟨2, ![4, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S2816 : Shape := ⟨1, ![2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S8192x2816 : Shape := ⟨2, ![8192, 2816]⟩
abbrev S8192x1024 : Shape := ⟨2, ![8192, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 84
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1x1024, .f32⟩
  | .hbm, ⟨5, _⟩ => ⟨S1024x5632, .f32⟩
  | .hbm, ⟨6, _⟩ => ⟨S3x2816, .f32⟩
  | .hbm, ⟨7, _⟩ => ⟨S1x2816, .f32⟩
  | .hbm, ⟨8, _⟩ => ⟨S2816x1024, .f32⟩
  | .hbm, ⟨9, _⟩ => ⟨S4x2048x1024, .f32⟩
  | .hbm, ⟨10, _⟩ => ⟨S1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x5632, .f32⟩
  | .hbm, ⟨37, _⟩ => ⟨S4x2048x2816, .f32⟩
  | .hbm, ⟨38, _⟩ => ⟨S4x2048x2816, .f32⟩
  | .hbm, ⟨39, _⟩ => ⟨S2816, .f32⟩
  | .hbm, ⟨40, _⟩ => ⟨S_, .f32⟩
  | .hbm, ⟨41, _⟩ => ⟨S4x2x2816, .f32⟩
  | .hbm, ⟨42, _⟩ => ⟨S4x2050x2816, .f32⟩
  | .hbm, ⟨43, _⟩ => ⟨S4x2048x2816, .f32⟩
  | .hbm, ⟨44, _⟩ => ⟨S1x2816, .f32⟩
  | .hbm, ⟨45, _⟩ => ⟨S2816, .f32⟩
  | .hbm, ⟨46, _⟩ => ⟨S1x1x2816, .f32⟩
  | .hbm, ⟨47, _⟩ => ⟨S4x2048x2816, .f32⟩
  | .hbm, ⟨48, _⟩ => ⟨S4x2048x2816, .f32⟩
  | .hbm, ⟨49, _⟩ => ⟨S4x2048x2816, .f32⟩
  | .hbm, ⟨50, _⟩ => ⟨S1x2816, .f32⟩
  | .hbm, ⟨51, _⟩ => ⟨S2816, .f32⟩
  | .hbm, ⟨52, _⟩ => ⟨S1x1x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S1x2816, .f32⟩
  | .hbm, ⟨58, _⟩ => ⟨S2816, .f32⟩
  | .hbm, ⟨59, _⟩ => ⟨S1x1x2816, .f32⟩
  | .hbm, ⟨60, _⟩ => ⟨S4x2048x2816, .f32⟩
  | .hbm, ⟨61, _⟩ => ⟨S4x2048x2816, .f32⟩
  | .hbm, ⟨62, _⟩ => ⟨S4x2048x2816, .f32⟩
  | .hbm, ⟨63, _⟩ => ⟨S1x1x2816, .f32⟩
  | .hbm, ⟨64, _⟩ => ⟨S4x2048x2816, .f32⟩
  | .hbm, ⟨65, _⟩ => ⟨S4x2048x2816, .f32⟩
  | .hbm, ⟨66, _⟩ => ⟨S4x2048x2816, .f32⟩
  | .hbm, ⟨67, _⟩ => ⟨S4x2048x2816, .f32⟩
  | .hbm, ⟨68, _⟩ => ⟨S_, .f32⟩
  | .hbm, ⟨69, _⟩ => ⟨S4x2048x2816, .f32⟩
  | .hbm, ⟨70, _⟩ => ⟨S4x2048x2816, .f32⟩
  | .hbm, ⟨71, _⟩ => ⟨S_, .f32⟩
  | .hbm, ⟨72, _⟩ => ⟨S4x2048x2816, .f32⟩
  | .hbm, ⟨73, _⟩ => ⟨S4x2048x2816, .f32⟩
  | .hbm, ⟨74, _⟩ => ⟨S4x2048x2816, .f32⟩
  | .hbm, ⟨75, _⟩ => ⟨S4x2048x2816, .f32⟩
  | .hbm, ⟨76, _⟩ => ⟨S4x2048x2816, .bf16⟩
  | .hbm, ⟨77, _⟩ => ⟨S4x1x1024, .f32⟩
  | .hbm, ⟨78, _⟩ => ⟨S4x2048x1024, .f32⟩
  | .hbm, ⟨79, _⟩ => ⟨S4x2048x1024, .f32⟩
  | .hbm, ⟨80, _⟩ => ⟨S4x2048x1024, .bf16⟩
  | .hbm, ⟨81, _⟩ => ⟨S8192x2816, .bf16⟩
  | .hbm, ⟨82, _⟩ => ⟨S8192x1024, .bf16⟩
  | .hbm, ⟨83, _⟩ => ⟨S2816x1024, .f32⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .f32⟩
  | .local _ .vmem, ⟨5, _⟩ => ⟨S2816x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x2048x1024 : Shape := ⟨3, ![4, 2048, 1024]⟩
abbrev S4x1024 : Shape := ⟨2, ![4, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S2816 : Shape := ⟨1, ![2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S1024x2816 : Shape := ⟨2, ![1024, 2816]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1x1024, .f32⟩
  | .hbm, ⟨5, _⟩ => ⟨S1024x5632, .f32⟩
  | .hbm, ⟨6, _⟩ => ⟨S3x2816, .f32⟩
  | .hbm, ⟨7, _⟩ => ⟨S1x2816, .f32⟩
  | .hbm, ⟨8, _⟩ => ⟨S2816x1024, .f32⟩
  | .hbm, ⟨9, _⟩ => ⟨S4x2048x1024, .f32⟩
  | .hbm, ⟨10, _⟩ => ⟨S1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x5632, .f32⟩
  | .hbm, ⟨37, _⟩ => ⟨S4x2048x2816, .f32⟩
  | .hbm, ⟨38, _⟩ => ⟨S4x2048x2816, .f32⟩
  | .hbm, ⟨39, _⟩ => ⟨S2816, .f32⟩
  | .hbm, ⟨40, _⟩ => ⟨S_, .f32⟩
  | .hbm, ⟨41, _⟩ => ⟨S4x2x2816, .f32⟩
  | .hbm, ⟨42, _⟩ => ⟨S4x2050x2816, .f32⟩
  | .hbm, ⟨43, _⟩ => ⟨S4x2048x2816, .f32⟩
  | .hbm, ⟨44, _⟩ => ⟨S1x2816, .f32⟩
  | .hbm, ⟨45, _⟩ => ⟨S2816, .f32⟩
  | .hbm, ⟨46, _⟩ => ⟨S1x1x2816, .f32⟩
  | .hbm, ⟨47, _⟩ => ⟨S4x2048x2816, .f32⟩
  | .hbm, ⟨48, _⟩ => ⟨S4x2048x2816, .f32⟩
  | .hbm, ⟨49, _⟩ => ⟨S4x2048x2816, .f32⟩
  | .hbm, ⟨50, _⟩ => ⟨S1x2816, .f32⟩
  | .hbm, ⟨51, _⟩ => ⟨S2816, .f32⟩
  | .hbm, ⟨52, _⟩ => ⟨S1x1x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S1x2816, .f32⟩
  | .hbm, ⟨58, _⟩ => ⟨S2816, .f32⟩
  | .hbm, ⟨59, _⟩ => ⟨S1x1x2816, .f32⟩
  | .hbm, ⟨60, _⟩ => ⟨S4x2048x2816, .f32⟩
  | .hbm, ⟨61, _⟩ => ⟨S4x2048x2816, .f32⟩
  | .hbm, ⟨62, _⟩ => ⟨S4x2048x2816, .f32⟩
  | .hbm, ⟨63, _⟩ => ⟨S1x1x2816, .f32⟩
  | .hbm, ⟨64, _⟩ => ⟨S4x2048x2816, .f32⟩
  | .hbm, ⟨65, _⟩ => ⟨S4x2048x2816, .f32⟩
  | .hbm, ⟨66, _⟩ => ⟨S4x1x1024, .f32⟩
  | .hbm, ⟨67, _⟩ => ⟨S4x2048x2816, .f32⟩
  | .hbm, ⟨68, _⟩ => ⟨S4x2048x2816, .f32⟩
  | .hbm, ⟨69, _⟩ => ⟨S_, .f32⟩
  | .hbm, ⟨70, _⟩ => ⟨S4x2048x2816, .f32⟩
  | .hbm, ⟨71, _⟩ => ⟨S4x2048x2816, .f32⟩
  | .hbm, ⟨72, _⟩ => ⟨S_, .f32⟩
  | .hbm, ⟨73, _⟩ => ⟨S4x2048x2816, .f32⟩
  | .hbm, ⟨74, _⟩ => ⟨S4x2048x2816, .f32⟩
  | .hbm, ⟨75, _⟩ => ⟨S4x2048x2816, .f32⟩
  | .hbm, ⟨76, _⟩ => ⟨S4x2048x2816, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | .hbm, ⟨83, _⟩ => ⟨S1024x2816, .f32⟩
  | .hbm, ⟨84, _⟩ => ⟨S2816x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel4.lean ====
abbrev S4x2048x1024 : Shape := ⟨3, ![4, 2048, 1024]⟩
abbrev S4x1024 : Shape := ⟨2, ![4, 1024]⟩
abbrev S1x1024 : Shape := ⟨2, ![1, 1024]⟩
abbrev S1024x1024 : Shape := ⟨2, ![1024, 1024]⟩
abbrev S4x2048x512 : Shape := ⟨3, ![4, 2048, 512]⟩
abbrev S2048x4x512 : Shape := ⟨3, ![2048, 4, 512]⟩
abbrev S2048x2048 : Shape := ⟨2, ![2048, 2048]⟩
abbrev S4x1x1024 : Shape := ⟨3, ![4, 1, 1024]⟩
abbrev S1024x512 : Shape := ⟨2, ![1024, 512]⟩
abbrev S1x1024x512 : Shape := ⟨3, ![1, 1024, 512]⟩
abbrev S1x1024x1024 : Shape := ⟨3, ![1, 1024, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 19
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1024x1024, .f32⟩
  | .hbm, ⟨5, _⟩ => ⟨S4x2048x512, .f32⟩
  | .hbm, ⟨6, _⟩ => ⟨S4x2048x512, .f32⟩
  | .hbm, ⟨7, _⟩ => ⟨S4x2048x1024, .f32⟩
  | .hbm, ⟨8, _⟩ => ⟨S2048x4x512, .f32⟩
  | .hbm, ⟨9, _⟩ => ⟨S2048x2048, .f32⟩
  | .hbm, ⟨10, _⟩ => ⟨S2048x2048, .bf16⟩
  | .hbm, ⟨11, _⟩ => ⟨S4x1x1024, .f32⟩
  | .hbm, ⟨12, _⟩ => ⟨S4x1x1024, .f32⟩
  | .hbm, ⟨13, _⟩ => ⟨S1024x1024, .bf16⟩
  | .hbm, ⟨14, _⟩ => ⟨S4x2048x1024, .f32⟩
  | .hbm, ⟨15, _⟩ => ⟨S1024x1024, .f32⟩
  | .hbm, ⟨16, _⟩ => ⟨S4x1x1024, .f32⟩
  | .hbm, ⟨17, _⟩ => ⟨S4x1x1024, .f32⟩
  | .hbm, ⟨18, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference4Ideal.lean ====
abbrev S4x2048x1024 : Shape := ⟨3, ![4, 2048, 1024]⟩
abbrev S4x1024 : Shape := ⟨2, ![4, 1024]⟩
abbrev S1x1024 : Shape := ⟨2, ![1, 1024]⟩
abbrev S1024x1024 : Shape := ⟨2, ![1024, 1024]⟩
abbrev S4x2048x512 : Shape := ⟨3, ![4, 2048, 512]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1024x1024, .f32⟩
  | .hbm, ⟨5, _⟩ => ⟨S4x2048x512, .f32⟩
  | .hbm, ⟨6, _⟩ => ⟨S4x2048x512, .f32⟩
  | .hbm, ⟨7, _⟩ => ⟨S4x2048x1024, .f32⟩
  | .hbm, ⟨8, _⟩ => ⟨S1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x1x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S1024x1024, .f32⟩
  | .hbm, ⟨41, _⟩ => ⟨S1024x1024, .f32⟩
  | .hbm, ⟨42, _⟩ => ⟨S4x2048x1024, .f32⟩
  | .hbm, ⟨43, _⟩ => ⟨S_, .f32⟩
  | .hbm, ⟨44, _⟩ => ⟨S4x1024, .f32⟩
  | .hbm, ⟨45, _⟩ => ⟨S4x1x1024, .f32⟩
  | .hbm, ⟨46, _⟩ => ⟨S_, .f32⟩
  | .hbm, ⟨47, _⟩ => ⟨S4x1024, .f32⟩
  | .hbm, ⟨48, _⟩ => ⟨S4x2048x1024, .f32⟩
  | .hbm, ⟨49, _⟩ => ⟨S_, .f32⟩
  | .hbm, ⟨50, _⟩ => ⟨S4x1024, .f32⟩
  | .hbm, ⟨51, _⟩ => ⟨S4x1x1024, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S4x1024, .f32⟩
  | .hbm, ⟨56, _⟩ => ⟨S4x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S1024, .f32⟩
  | .hbm, ⟨64, _⟩ => ⟨S4x2048x1024, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S4x2048x1024, .f32⟩
  | .hbm, ⟨69, _⟩ => ⟨S4x2048x1024, .f32⟩
  | .hbm, ⟨70, _⟩ => ⟨S4x2048x1, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S_, .f32⟩
  | .hbm, ⟨75, _⟩ => ⟨S4x2048, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S1x1024, .f32⟩
  | .hbm, ⟨82, _⟩ => ⟨S4x2048x1024, .f32⟩
  | .hbm, ⟨83, _⟩ => ⟨S4x1x1024, .f32⟩
  | .hbm, ⟨84, _⟩ => ⟨S4x1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x1024 : Shape := ⟨2, ![4, 1024]⟩
abbrev S1x1024 : Shape := ⟨2, ![1, 1024]⟩
abbrev S1024x1024 : Shape := ⟨2, ![1024, 1024]⟩
abbrev S4x1x1024 : Shape := ⟨3, ![4, 1, 1024]⟩
abbrev S2048x2048 : Shape := ⟨2, ![2048, 2048]⟩
abbrev S4x2048x512 : Shape := ⟨3, ![4, 2048, 512]⟩
abbrev S1x1024x1024 : Shape := ⟨3, ![1, 1024, 1024]⟩
abbrev S1x1x1024 : Shape := ⟨3, ![1, 1, 1024]⟩
abbrev S1024x512 : Shape := ⟨2, ![1024, 512]⟩
abbrev S1x1024x512 : Shape := ⟨3, ![1, 1024, 512]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1024x1024, .f32⟩
  | .hbm, ⟨5, _⟩ => ⟨S4x1x1024, .f32⟩
  | .hbm, ⟨6, _⟩ => ⟨S4x1x1024, .f32⟩
  | .hbm, ⟨7, _⟩ => ⟨S1024x1024, .bf16⟩
  | .hbm, ⟨8, _⟩ => ⟨S2048x2048, .bf16⟩
  | .hbm, ⟨9, _⟩ => ⟨S4x2048x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1x1024x512, .f32⟩
  | .local _ .vmem, ⟨11, _⟩ => ⟨S1x1024x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S4x2048x1024 : Shape := ⟨3, ![4, 2048, 1024]⟩
abbrev S4x1024 : Shape := ⟨2, ![4, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x512 : Shape := ⟨3, ![4, 2048, 512]⟩
abbrev S2048x4x512 : Shape := ⟨3, ![2048, 4, 512]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1024x1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x2048x1024, .f32⟩
  | .hbm, ⟨27, _⟩ => ⟨S4x2048x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x512, .f32⟩
  | .hbm, ⟨33, _⟩ => ⟨S4x2048x512, .f32⟩
  | .hbm, ⟨34, _⟩ => ⟨S2048x4x512, .f32⟩
  | .hbm, ⟨35, _⟩ => ⟨S2048x2048, .f32⟩
  | .hbm, ⟨36, _⟩ => ⟨S2048x2048, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel6.lean ====
abbrev S704x1024 : Shape := ⟨2, ![704, 1024]⟩
abbrev S3x704x1024 : Shape := ⟨3, ![3, 704, 1024]⟩
abbrev S64x1024 : Shape := ⟨2, ![64, 1024]⟩
abbrev S3x64x1024 : Shape := ⟨3, ![3, 64, 1024]⟩
abbrev S1x64x1024 : Shape := ⟨3, ![1, 64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S3x64x1024, .bf16⟩
  | .local _ .vmem, ⟨3, _⟩ => ⟨S3x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S704x1024 : Shape := ⟨2, ![704, 1024]⟩
abbrev S3x704x1024 : Shape := ⟨3, ![3, 704, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S3x704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel7.lean ====
abbrev S352x1024 : Shape := ⟨2, ![352, 1024]⟩
abbrev S3x352x1024 : Shape := ⟨3, ![3, 352, 1024]⟩
abbrev S32x1024 : Shape := ⟨2, ![32, 1024]⟩
abbrev S3x32x1024 : Shape := ⟨3, ![3, 32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S3x32x1024, .bf16⟩
  | .local _ .vmem, ⟨3, _⟩ => ⟨S3x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S352x1024 : Shape := ⟨2, ![352, 1024]⟩
abbrev S3x352x1024 : Shape := ⟨3, ![3, 352, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S3x352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel8.lean ====
abbrev S512x128 : Shape := ⟨2, ![512, 128]⟩
abbrev S3x512x128 : Shape := ⟨3, ![3, 512, 128]⟩
abbrev S128x128 : Shape := ⟨2, ![128, 128]⟩
abbrev S3x128x128 : Shape := ⟨3, ![3, 128, 128]⟩
abbrev S1x128x128 : Shape := ⟨3, ![1, 128, 128]⟩

abbrev nBuf : Space → Nat
  | .hbm => 9
  | .vmem => 18
  | .smem => 0
  | _ => 0

abbrev bufTy : (tb : Table) → Fin (tcTables nBuf tb) → BufTy
  | .hbm, ⟨0, _⟩ => ⟨S512x128, .f32⟩
  | .hbm, ⟨1, _⟩ => ⟨S3x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .local _ .vmem, ⟨0, _⟩ => ⟨S128x128, .f32⟩
  | .local _ .vmem, ⟨1, _⟩ => ⟨S128x128, .f32⟩
  | .local _ .vmem, ⟨2, _⟩ => ⟨S3x128x128, .bf16⟩
  | .local _ .vmem, ⟨3, _⟩ => ⟨S3x128x128, .bf16⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S512x128 : Shape := ⟨2, ![512, 128]⟩
abbrev S3x512x128 : Shape := ⟨3, ![3, 512, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S3x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S3x512x128, .f32⟩
  | .hbm, ⟨6, _⟩ => ⟨S_, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S_, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | .hbm, ⟨38, _⟩ => ⟨S512x128, .f32⟩
  | .hbm, ⟨39, _⟩ => ⟨S_, .f32⟩
  | .hbm, ⟨40, _⟩ => ⟨S512x128, .f32⟩
  | .hbm, ⟨41, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel9.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference9Ideal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S3x128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.Spec.lean ====
/-
  The gradient of the channel mixer as plain sums over extended reals: what the kernel's seven result arrays hold, in
  terms of the arrays the kernel reads, with every block, scratch and running sum gone. Nothing here mentions a program.
-/
module

public import Idealize.ShloMosaic.Lib.Pointwise

@[expose] public section

noncomputable section

namespace Cert.FfnSpec

open Idealize.ShloMosaic

/-- The twelve arrays the kernel reads, as functions of plain coordinates (the shift row it reads and does not use left
    out): the gated cotangent `ddn`, the gate's input `g` before and `gc` after the convolution, the value half `v`,
    the residual stream `x`, the skip cotangent `dx2`, the scale `sc`, the norm's gain `gf`, the convolution's taps
    `wc`, and the two weight matrices (`wu` transposed). -/
structure Ins where
  ddn : Fin 4 → Fin 2048 → Fin 1024 → EReal
  g : Fin 4 → Fin 2048 → Fin 2816 → EReal
  gc : Fin 4 → Fin 2048 → Fin 2816 → EReal
  v : Fin 4 → Fin 2048 → Fin 2816 → EReal
  x : Fin 4 → Fin 2048 → Fin 1024 → EReal
  dx2 : Fin 4 → Fin 2048 → Fin 1024 → EReal
  sc : Fin 4 → Fin 1024 → EReal
  gf : Fin 1024 → EReal
  wc : Fin 3 → Fin 2816 → EReal
  wd : Fin 2816 → Fin 1024 → EReal
  wu : Fin 5632 → Fin 1024 → EReal

/-- The lower and the upper half of the up projection's columns. -/
def lo (c : Fin 2816) : Fin 5632 := ⟨c.val, by omega⟩
def hi (c : Fin 2816) : Fin 5632 := ⟨2816 + c.val, by omega⟩

/-- The derivative of `y · σ(y)`, as the kernel writes it. -/
def dsilu (y : EReal) : EReal := Ideal.logistic y + y * Ideal.logistic y * (1 - Ideal.logistic y)

/-- The reciprocal root mean square of a row of 1024 numbers. -/
def rmsr (row : Fin 1024 → EReal) : EReal :=
  Ideal.rsqrt (Ideal.div (∑ d, row d * row d) (Ideal.ofBits FTy.f32 0x44800000#32) + Ideal.ofBits FTy.f32 0x358637BD#32)

/-- The gradient of the norm at one element of a row: `r · (a_d − h_d · mean(a · h))`. -/
def rmsBwd (r : EReal) (a h : Fin 1024 → EReal) (d : Fin 1024) : EReal :=
  r * (a d - h d * Ideal.div (∑ k, a k * h k) (Ideal.ofBits FTy.f32 0x44800000#32))

variable (I : Ins)

def dact (b : Fin 4) (t : Fin 2048) (c : Fin 2816) : EReal := ∑ k, I.ddn b t k * I.wd c k
def dv (b : Fin 4) (t : Fin 2048) (c : Fin 2816) : EReal := dact I b t c * (I.gc b t c * Ideal.logistic (I.gc b t c))
def dgc (b : Fin 4) (t : Fin 2048) (c : Fin 2816) : EReal := dact I b t c * I.v b t c * dsilu (I.gc b t c)
/-- The gradient at the convolution's output `n` rows later, zero past the end of the sequence. -/
def dgcAt (b : Fin 4) (n : ℕ) (c : Fin 2816) : EReal := if h : n < 2048 then dgc I b ⟨n, h⟩ c else 0
def dg (b : Fin 4) (t : Fin 2048) (c : Fin 2816) : EReal :=
  I.wc 2 c * dgc I b t c + I.wc 1 c * dgcAt I b (t.val + 1) c + I.wc 0 c * dgcAt I b (t.val + 2) c
def dh (b : Fin 4) (t : Fin 2048) (d : Fin 1024) : EReal :=
  (∑ c, dv I b t c * I.wu (lo c) d) + ∑ c, dg I b t c * I.wu (hi c) d
def rstd (b : Fin 4) (t : Fin 2048) : EReal := rmsr (I.x b t)
def xhat (b : Fin 4) (t : Fin 2048) (d : Fin 1024) : EReal := I.x b t d * rstd I b t
def tt (b : Fin 4) (t : Fin 2048) (d : Fin 1024) : EReal := dh I b t d * (1 + I.sc b d)
def dx1 (b : Fin 4) (t : Fin 2048) (d : Fin 1024) : EReal :=
  I.dx2 b t d + rmsBwd (rstd I b t) (fun k => tt I b t k * I.gf k) (xhat I b t) d
/-- What the kernel's first result holds: the value half, then the gate half. -/
def dup (b : Fin 4) (t : Fin 2048) (n : Fin 5632) : EReal :=
  if h : n.val < 2816 then dv I b t ⟨n.val, h⟩ else dg I b t ⟨n.val - 2816, by omega⟩
def dsh (b : Fin 4) (d : Fin 1024) : EReal := ∑ t, dh I b t d
def dsc (b : Fin 4) (d : Fin 1024) : EReal := ∑ t, dh I b t d * xhat I b t d * I.gf d
def dgf (d : Fin 1024) : EReal := ∑ b, ∑ t, tt I b t d * xhat I b t d
/-- Row `2 − k` of the taps' gradient: the gradient `k` rows later against the gate's input. -/
def dtap (k : ℕ) (c : Fin 2816) : EReal := ∑ b, ∑ t : Fin 2048, dgcAt I b (t.val + k) c * I.g b t c
def dwc (k : Fin 3) (c : Fin 2816) : EReal := dtap I (2 - k.val) c
def dbc (c : Fin 2816) : EReal := ∑ b, ∑ t, dgc I b t c

theorem dgcAt_val (b : Fin 4) (t : Fin 2048) (c : Fin 2816) : dgcAt I b t.val c = dgc I b t c := by
  unfold dgcAt; rw [dif_pos t.isLt]

end Cert.FfnSpec
-- ==== Proof.MixSpec.lean ====
/-
  The gradient of the mixer's input projection as plain sums over extended reals: what the kernel's five result arrays
  hold, in terms of its arguments. Nothing here mentions a program.
-/
module

public import proofs.«01_k».proof.Proof.Spec

@[expose] public section

noncomputable section

namespace Cert.MixSpec

open Idealize.ShloMosaic
open Cert.FfnSpec (rmsr rmsBwd)

/-- The arguments as functions of plain coordinates: the gradients `du` and `dp` at the projection's two halves, the
    input `x`, the skip cotangent `dx1`, the shift, the scale, the norm's gain `g` and the projection `w`. -/
structure Ins where
  du : Fin 4 → Fin 2048 → Fin 512 → EReal
  dp : Fin 4 → Fin 2048 → Fin 512 → EReal
  x : Fin 4 → Fin 2048 → Fin 1024 → EReal
  dx1 : Fin 4 → Fin 2048 → Fin 1024 → EReal
  sh : Fin 4 → Fin 1024 → EReal
  sc : Fin 4 → Fin 1024 → EReal
  g : Fin 1024 → EReal
  w : Fin 1024 → Fin 1024 → EReal

variable (I : Ins)

/-- The cotangent of the projection's output: the two halves side by side. -/
def dz (b : Fin 4) (t : Fin 2048) (j : Fin 1024) : EReal :=
  if h : j.val < 512 then I.du b t ⟨j.val, h⟩ else I.dp b t ⟨j.val - 512, by omega⟩
def dh (b : Fin 4) (t : Fin 2048) (k : Fin 1024) : EReal := ∑ j, dz I b t j * I.w k j
def rstd (b : Fin 4) (t : Fin 2048) : EReal := rmsr (I.x b t)
def xhat (b : Fin 4) (t : Fin 2048) (k : Fin 1024) : EReal := I.x b t k * rstd I b t
def act (b : Fin 4) (t : Fin 2048) (k : Fin 1024) : EReal := xhat I b t k * I.g k
/-- The projection's input. -/
def hin (b : Fin 4) (t : Fin 2048) (k : Fin 1024) : EReal := act I b t k * (1 + I.sc b k) + I.sh b k
def tt (b : Fin 4) (t : Fin 2048) (k : Fin 1024) : EReal := dh I b t k * (1 + I.sc b k)
def dx (b : Fin 4) (t : Fin 2048) (k : Fin 1024) : EReal :=
  I.dx1 b t k + rmsBwd (rstd I b t) (fun i => tt I b t i * I.g i) (xhat I b t) k
def dw (k j : Fin 1024) : EReal := ∑ b, ∑ t, hin I b t k * dz I b t j
def dsh (b : Fin 4) (k : Fin 1024) : EReal := ∑ t, dh I b t k
def dsc (b : Fin 4) (k : Fin 1024) : EReal := ∑ t, dh I b t k * act I b t k
def dg (k : Fin 1024) : EReal := ∑ b, ∑ t, tt I b t k * xhat I b t k

end Cert.MixSpec
-- ==== Proof.MixFwd.lean ====
/-
  The forward call of the mixer's input projection: the norm, the modulation by shift and scale, and the product with the
  projection, cut into two halves. Grid point `t` works on batch element `t / 2` and on the rows from `1024 · (t mod 2)`;
  the blocks it writes hold the reference's values.
-/
module

public import proofs.«01_k».proof.Proof.MixSpec
public import proofs.«01_k».proof.Proof.Gen.Kernel5Ideal.Value
public import proofs.«01_k».proof.Proof.Gen.Reference5Ideal.Read
public import Idealize.ShloMosaic.Lib.Pipeline.ValueKit.Geometry
public import Idealize.ShloMosaic.Lib.Pipeline.ValueKit.Tiles
public import Idealize.ShloMosaic.Lib.Pipeline.ValueKit.Acc

@[expose] public section

set_option maxRecDepth 16384

noncomputable section

namespace Cert.Kernel5Ideal.MixFwd

open Cert.Kernel5Ideal Cert.Kernel5Ideal.Gen Idealize.ShloMosaic Idealize.ShloMosaic.TcCoe Idealize.ShloMosaic.StableHlo
open Cert.FfnSpec (rmsr)
open Cert.MixSpec Cert.Reference5Ideal.Read
open Idealize.ShloMosaic.Pipeline (Dat Window)

/-- Entry `j` of the projection's output. -/
def proj (I : Ins) (b : Fin 4) (t : Fin 2048) (j : Fin 1024) : EReal := ∑ k, hin I b t k * I.w k j

/-- Column `j` of the projection's first half, and of its second. -/
def lo (j : Fin 512) : Fin 1024 := ⟨j.val, by omega⟩
def hi (j : Fin 512) : Fin 1024 := ⟨512 + j.val, by omega⟩

/-- Column `j` of batch element `b` in the array that holds the batch elements side by side. -/
def col (b : Fin 4) (j : Fin 512) : Fin 2048 := ⟨512 * b.val + j.val, by omega⟩

/-! ## The reference -/

section Reference

variable (x0 : (⟨S4x2048x1024, .f32⟩ : BufTy).Contents (Elt Ideal)) (x1 x2 : (⟨S4x1024, .f32⟩ : BufTy).Contents (Elt Ideal))
  (x3 : (⟨S1x1024, .f32⟩ : BufTy).Contents (Elt Ideal)) (x4 : (⟨S1024x1024, .f32⟩ : BufTy).Contents (Elt Ideal))

/-- The arguments, read at plain coordinates; the forward call has no cotangents. -/
def ins : Ins where
  du _ _ _ := 0
  dp _ _ _ := 0
  x b t k := x0 (ix3 b t k)
  dx1 _ _ _ := 0
  sh b k := x1 (ix2 b k)
  sc b k := x2 (ix2 b k)
  g k := x3 (ix2 0 k)
  w k j := x4 (ix2 k j)

theorem r8 (b : Fin 4) (t : Fin 2048) : val_main_v8 (F := Ideal) x0 (ix3 b t 0) = rstd (ins x0 x1 x2 x3 x4) b t := by
  unfold rstd rmsr ins
  pointwise [val_main_v8, val_main_v7, val_main_v6, val_main_v5, val_main_v4, val_main_v3, val_main_v2, val_main_v1, val_main_cst, val_main_cst_0, val_main_cst_1]
  done

theorem r21 (b : Fin 4) (t : Fin 2048) (k : Fin 1024) :
    val_main_v21 (F := Ideal) x0 x1 x2 x3 (ix3 b t k) = hin (ins x0 x1 x2 x3 x4) b t k := by
  unfold hin act xhat
  rw [← r8]
  pointwise [val_main_v21, val_main_v20, val_main_v19, val_main_v18, val_main_v17, val_main_v16, val_main_v15, val_main_cst_2,
    val_main_v14, val_main_v13, val_main_v12, val_main_v11, val_main_v10, val_main_v9, val_main_v0]
  rfl

theorem r22 (b : Fin 4) (t : Fin 2048) (j : Fin 1024) :
    val_main_v22 (F := Ideal) x0 x1 x2 x3 x4 (ix3 b t j) = proj (ins x0 x1 x2 x3 x4) b t j := by
  unfold proj
  pointwise [val_main_v22]
  refine Finset.sum_congr rfl fun k _ => ?_
  rw [r21 x0 x1 x2 x3 x4]
  rfl

theorem r24 (b : Fin 4) (t : Fin 2048) (j : Fin 512) :
    val_main_v24 (F := Ideal) x0 x1 x2 x3 x4 (ix3 b t j) = proj (ins x0 x1 x2 x3 x4) b t (hi j) := by
  rw [← r22]
  pointwise [val_main_v24]
  refine congrArg (val_main_v22 (F := Ideal) x0 x1 x2 x3 x4) ?_
  unfold hi
  refine funext fun a => Fin.ext ?_
  fin_cases a
  · rfl
  · rfl
  · show _ = 512 + j.val
    first | rfl | exact Nat.add_comm _ _

theorem r27 (b : Fin 4) (t : Fin 2048) (j : Fin 512) :
    val_main_v27 (F := Ideal) x0 x1 x2 x3 x4 (ix2 t (col b j)) = proj (ins x0 x1 x2 x3 x4) b t (lo j) := by
  rw [← r22]
  pointwise [val_main_v27, val_main_v26, val_main_v25, val_main_v23]
  refine congrArg (val_main_v22 (F := Ideal) x0 x1 x2 x3 x4) ?_
  unfold lo col
  refine funext fun a => Fin.ext ?_
  fin_cases a
  · show (512 * b.val + j.val) / 512 = b.val; omega
  · rfl
  · show (512 * b.val + j.val) % 512 = j.val; omega

end Reference

/-! ## One block -/

/-- The row of the sequence that row `r` of point `n`'s block stands for, and the point's batch element. -/
def row (n : ℕ) (r : Fin 1024) : Fin 2048 := ⟨1024 * (n % 2) + r.val, by omega⟩
def pB (n : ℕ) : Fin 4 := ⟨n / 2 % 4, by omega⟩

theorem proj_eq (I : Ins) (b : Fin 4) (s : Fin 1024 → Fin 2048) {x0 : Vec Ideal S1x1024x1024 .f32} {x1 x2 : Vec Ideal S1x1x1024 .f32}
    {x3 : Vec Ideal S1x1024 .f32} {x4 : Vec Ideal S1024x1024 .bf16} (h0 : ∀ r k, x0 (ix3 0 r k) = I.x b (s r) k)
    (h1 : ∀ k, x1 (ix3 0 0 k) = I.sh b k) (h2 : ∀ k, x2 (ix3 0 0 k) = I.sc b k) (h3 : ∀ k, x3 (ix2 0 k) = I.g k)
    (h4 : ∀ k j, x4 (ix2 k j) = I.w k j) (r j : Fin 1024) :
    k0_pay2 (F := Ideal) x0 x3 x2 x1 x4 (ix2 r j) = proj I b (s r) j := by
  unfold proj hin act xhat rstd rmsr
  pointwise [k0_pay2]
  simp only [h0, h1, h2, h3, h4]

/-! ## The blocks a grid point reads -/

variable (m : (ℓ : Loc nD τ sig) → Buf (Elt Ideal) ℓ) (c : Dev nD)

/-- The launch contents of argument `b`. -/
abbrev arg (b : Ref sig .tc) : Buf (Elt Ideal) ((c : Thread nD τ).loc b) := m ((c : Thread nD τ).loc b)

/-- The arguments at plain coordinates. -/
abbrev insK : Ins := ins (arg m c main_arg0) (arg m c main_arg1) (arg m c main_arg2) (arg m c main_arg3) (arg m c main_arg4)

theorem lt8 (t : Fin cfg0.N) : t.val < 8 := lt_of_lt_of_eq t.isLt N_0

theorem e0 : ∀ t : Fin cfg0.N, win0_0.index t = ![t.val / 2, t.val % 2, 0] := (by decide +kernel : ∀ t : Fin grid0.N, _)
theorem e1 : ∀ t : Fin cfg0.N, win0_1.index t = ![t.val / 2, 0, 0] := (by decide +kernel : ∀ t : Fin grid0.N, _)
theorem e2 : ∀ t : Fin cfg0.N, win0_2.index t = ![t.val / 2, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val % 2, t.val / 2] := (by decide +kernel : ∀ t : Fin grid0.N, _)
theorem e6 : ∀ t : Fin cfg0.N, win0_6.index t = ![t.val / 2, t.val % 2, 0] := (by decide +kernel : ∀ t : Fin grid0.N, _)

theorem V0 (b : Fin 4) (k : Fin 1024) : V m c main_v0 (ix3 b 0 k) = arg m c main_arg1 (ix2 b k) := by
  have h : V m c main_v0 = shapeCast S4x1x1024 (arg m c main_arg1) shapeCasts_S4x1024_S4x1x1024 := by
    show StableHlo.after hostOps0 _ _ = _
    after_results
    rfl
  rw [h]
  pointwise []

theorem V1 (b : Fin 4) (k : Fin 1024) : V m c main_v1 (ix3 b 0 k) = arg m c main_arg2 (ix2 b k) := by
  have h : V m c main_v1 = shapeCast S4x1x1024 (arg m c main_arg2) shapeCasts_S4x1024_S4x1x1024 := by
    show StableHlo.after hostOps0 _ _ = _
    after_results
    rfl
  rw [h]
  pointwise []

theorem V2 : V m c main_v2 = arg m c main_arg4 := by
  show StableHlo.after hostOps0 _ _ = _
  after_results
  rfl

variable (t : Fin cfg0.N)

theorem b0 (r k : Fin 1024) : iblk m c 0 t (ix3 0 r k) = (insK m c).x (pB t.val) (row t.val r) k := by
  have := lt8 t
  blk_simp [iblk, e0]
  refine Eq.trans (congrArg (V m c main_arg0) ?_) (congrFun (V_main_arg0 m c) (ix3 (pB t.val) (row t.val r) k))
  unfold pB row
  blk_ext [e0]

theorem b1 (k : Fin 1024) : iblk m c 1 t (ix3 0 0 k) = (insK m c).sh (pB t.val) k := by
  have := lt8 t
  blk_simp [iblk, e1]
  refine Eq.trans (congrArg (V m c main_v0) ?_) (V0 m c (pB t.val) k)
  unfold pB
  blk_ext [e1]

theorem b2 (k : Fin 1024) : iblk m c 2 t (ix3 0 0 k) = (insK m c).sc (pB t.val) k := by
  have := lt8 t
  blk_simp [iblk, e2]
  refine Eq.trans (congrArg (V m c main_v1) ?_) (V1 m c (pB t.val) k)
  unfold pB
  blk_ext [e2]

theorem b3 (k : Fin 1024) : iblk m c 3 t (ix2 0 k) = (insK m c).g k := by
  blk_simp [iblk, e3]
  refine Eq.trans (congrArg (V m c main_arg3) ?_) (congrFun (V_main_arg3 m c) (ix2 0 k))
  blk_ext [e3]

theorem b4 (k j : Fin 1024) : iblk m c 4 t (ix2 k j) = (insK m c).w k j := by
  blk_simp [iblk, e4]
  refine Eq.trans (congrArg (V m c main_v2) ?_) (congrFun (V2 m c) (ix2 k j))
  blk_ext [e4]

theorem proj_pt (r j : Fin 1024) :
    k0_pay2 (F := Ideal) (iblk m c 0 t) (iblk m c 3 t) (iblk m c 2 t) (iblk m c 1 t) (iblk m c 4 t) (ix2 r j)
      = proj (insK m c) (pB t.val) (row t.val r) j :=
  proj_eq (insK m c) (pB t.val) (row t.val) (b0 m c t) (b1 m c t) (b2 m c t) (b3 m c t) (b4 m c t) r j

theorem u_pt (r : Fin 1024) (j : Fin 512) :
    k0_pay3 (F := Ideal) (iblk m c 0 t) (iblk m c 3 t) (iblk m c 2 t) (iblk m c 1 t) (iblk m c 4 t) (ix2 r j)
      = proj (insK m c) (pB t.val) (row t.val r) (lo j) := by
  rw [← proj_pt]
  pointwise [k0_pay3]
  refine congrArg (k0_pay2 (F := Ideal) _ _ _ _ _) (funext fun a => Fin.ext ?_)
  fin_cases a
  · first | rfl | exact Nat.zero_add _
  · first | rfl | exact Nat.zero_add _

theorem p_pt (r : Fin 1024) (j : Fin 512) :
    k0_pay1 (F := Ideal) (k0_pay4 (iblk m c 0 t) (iblk m c 3 t) (iblk m c 2 t) (iblk m c 1 t) (iblk m c 4 t)) (ix3 0 r j)
      = proj (insK m c) (pB t.val) (row t.val r) (hi j) := by
  rw [← proj_pt]
  pointwise [k0_pay1, k0_pay4]
  refine congrArg (k0_pay2 (F := Ideal) _ _ _ _ _) (funext fun a => Fin.ext ?_)
  fin_cases a
  · first | rfl | exact Nat.zero_add _
  · first | rfl | exact Nat.add_comm _ _

/-! ## The arrays -/

theorem res5 : (dats m 0 c).arrAt 5 cfg0.N = val_main_v27 (F := Ideal) (arg m c main_arg0) (arg m c main_arg1) (arg m c main_arg2)
    (arg m c main_arg3) (arg m c main_arg4) := by
  refine (dats m 0 c).arrAt_eq_of_covers 5 _ (by decide +kernel) fun t hf y => ?_
  have := lt8 t
  blk_simp
  rw [after0_5]
  obtain ⟨r, j, rfl⟩ : ∃ (r : Fin 1024) (j : Fin 512), y = ix2 r j := ⟨y 0, y 1, eq_ix2 y⟩
  unfold out0_5
  frame_out
  refine (u_pt m c t r j).trans ((r27 _ _ _ _ _ (pB t.val) (row t.val r) j).symm.trans (congrArg _ ?_))
  unfold pB row col
  symm
  blk_ext [e5]

theorem res6 : (dats m 0 c).arrAt 6 cfg0.N = val_main_v24 (F := Ideal) (arg m c main_arg0) (arg m c main_arg1) (arg m c main_arg2)
    (arg m c main_arg3) (arg m c main_arg4) := by
  refine (dats m 0 c).arrAt_eq_of_covers 6 _ (by decide +kernel) fun t hf y => ?_
  have := lt8 t
  blk_simp
  rw [after0_6]
  obtain ⟨a, r, j, rfl⟩ : ∃ (a : Fin 1) (r : Fin 1024) (j : Fin 512), y = ix3 a r j := ⟨y 0, y 1, y 2, eq_ix3 y⟩
  obtain rfl : a = 0 := Fin.fin_one_eq_zero a
  unfold out0_6
  frame_out
  refine (p_pt m c t r j).trans ((r24 _ _ _ _ _ (pB t.val) (row t.val r) j).symm.trans (congrArg _ ?_))
  unfold pB row
  symm
  blk_ext [e6]

end Cert.Kernel5Ideal.MixFwd

end
-- ==== Proof.AdamSpec.lean ====
/-
  The AdamW step of one entry over extended reals, and the sum of the four partial gradients that it starts from.
-/
module

public import Idealize.ShloMosaic.Lib.Pointwise

@[expose] public section

noncomputable section

namespace Cert.AdamSpec

open Idealize.ShloMosaic

/-- A number of the step, from its float32 pattern. -/
abbrev num (b : BitVec 32) : EReal := (FloatOps.ofBits .f32 b : Ideal .f32)

/-- The new first moment. -/
def newM (m g : EReal) : EReal := num 0x3F666666#32 * m + num 0x3DCCCCCD#32 * g
/-- The new second moment. -/
def newV (v g : EReal) : EReal := num 0x3F7FBE77#32 * v + num 0x3A83126F#32 * (g * g)
/-- The change of the weight `w`, from its new moments. -/
def change (w m v : Ideal .f32) : Ideal .f32 :=
  FloatOps.mulf (num 0xBA83126F#32) (FloatOps.addf (FloatOps.divf (FloatOps.divf m (num 0x3F26BD02#32))
    (FloatOps.addf (FloatOps.sqrt (FloatOps.divf v (num 0x3C231ACC#32))) (num 0x322BCC77#32))) (FloatOps.mulf (num 0x3C23D70A#32) w))

/-- The row of an array of `R` rows, cut into `N` blocks of `T`, that row `r` of block `n` stands for. -/
def row {T N R : ℕ} (h : T * N = R) (n : ℕ) (hn : n < N) (r : Fin T) : Fin R :=
  ⟨T * n + r.val, by
    have := r.isLt
    have := Nat.mul_le_mul_left T (Nat.succ_le_of_lt hn)
    rw [Nat.mul_succ] at this
    omega⟩

/-- A device's own partial sum and the three received ones, one after the other or the three first. -/
theorem sum_parts (o : EReal) (r : Fin 3 → EReal) : o + r 0 + r 1 + r 2 = o + ∑ p, r p := by
  rw [Fin.sum_univ_three, add_assoc, add_assoc, add_assoc]

/-! ## One entry, at any sizes: a block has `T` rows, an array `R`, both `C` columns -/

section Entry

variable {T R C : ℕ} (x0 x2 x3 x4 : (⟨2, ![T, C]⟩ : Shape).Idx → EReal) (x1 : (⟨3, ![3, T, C]⟩ : Shape).Idx → EReal)
  (a0 a2 a3 a4 : (⟨2, ![R, C]⟩ : Shape).Idx → EReal) (a1 : (⟨3, ![3, R, C]⟩ : Shape).Idx → EReal)

/-- The four results at an entry, from its gradient: this, the change and the new moments. -/
def step (g w m v : EReal) : EReal × EReal × EReal × EReal := (g, change w (newM m g) (newV v g), newM m g, newV v g)

/-- A block's entry, the partial sums added one after the other. -/
def ofBlock (r : Fin T) (k : Fin C) : EReal × EReal × EReal × EReal :=
  step (x0 (ix2 r k) + x1 (ix3 0 r k) + x1 (ix3 1 r k) + x1 (ix3 2 r k)) (x2 (ix2 r k)) (x3 (ix2 r k)) (x4 (ix2 r k))
/-- An array's entry, the three received partial sums added first. -/
def ofArray (i : Fin R) (k : Fin C) : EReal × EReal × EReal × EReal :=
  step (a0 (ix2 i k) + ∑ p, a1 (ix3 p i k)) (a2 (ix2 i k)) (a3 (ix2 i k)) (a4 (ix2 i k))

/-- A block that holds the array's values at an entry gives the array's results there. -/
theorem ofBlock_eq {r : Fin T} {i : Fin R} {k : Fin C}
    (h : x0 (ix2 r k) = a0 (ix2 i k) ∧ (∀ p : Fin 3, x1 (ix3 p r k) = a1 (ix3 p i k)) ∧ x2 (ix2 r k) = a2 (ix2 i k)
      ∧ x3 (ix2 r k) = a3 (ix2 i k) ∧ x4 (ix2 r k) = a4 (ix2 i k)) :
    ofBlock x0 x2 x3 x4 x1 r k = ofArray a0 a2 a3 a4 a1 i k := by
  obtain ⟨h0, h1, h2, h3, h4⟩ := h
  unfold ofBlock ofArray
  rw [h0, h1, h1, h1, h2, h3, h4, ← sum_parts _ fun p => a1 (ix3 p i k)]

/-- Four results at once, one by one. -/
theorem split {o o' : EReal × EReal × EReal × EReal} {g d m v g' d' m' v' : EReal} (ho : (g, d, m, v) = o) (h : o = o')
    (ho' : (g', d', m', v') = o') : g = g' ∧ d = d' ∧ m = m' ∧ v = v' := by
  have := ho.trans (h.trans ho'.symm)
  simpa only [Prod.mk.injEq] using this

end Entry

end Cert.AdamSpec

end
-- ==== Proof.AdamUp.lean ====
/-
  The last step of the up projection's weights, transposed: the call's and the reference's definitions
  opened at an entry, where `AdamSpec.ofBlock_eq` says that they agree, and the blocks put together.
-/
module

public import proofs.«01_k».proof.Proof.AdamSpec
public import proofs.«01_k».proof.Proof.Gen.Kernel6Ideal.Value
public import proofs.«01_k».proof.Proof.Gen.Reference6Ideal.Read
public import Idealize.ShloMosaic.Lib.Pipeline.ValueKit.Geometry
public import Idealize.ShloMosaic.Lib.Pipeline.ValueKit.Tiles
public import Idealize.ShloMosaic.Lib.Pipeline.ValueKit.Acc

@[expose] public section

set_option maxRecDepth 16384

noncomputable section

namespace Cert.Kernel6Ideal.Adam

open Cert.Kernel6Ideal Cert.Kernel6Ideal.Gen Idealize.ShloMosaic Idealize.ShloMosaic.TcCoe Idealize.ShloMosaic.StableHlo
open Cert.Reference6Ideal.Read Cert.AdamSpec
open Idealize.ShloMosaic.Pipeline (Dat Window)

variable (m : (ℓ : Loc nD τ sig) → Buf (Elt Ideal) ℓ) (c : Dev nD)

/-- The launch contents of argument `b`. -/
abbrev arg (b : Ref sig .tc) : Buf (Elt Ideal) ((c : Thread nD τ).loc b) := m ((c : Thread nD τ).loc b)

theorem lt (t : Fin cfg0.N) : t.val < 11 := lt_of_lt_of_eq t.isLt N_0

/-- Where the windows' blocks lie. -/
theorem places : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := (by decide +kernel : ∀ t : Fin grid0.N, _)

/-- The array's row of row `r` of point `t`'s block. -/
abbrev here (t : Fin cfg0.N) (r : Fin 64) : Fin 704 := row (by decide : 64 * 11 = 704) t.val (lt t) r

/-- The blocks a grid point reads. -/
theorem reads (t : Fin cfg0.N) (r : Fin 64) (k : Fin 1024) : iblk m c 0 t (ix2 r k) = arg m c main_arg0 (ix2 (here t r) k)
    ∧ (∀ p : Fin 3, iblk m c 1 t (ix3 p r k) = arg m c main_arg1 (ix3 p (here t r) k))
    ∧ iblk m c 2 t (ix2 r k) = arg m c main_arg2 (ix2 (here t r) k) ∧ iblk m c 3 t (ix2 r k) = arg m c main_arg3 (ix2 (here t r) k)
    ∧ iblk m c 4 t (ix2 r k) = arg m c main_arg4 (ix2 (here t r) k) := by
  refine ⟨?_, fun p => ?_, ?_, ?_, ?_⟩ <;>
    (blk_simp [iblk, places]; refine congrArg (V m c _) ?_; unfold here row; blk_ext [places])

/-- What the body leaves of a block, at an entry. -/
theorem outs (x0 x2 x3 x4 : Vec Ideal S64x1024 .f32) (x1 : Vec Ideal S3x64x1024 .bf16) (r : Fin 64) (k : Fin 1024) :
    ((out0_5 x0 x1 x2 x3 x4 (ix2 r k), out0_6 x0 x1 x2 x3 x4 (ix2 r k), out0_7 x0 x1 x2 x3 x4 (ix2 r k),
      out0_8 x0 x1 x2 x3 x4 (ix2 r k)) : EReal × EReal × EReal × EReal) = ofBlock x0 x2 x3 x4 x1 r k := by
  have hg : k0_pay2 (F := Ideal) x0 (View.ld x1 r0_1) (View.ld x1 r0_2) (View.ld x1 r0_3) (ix2 r k)
      = x0 (ix2 r k) + x1 (ix3 0 r k) + x1 (ix3 1 r k) + x1 (ix3 2 r k) := by
    pointwise [k0_pay2]
  unfold out0_5 out0_6 out0_7 out0_8
  frame_out
  unfold ofBlock
  rw [← hg]
  rfl

/-- The reference's results at an entry. -/
theorem refs (a0 a2 a3 a4 : (⟨S704x1024, .f32⟩ : BufTy).Contents (Elt Ideal)) (a1 : (⟨S3x704x1024, .bf16⟩ : BufTy).Contents (Elt Ideal))
    (i : Fin 704) (k : Fin 1024) :
    ((val_main_v2 (F := Ideal) a0 a1 (ix2 i k), val_main_v26 (F := Ideal) a0 a1 a2 a3 a4 (ix2 i k),
      val_main_v7 (F := Ideal) a0 a1 a3 (ix2 i k), val_main_v13 (F := Ideal) a0 a1 a4 (ix2 i k)) : EReal × EReal × EReal × EReal)
    = ofArray a0 a2 a3 a4 a1 i k := by
  have hg : val_main_v2 (F := Ideal) a0 a1 (ix2 i k) = a0 (ix2 i k) + ∑ p, a1 (ix3 p i k) := by
    pointwise [val_main_v2, val_main_v1, val_main_v0, val_main_cst]
  unfold ofArray
  rw [← hg]
  rfl

/-- The four result arrays. -/
theorem results : (dats m 0 c).arrAt 5 cfg0.N = val_main_v2 (F := Ideal) (arg m c main_arg0) (arg m c main_arg1)
    ∧ (dats m 0 c).arrAt 6 cfg0.N = val_main_v26 (F := Ideal) (arg m c main_arg0) (arg m c main_arg1) (arg m c main_arg2)
      (arg m c main_arg3) (arg m c main_arg4)
    ∧ (dats m 0 c).arrAt 7 cfg0.N = val_main_v7 (F := Ideal) (arg m c main_arg0) (arg m c main_arg1) (arg m c main_arg3)
    ∧ (dats m 0 c).arrAt 8 cfg0.N = val_main_v13 (F := Ideal) (arg m c main_arg0) (arg m c main_arg1) (arg m c main_arg4) := by
  have all (t : Fin cfg0.N) (r : Fin 64) (k : Fin 1024) :=
    split (outs _ _ _ _ _ r k) (ofBlock_eq _ _ _ _ _ _ _ _ _ _ (reads m c t r k)) (refs _ _ _ _ _ (here t r) k)
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;> blk_simp <;>
    obtain ⟨r, k, rfl⟩ : ∃ (r : Fin 64) (k : Fin 1024), y = ix2 r k := ⟨y 0, y 1, eq_ix2 y⟩
  · rw [after0_5]; refine (all t r k).1.trans (congrArg _ ?_); unfold here row; symm; blk_ext [places]
  · rw [after0_6]; refine (all t r k).2.1.trans (congrArg _ ?_); unfold here row; symm; blk_ext [places]
  · rw [after0_7]; refine (all t r k).2.2.1.trans (congrArg _ ?_); unfold here row; symm; blk_ext [places]
  · rw [after0_8]; refine (all t r k).2.2.2.trans (congrArg _ ?_); unfold here row; symm; blk_ext [places]

end Cert.Kernel6Ideal.Adam

end
-- ==== Proof.AdamDown.lean ====
/-
  The last step of the down projection's weights: the call's and the reference's definitions opened at an entry, where
  `AdamSpec.ofBlock_eq` says that they agree, and the blocks put together.
-/
module

public import proofs.«01_k».proof.Proof.AdamSpec
public import proofs.«01_k».proof.Proof.Gen.Kernel7Ideal.Value
public import proofs.«01_k».proof.Proof.Gen.Reference7Ideal.Read
public import Idealize.ShloMosaic.Lib.Pipeline.ValueKit.Geometry
public import Idealize.ShloMosaic.Lib.Pipeline.ValueKit.Tiles
public import Idealize.ShloMosaic.Lib.Pipeline.ValueKit.Acc

@[expose] public section

set_option maxRecDepth 16384

noncomputable section

namespace Cert.Kernel7Ideal.Adam

open Cert.Kernel7Ideal Cert.Kernel7Ideal.Gen Idealize.ShloMosaic Idealize.ShloMosaic.TcCoe Idealize.ShloMosaic.StableHlo
open Cert.Reference7Ideal.Read Cert.AdamSpec
open Idealize.ShloMosaic.Pipeline (Dat Window)

variable (m : (ℓ : Loc nD τ sig) → Buf (Elt Ideal) ℓ) (c : Dev nD)

/-- The launch contents of argument `b`. -/
abbrev arg (b : Ref sig .tc) : Buf (Elt Ideal) ((c : Thread nD τ).loc b) := m ((c : Thread nD τ).loc b)

theorem lt (t : Fin cfg0.N) : t.val < 11 := lt_of_lt_of_eq t.isLt N_0

/-- Where the windows' blocks lie. -/
theorem places : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := (by decide +kernel : ∀ t : Fin grid0.N, _)

/-- The array's row of row `r` of point `t`'s block. -/
abbrev here (t : Fin cfg0.N) (r : Fin 32) : Fin 352 := row (by decide : 32 * 11 = 352) t.val (lt t) r

/-- The blocks a grid point reads. -/
theorem reads (t : Fin cfg0.N) (r : Fin 32) (k : Fin 1024) : iblk m c 0 t (ix2 r k) = arg m c main_arg0 (ix2 (here t r) k)
    ∧ (∀ p : Fin 3, iblk m c 1 t (ix3 p r k) = arg m c main_arg1 (ix3 p (here t r) k))
    ∧ iblk m c 2 t (ix2 r k) = arg m c main_arg2 (ix2 (here t r) k) ∧ iblk m c 3 t (ix2 r k) = arg m c main_arg3 (ix2 (here t r) k)
    ∧ iblk m c 4 t (ix2 r k) = arg m c main_arg4 (ix2 (here t r) k) := by
  refine ⟨?_, fun p => ?_, ?_, ?_, ?_⟩ <;>
    (blk_simp [iblk, places]; refine congrArg (V m c _) ?_; unfold here row; blk_ext [places])

/-- What the body leaves of a block, at an entry. -/
theorem outs (x0 x2 x3 x4 : Vec Ideal S32x1024 .f32) (x1 : Vec Ideal S3x32x1024 .bf16) (r : Fin 32) (k : Fin 1024) :
    ((out0_5 x0 x1 x2 x3 x4 (ix2 r k), out0_6 x0 x1 x2 x3 x4 (ix2 r k), out0_7 x0 x1 x2 x3 x4 (ix2 r k),
      out0_8 x0 x1 x2 x3 x4 (ix2 r k)) : EReal × EReal × EReal × EReal) = ofBlock x0 x2 x3 x4 x1 r k := by
  have hg : k0_pay2 (F := Ideal) x0 (View.ld x1 r0_1) (View.ld x1 r0_2) (View.ld x1 r0_3) (ix2 r k)
      = x0 (ix2 r k) + x1 (ix3 0 r k) + x1 (ix3 1 r k) + x1 (ix3 2 r k) := by
    pointwise [k0_pay2]
  unfold out0_5 out0_6 out0_7 out0_8
  frame_out
  unfold ofBlock
  rw [← hg]
  rfl

/-- The reference's results at an entry. -/
theorem refs (a0 a2 a3 a4 : (⟨S352x1024, .f32⟩ : BufTy).Contents (Elt Ideal)) (a1 : (⟨S3x352x1024, .bf16⟩ : BufTy).Contents (Elt Ideal))
    (i : Fin 352) (k : Fin 1024) :
    ((val_main_v2 (F := Ideal) a0 a1 (ix2 i k), val_main_v26 (F := Ideal) a0 a1 a2 a3 a4 (ix2 i k),
      val_main_v7 (F := Ideal) a0 a1 a3 (ix2 i k), val_main_v13 (F := Ideal) a0 a1 a4 (ix2 i k)) : EReal × EReal × EReal × EReal)
    = ofArray a0 a2 a3 a4 a1 i k := by
  have hg : val_main_v2 (F := Ideal) a0 a1 (ix2 i k) = a0 (ix2 i k) + ∑ p, a1 (ix3 p i k) := by
    pointwise [val_main_v2, val_main_v1, val_main_v0, val_main_cst]
  unfold ofArray
  rw [← hg]
  rfl

/-- The four result arrays. -/
theorem results : (dats m 0 c).arrAt 5 cfg0.N = val_main_v2 (F := Ideal) (arg m c main_arg0) (arg m c main_arg1)
    ∧ (dats m 0 c).arrAt 6 cfg0.N = val_main_v26 (F := Ideal) (arg m c main_arg0) (arg m c main_arg1) (arg m c main_arg2)
      (arg m c main_arg3) (arg m c main_arg4)
    ∧ (dats m 0 c).arrAt 7 cfg0.N = val_main_v7 (F := Ideal) (arg m c main_arg0) (arg m c main_arg1) (arg m c main_arg3)
    ∧ (dats m 0 c).arrAt 8 cfg0.N = val_main_v13 (F := Ideal) (arg m c main_arg0) (arg m c main_arg1) (arg m c main_arg4) := by
  have all (t : Fin cfg0.N) (r : Fin 32) (k : Fin 1024) :=
    split (outs _ _ _ _ _ r k) (ofBlock_eq _ _ _ _ _ _ _ _ _ _ (reads m c t r k)) (refs _ _ _ _ _ (here t r) k)
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;> blk_simp <;>
    obtain ⟨r, k, rfl⟩ : ∃ (r : Fin 32) (k : Fin 1024), y = ix2 r k := ⟨y 0, y 1, eq_ix2 y⟩
  · rw [after0_5]; refine (all t r k).1.trans (congrArg _ ?_); unfold here row; symm; blk_ext [places]
  · rw [after0_6]; refine (all t r k).2.1.trans (congrArg _ ?_); unfold here row; symm; blk_ext [places]
  · rw [after0_7]; refine (all t r k).2.2.1.trans (congrArg _ ?_); unfold here row; symm; blk_ext [places]
  · rw [after0_8]; refine (all t r k).2.2.2.trans (congrArg _ ?_); unfold here row; symm; blk_ext [places]

end Cert.Kernel7Ideal.Adam

end
-- ==== Proof.AdamGlu.lean ====
/-
  The last step of the gated linear unit's weights: the call's and the reference's definitions
  opened at an entry, where `AdamSpec.ofBlock_eq` says that they agree, and the blocks put together.
-/
module

public import proofs.«01_k».proof.Proof.AdamSpec
public import proofs.«01_k».proof.Proof.Gen.Kernel8Ideal.Value
public import proofs.«01_k».proof.Proof.Gen.Reference8Ideal.Read
public import Idealize.ShloMosaic.Lib.Pipeline.ValueKit.Geometry
public import Idealize.ShloMosaic.Lib.Pipeline.ValueKit.Tiles
public import Idealize.ShloMosaic.Lib.Pipeline.ValueKit.Acc

@[expose] public section

set_option maxRecDepth 16384

noncomputable section

namespace Cert.Kernel8Ideal.Adam

open Cert.Kernel8Ideal Cert.Kernel8Ideal.Gen Idealize.ShloMosaic Idealize.ShloMosaic.TcCoe Idealize.ShloMosaic.StableHlo
open Cert.Reference8Ideal.Read Cert.AdamSpec
open Idealize.ShloMosaic.Pipeline (Dat Window)

variable (m : (ℓ : Loc nD τ sig) → Buf (Elt Ideal) ℓ) (c : Dev nD)

/-- The launch contents of argument `b`. -/
abbrev arg (b : Ref sig .tc) : Buf (Elt Ideal) ((c : Thread nD τ).loc b) := m ((c : Thread nD τ).loc b)

theorem lt (t : Fin cfg0.N) : t.val < 4 := lt_of_lt_of_eq t.isLt N_0

/-- Where the windows' blocks lie. -/
theorem places : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := (by decide +kernel : ∀ t : Fin grid0.N, _)

/-- The array's row of row `r` of point `t`'s block. -/
abbrev here (t : Fin cfg0.N) (r : Fin 128) : Fin 512 := row (by decide : 128 * 4 = 512) t.val (lt t) r

/-- The blocks a grid point reads. -/
theorem reads (t : Fin cfg0.N) (r : Fin 128) (k : Fin 128) : iblk m c 0 t (ix2 r k) = arg m c main_arg0 (ix2 (here t r) k)
    ∧ (∀ p : Fin 3, iblk m c 1 t (ix3 p r k) = arg m c main_arg1 (ix3 p (here t r) k))
    ∧ iblk m c 2 t (ix2 r k) = arg m c main_arg2 (ix2 (here t r) k) ∧ iblk m c 3 t (ix2 r k) = arg m c main_arg3 (ix2 (here t r) k)
    ∧ iblk m c 4 t (ix2 r k) = arg m c main_arg4 (ix2 (here t r) k) := by
  refine ⟨?_, fun p => ?_, ?_, ?_, ?_⟩ <;>
    (blk_simp [iblk, places]; refine congrArg (V m c _) ?_; unfold here row; blk_ext [places])

/-- What the body leaves of a block, at an entry. -/
theorem outs (x0 x2 x3 x4 : Vec Ideal S128x128 .f32) (x1 : Vec Ideal S3x128x128 .bf16) (r : Fin 128) (k : Fin 128) :
    ((out0_5 x0 x1 x2 x3 x4 (ix2 r k), out0_6 x0 x1 x2 x3 x4 (ix2 r k), out0_7 x0 x1 x2 x3 x4 (ix2 r k),
      out0_8 x0 x1 x2 x3 x4 (ix2 r k)) : EReal × EReal × EReal × EReal) = ofBlock x0 x2 x3 x4 x1 r k := by
  have hg : k0_pay2 (F := Ideal) x0 (View.ld x1 r0_1) (View.ld x1 r0_2) (View.ld x1 r0_3) (ix2 r k)
      = x0 (ix2 r k) + x1 (ix3 0 r k) + x1 (ix3 1 r k) + x1 (ix3 2 r k) := by
    pointwise [k0_pay2]
  unfold out0_5 out0_6 out0_7 out0_8
  frame_out
  unfold ofBlock
  rw [← hg]
  rfl

/-- The reference's results at an entry. -/
theorem refs (a0 a2 a3 a4 : (⟨S512x128, .f32⟩ : BufTy).Contents (Elt Ideal)) (a1 : (⟨S3x512x128, .bf16⟩ : BufTy).Contents (Elt Ideal))
    (i : Fin 512) (k : Fin 128) :
    ((val_main_v2 (F := Ideal) a0 a1 (ix2 i k), val_main_v26 (F := Ideal) a0 a1 a2 a3 a4 (ix2 i k),
      val_main_v7 (F := Ideal) a0 a1 a3 (ix2 i k), val_main_v13 (F := Ideal) a0 a1 a4 (ix2 i k)) : EReal × EReal × EReal × EReal)
    = ofArray a0 a2 a3 a4 a1 i k := by
  have hg : val_main_v2 (F := Ideal) a0 a1 (ix2 i k) = a0 (ix2 i k) + ∑ p, a1 (ix3 p i k) := by
    pointwise [val_main_v2, val_main_v1, val_main_v0, val_main_cst]
  unfold ofArray
  rw [← hg]
  rfl

/-- The four result arrays. -/
theorem results : (dats m 0 c).arrAt 5 cfg0.N = val_main_v2 (F := Ideal) (arg m c main_arg0) (arg m c main_arg1)
    ∧ (dats m 0 c).arrAt 6 cfg0.N = val_main_v26 (F := Ideal) (arg m c main_arg0) (arg m c main_arg1) (arg m c main_arg2)
      (arg m c main_arg3) (arg m c main_arg4)
    ∧ (dats m 0 c).arrAt 7 cfg0.N = val_main_v7 (F := Ideal) (arg m c main_arg0) (arg m c main_arg1) (arg m c main_arg3)
    ∧ (dats m 0 c).arrAt 8 cfg0.N = val_main_v13 (F := Ideal) (arg m c main_arg0) (arg m c main_arg1) (arg m c main_arg4) := by
  have all (t : Fin cfg0.N) (r : Fin 128) (k : Fin 128) :=
    split (outs _ _ _ _ _ r k) (ofBlock_eq _ _ _ _ _ _ _ _ _ _ (reads m c t r k)) (refs _ _ _ _ _ (here t r) k)
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;> blk_simp <;>
    obtain ⟨r, k, rfl⟩ : ∃ (r : Fin 128) (k : Fin 128), y = ix2 r k := ⟨y 0, y 1, eq_ix2 y⟩
  · rw [after0_5]; refine (all t r k).1.trans (congrArg _ ?_); unfold here row; symm; blk_ext [places]
  · rw [after0_6]; refine (all t r k).2.1.trans (congrArg _ ?_); unfold here row; symm; blk_ext [places]
  · rw [after0_7]; refine (all t r k).2.2.1.trans (congrArg _ ?_); unfold here row; symm; blk_ext [places]
  · rw [after0_8]; refine (all t r k).2.2.2.trans (congrArg _ ?_); unfold here row; symm; blk_ext [places]

end Cert.Kernel8Ideal.Adam

end
-- ==== Proof.AdamOut.lean ====
/-
  The last step of the output projection's weights: the call's and the reference's definitions
  opened at an entry, where `AdamSpec.ofBlock_eq` says that they agree, and the blocks put together.
-/
module

public import proofs.«01_k».proof.Proof.AdamSpec
public import proofs.«01_k».proof.Proof.Gen.Kernel9Ideal.Value
public import proofs.«01_k».proof.Proof.Gen.Reference9Ideal.Read
public import Idealize.ShloMosaic.Lib.Pipeline.ValueKit.Geometry
public import Idealize.ShloMosaic.Lib.Pipeline.ValueKit.Tiles
public import Idealize.ShloMosaic.Lib.Pipeline.ValueKit.Acc

@[expose] public section

set_option maxRecDepth 16384

noncomputable section

namespace Cert.Kernel9Ideal.Adam

open Cert.Kernel9Ideal Cert.Kernel9Ideal.Gen Idealize.ShloMosaic Idealize.ShloMosaic.TcCoe Idealize.ShloMosaic.StableHlo
open Cert.Reference9Ideal.Read Cert.AdamSpec
open Idealize.ShloMosaic.Pipeline (Dat Window)

variable (m : (ℓ : Loc nD τ sig) → Buf (Elt Ideal) ℓ) (c : Dev nD)

/-- The launch contents of argument `b`. -/
abbrev arg (b : Ref sig .tc) : Buf (Elt Ideal) ((c : Thread nD τ).loc b) := m ((c : Thread nD τ).loc b)

theorem lt (t : Fin cfg0.N) : t.val < 1 := lt_of_lt_of_eq t.isLt N_0

/-- Where the windows' blocks lie. -/
theorem places : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := (by decide +kernel : ∀ t : Fin grid0.N, _)

/-- The array's row of row `r` of point `t`'s block. -/
abbrev here (t : Fin cfg0.N) (r : Fin 128) : Fin 128 := row (by decide : 128 * 1 = 128) t.val (lt t) r

/-- The blocks a grid point reads. -/
theorem reads (t : Fin cfg0.N) (r : Fin 128) (k : Fin 1024) : iblk m c 0 t (ix2 r k) = arg m c main_arg0 (ix2 (here t r) k)
    ∧ (∀ p : Fin 3, iblk m c 1 t (ix3 p r k) = arg m c main_arg1 (ix3 p (here t r) k))
    ∧ iblk m c 2 t (ix2 r k) = arg m c main_arg2 (ix2 (here t r) k) ∧ iblk m c 3 t (ix2 r k) = arg m c main_arg3 (ix2 (here t r) k)
    ∧ iblk m c 4 t (ix2 r k) = arg m c main_arg4 (ix2 (here t r) k) := by
  refine ⟨?_, fun p => ?_, ?_, ?_, ?_⟩ <;>
    (blk_simp [iblk, places]; refine congrArg (V m c _) ?_; unfold here row; blk_ext [places])

/-- What the body leaves of a block, at an entry. -/
theorem outs (x0 x2 x3 x4 : Vec Ideal S128x1024 .f32) (x1 : Vec Ideal S3x128x1024 .bf16) (r : Fin 128) (k : Fin 1024) :
    ((out0_5 x0 x1 x2 x3 x4 (ix2 r k), out0_6 x0 x1 x2 x3 x4 (ix2 r k), out0_7 x0 x1 x2 x3 x4 (ix2 r k),
      out0_8 x0 x1 x2 x3 x4 (ix2 r k)) : EReal × EReal × EReal × EReal) = ofBlock x0 x2 x3 x4 x1 r k := by
  have hg : k0_pay2 (F := Ideal) x0 (View.ld x1 r0_1) (View.ld x1 r0_2) (View.ld x1 r0_3) (ix2 r k)
      = x0 (ix2 r k) + x1 (ix3 0 r k) + x1 (ix3 1 r k) + x1 (ix3 2 r k) := by
    pointwise [k0_pay2]
  unfold out0_5 out0_6 out0_7 out0_8
  frame_out
  unfold ofBlock
  rw [← hg]
  rfl

/-- The reference's results at an entry. -/
theorem refs (a0 a2 a3 a4 : (⟨S128x1024, .f32⟩ : BufTy).Contents (Elt Ideal)) (a1 : (⟨S3x128x1024, .bf16⟩ : BufTy).Contents (Elt Ideal))
    (i : Fin 128) (k : Fin 1024) :
    ((val_main_v2 (F := Ideal) a0 a1 (ix2 i k), val_main_v26 (F := Ideal) a0 a1 a2 a3 a4 (ix2 i k),
      val_main_v7 (F := Ideal) a0 a1 a3 (ix2 i k), val_main_v13 (F := Ideal) a0 a1 a4 (ix2 i k)) : EReal × EReal × EReal × EReal)
    = ofArray a0 a2 a3 a4 a1 i k := by
  have hg : val_main_v2 (F := Ideal) a0 a1 (ix2 i k) = a0 (ix2 i k) + ∑ p, a1 (ix3 p i k) := by
    pointwise [val_main_v2, val_main_v1, val_main_v0, val_main_cst]
  unfold ofArray
  rw [← hg]
  rfl

/-- The four result arrays. -/
theorem results : (dats m 0 c).arrAt 5 cfg0.N = val_main_v2 (F := Ideal) (arg m c main_arg0) (arg m c main_arg1)
    ∧ (dats m 0 c).arrAt 6 cfg0.N = val_main_v26 (F := Ideal) (arg m c main_arg0) (arg m c main_arg1) (arg m c main_arg2)
      (arg m c main_arg3) (arg m c main_arg4)
    ∧ (dats m 0 c).arrAt 7 cfg0.N = val_main_v7 (F := Ideal) (arg m c main_arg0) (arg m c main_arg1) (arg m c main_arg3)
    ∧ (dats m 0 c).arrAt 8 cfg0.N = val_main_v13 (F := Ideal) (arg m c main_arg0) (arg m c main_arg1) (arg m c main_arg4) := by
  have all (t : Fin cfg0.N) (r : Fin 128) (k : Fin 1024) :=
    split (outs _ _ _ _ _ r k) (ofBlock_eq _ _ _ _ _ _ _ _ _ _ (reads m c t r k)) (refs _ _ _ _ _ (here t r) k)
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;> blk_simp <;>
    obtain ⟨r, k, rfl⟩ : ∃ (r : Fin 128) (k : Fin 1024), y = ix2 r k := ⟨y 0, y 1, eq_ix2 y⟩
  · rw [after0_5]; refine (all t r k).1.trans (congrArg _ ?_); unfold here row; symm; blk_ext [places]
  · rw [after0_6]; refine (all t r k).2.1.trans (congrArg _ ?_); unfold here row; symm; blk_ext [places]
  · rw [after0_7]; refine (all t r k).2.2.1.trans (congrArg _ ?_); unfold here row; symm; blk_ext [places]
  · rw [after0_8]; refine (all t r k).2.2.2.trans (congrArg _ ?_); unfold here row; symm; blk_ext [places]

end Cert.Kernel9Ideal.Adam

end
-- ==== Proof.Block.lean ====
/-
  What one grid point of the kernel computes, over any blocks that hold rows `T … T + 255` of one batch element: each
  stored value, read at an index, is the plain sum of Spec.lean at the row it stands for.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.FfnBlock

open Cert.KernelIdeal Cert.KernelIdeal.Gen Idealize.ShloMosaic
open Cert.FfnSpec

/-- The row of the sequence that row `r` of the block at `T` stands for. -/
def row {T : ℕ} (hT : T + 256 ≤ 2048) (r : Fin 256) : Fin 2048 := ⟨T + r.val, by omega⟩

variable (I : Ins) (b : Fin 4) (T : ℕ) (hT : T + 256 ≤ 2048)

variable {x0 : Vec Ideal S1x256x1024 .bf16} {x1 x2 x3 : Vec Ideal S1x256x2816 .bf16} {x4 x5 : Vec Ideal S1x256x1024 .f32}
  {x7 : Vec Ideal S1x1x1024 .f32} {x8 : Vec Ideal S1x1024 .f32} {x9 : Vec Ideal S3x2816 .f32}
  {x10 : Vec Ideal S2816x1024 .bf16} {wl wh : Vec Ideal S2816x1024 .bf16} {e : Vec Ideal S1x264x2816 .f32}
  {dh' : FVec Ideal S256x1024 .f32}

theorem dact_eq (h0 : ∀ r k, x0 (ix3 0 r k) = I.ddn b (row hT r) k) (h10 : ∀ c k, x10 (ix2 c k) = I.wd c k)
    (r : Fin 256) (c : Fin 2816) : k0_pay11 (F := Ideal) x0 x10 (ix2 r c) = dact I b (row hT r) c := by
  unfold dact
  pointwise [k0_pay11]
  simp only [h0, h10]

theorem dv_eq (h0 : ∀ r k, x0 (ix3 0 r k) = I.ddn b (row hT r) k) (h10 : ∀ c k, x10 (ix2 c k) = I.wd c k)
    (h2 : ∀ r c, x2 (ix3 0 r c) = I.gc b (row hT r) c)
    (r : Fin 256) (c : Fin 2816) : k0_pay16 (F := Ideal) x0 x10 x2 (ix2 r c) = dv I b (row hT r) c := by
  unfold dv
  pointwise [k0_pay16, k0_pay15, k0_pay14, k0_pay13]
  rw [dact_eq I b T hT h0 h10, h2]

theorem dgc_eq (h0 : ∀ r k, x0 (ix3 0 r k) = I.ddn b (row hT r) k) (h10 : ∀ c k, x10 (ix2 c k) = I.wd c k)
    (h2 : ∀ r c, x2 (ix3 0 r c) = I.gc b (row hT r) c) (h3 : ∀ r c, x3 (ix3 0 r c) = I.v b (row hT r) c)
    (r : Fin 256) (c : Fin 2816) :
    k0_pay19 (F := Ideal) (k0_pay17 x0 x10 x3) (k0_pay18 x2) (ix2 r c) = dgc I b (row hT r) c := by
  unfold dgc dsilu
  pointwise [k0_pay19, k0_pay17, k0_pay18, k0_pay15, k0_pay14, k0_pay13]
  rw [dact_eq I b T hT h0 h10, h2, h3]
  done

theorem d1_eq (he : ∀ n c, e (ix3 0 n c) = dgcAt I b (T + n.val) c) (r : Fin 256) (c : Fin 2816) :
    k0_pay22 (F := Ideal) e (ix2 r c) = dgcAt I b (T + r.val + 1) c := by
  pointwise [k0_pay22, k0_pay21]
  rw [he]
  exact congrArg (fun n => dgcAt I b n c) (by show T + (r.val + 264 - 263) % 264 = _; omega)

theorem d2_eq (he : ∀ n c, e (ix3 0 n c) = dgcAt I b (T + n.val) c) (r : Fin 256) (c : Fin 2816) :
    k0_pay23 (F := Ideal) e (ix2 r c) = dgcAt I b (T + r.val + 2) c := by
  pointwise [k0_pay23, k0_pay21]
  rw [he]
  exact congrArg (fun n => dgcAt I b n c) (by show T + (r.val + 264 - 262) % 264 = _; omega)

theorem dg_eq {v32 : FVec Ideal S256x2816 .f32} (h32 : ∀ r c, v32 (ix2 r c) = dgc I b (row hT r) c)
    (he : ∀ n c, e (ix3 0 n c) = dgcAt I b (T + n.val) c) (h9 : ∀ k c, x9 (ix2 k c) = I.wc k c)
    (r : Fin 256) (c : Fin 2816) :
    k0_pay32 (F := Ideal) x9 v32 (k0_pay22 e) (k0_pay23 e) (ix2 r c) = dg I b (row hT r) c := by
  unfold dg
  pointwise [k0_pay32]
  rw [d1_eq I b T he, d2_eq I b T he, h32, h9, h9, h9]
  rfl

theorem dh_eq {v26 v32 : FVec Ideal S256x2816 .f32} (h26 : ∀ r c, v26 (ix2 r c) = dv I b (row hT r) c)
    (h32 : ∀ r c, v32 (ix2 r c) = dgc I b (row hT r) c)
    (he : ∀ n c, e (ix3 0 n c) = dgcAt I b (T + n.val) c) (h9 : ∀ k c, x9 (ix2 k c) = I.wc k c)
    (hl : ∀ c d, wl (ix2 c d) = I.wu (lo c) d) (hh : ∀ c d, wh (ix2 c d) = I.wu (hi c) d)
    (r : Fin 256) (d : Fin 1024) :
    k0_pay35 (F := Ideal) k0_pay10 x9 v26 v32 (k0_pay22 e) (k0_pay23 e) wl wh (ix2 r d) = dh I b (row hT r) d := by
  unfold dh
  pointwise [k0_pay35, k0_pay10, k0_pay31]
  simp only [dg_eq I b T hT h32 he h9, h26, hl, hh, zero_add]
  done

theorem rstd_eq (h4 : ∀ r d, x4 (ix3 0 r d) = I.x b (row hT r) d) (r : Fin 256) :
    k0_pay37 (F := Ideal) x4 (ix2 r 0) = rstd I b (row hT r) := by
  unfold rstd rmsr
  pointwise [k0_pay37, k0_pay36]
  simp only [h4]

theorem xhat_eq (h4 : ∀ r d, x4 (ix3 0 r d) = I.x b (row hT r) d) (r : Fin 256) (d : Fin 1024) :
    k0_pay38 (F := Ideal) x4 (ix2 r d) = xhat I b (row hT r) d := by
  unfold xhat
  pointwise [k0_pay38, k0_pay36]
  rw [rstd_eq I b T hT h4, h4]

theorem sc_eq (h7 : ∀ d, x7 (ix3 0 0 d) = I.sc b d) (d : Fin 1024) :
    k0_pay41 (F := Ideal) x7 (ix2 0 d) = I.sc b d := by
  pointwise [k0_pay41]
  exact h7 d

theorem tt_eq (hd : ∀ r d, dh' (ix2 r d) = dh I b (row hT r) d) (h7 : ∀ d, x7 (ix3 0 0 d) = I.sc b d)
    (r : Fin 256) (d : Fin 1024) : k0_pay1 (F := Ideal) dh' (k0_pay41 x7) (ix2 r d) = tt I b (row hT r) d := by
  unfold tt
  pointwise [k0_pay1]
  rw [hd, sc_eq I b h7]
  done

theorem dx1_eq (hd : ∀ r d, dh' (ix2 r d) = dh I b (row hT r) d) (h7 : ∀ d, x7 (ix3 0 0 d) = I.sc b d)
    (h4 : ∀ r d, x4 (ix3 0 r d) = I.x b (row hT r) d) (h5 : ∀ r d, x5 (ix3 0 r d) = I.dx2 b (row hT r) d)
    (h8 : ∀ d, x8 (ix2 0 d) = I.gf d) (r : Fin 256) (d : Fin 1024) :
    k0_pay3 (F := Ideal) dh' (k0_pay37 x4) (k0_pay38 x4) x8 (k0_pay41 x7) x5 (ix3 0 r d) = dx1 I b (row hT r) d := by
  unfold dx1 rmsBwd
  pointwise [k0_pay3]
  simp only [tt_eq I b T hT hd h7, xhat_eq I b T hT h4, rstd_eq I b T hT h4, h5, h8]
  done

theorem dsh_step (hd : ∀ r d, dh' (ix2 r d) = dh I b (row hT r) d) (o : Vec Ideal S1x1x1024 .f32) (d : Fin 1024) :
    k0_pay39 (F := Ideal) dh' o (ix3 0 0 d) = o (ix3 0 0 d) + ∑ r, dh I b (row hT r) d := by
  pointwise [k0_pay39]
  simp only [hd]

theorem dsc_step (hd : ∀ r d, dh' (ix2 r d) = dh I b (row hT r) d)
    (h4 : ∀ r d, x4 (ix3 0 r d) = I.x b (row hT r) d) (h8 : ∀ d, x8 (ix2 0 d) = I.gf d)
    (o : Vec Ideal S1x1x1024 .f32) (d : Fin 1024) :
    k0_pay40 (F := Ideal) dh' x4 x8 o (ix3 0 0 d)
      = o (ix3 0 0 d) + ∑ r, dh I b (row hT r) d * xhat I b (row hT r) d * I.gf d := by
  pointwise [k0_pay40]
  simp only [hd, xhat_eq I b T hT h4, h8]

theorem dgf_step (hd : ∀ r d, dh' (ix2 r d) = dh I b (row hT r) d) (h7 : ∀ d, x7 (ix3 0 0 d) = I.sc b d)
    (h4 : ∀ r d, x4 (ix3 0 r d) = I.x b (row hT r) d) (o : Vec Ideal S1x1024 .f32) (d : Fin 1024) :
    k0_pay2 (F := Ideal) dh' (k0_pay38 x4) (k0_pay41 x7) o (ix2 0 d)
      = o (ix2 0 d) + ∑ r, tt I b (row hT r) d * xhat I b (row hT r) d := by
  pointwise [k0_pay2]
  simp only [tt_eq I b T hT hd h7, xhat_eq I b T hT h4]

theorem dbc_step {v27 v31 : FVec Ideal S256x2816 .f32} (h32 : ∀ r c, k0_pay19 (F := Ideal) v27 v31 (ix2 r c) = dgc I b (row hT r) c)
    (o : Vec Ideal S1x2816 .f32) (c : Fin 2816) :
    k0_pay25 (F := Ideal) v27 v31 o (ix2 0 c) = o (ix2 0 c) + ∑ r, dgc I b (row hT r) c := by
  pointwise [k0_pay25]
  simp only [h32]

theorem dw0_step (h1 : ∀ r c, x1 (ix3 0 r c) = I.g b (row hT r) c) (he : ∀ n c, e (ix3 0 n c) = dgcAt I b (T + n.val) c)
    (o : Vec Ideal S1x2816 .f32) (c : Fin 2816) :
    k0_pay26 (F := Ideal) (k0_pay12 x1) e o (ix2 0 c)
      = o (ix2 0 c) + ∑ r, dgcAt I b ((row hT r).val + 2) c * I.g b (row hT r) c := by
  pointwise [k0_pay26, k0_pay12]
  simp only [d2_eq I b T he, h1]
  rfl

theorem dw1_step (h1 : ∀ r c, x1 (ix3 0 r c) = I.g b (row hT r) c) (he : ∀ n c, e (ix3 0 n c) = dgcAt I b (T + n.val) c)
    (o : Vec Ideal S1x2816 .f32) (c : Fin 2816) :
    k0_pay29 (F := Ideal) (k0_pay27 o) (k0_pay28 (k0_pay12 x1) e) (ix2 0 c)
      = o (ix2 0 c) + ∑ r, dgcAt I b ((row hT r).val + 1) c * I.g b (row hT r) c := by
  pointwise [k0_pay29, k0_pay27, k0_pay28, k0_pay12]
  simp only [d1_eq I b T he, h1]
  rfl

theorem dw2_step {v32 : FVec Ideal S256x2816 .f32} (h32 : ∀ r c, v32 (ix2 r c) = dgc I b (row hT r) c)
    (h1 : ∀ r c, x1 (ix3 0 r c) = I.g b (row hT r) c) (o : Vec Ideal S1x2816 .f32) (c : Fin 2816) :
    k0_pay30 (F := Ideal) (k0_pay12 x1) v32 o (ix2 0 c)
      = o (ix2 0 c) + ∑ r, dgcAt I b ((row hT r).val + 0) c * I.g b (row hT r) c := by
  pointwise [k0_pay30, k0_pay12]
  simp only [h32, h1, Nat.add_zero, dgcAt_val]

/-- What the scratch holds after a point's first store: the point's own rows, then eight rows carried over. -/
theorem ext_eq {v27 v31 : FVec Ideal S256x2816 .f32} (h32 : ∀ r c, k0_pay19 (F := Ideal) v27 v31 (ix2 r c) = dgc I b (row hT r) c)
    (r : Fin 256) (c : Fin 2816) : k0_pay20 (F := Ideal) v27 v31 (ix3 0 r c) = dgcAt I b (T + r.val) c := by
  pointwise [k0_pay20]
  rw [h32, ← dgcAt_val]
  rfl

theorem carry_eq {v27 v31 : FVec Ideal S256x2816 .f32} (h32 : ∀ r c, k0_pay19 (F := Ideal) v27 v31 (ix2 r c) = dgc I b (row hT r) c)
    (j : Fin 8) (c : Fin 2816) : k0_pay24 (F := Ideal) v27 v31 (ix3 0 j c) = dgcAt I b (T + j.val) c := by
  pointwise [k0_pay24]
  rw [h32, ← dgcAt_val]
  rfl

end Cert.KernelIdeal.FfnBlock
-- ==== Proof.Frame.RunB.lean ====
/-
  The kernel body run once in case B of its two branches (neither taken): what its stores leave in
  every buffer, as a list of pieces, with the proof that the body ends there. The body's triple follows the launch kit's
  form for this kernel; the list of pieces is found by the run.
-/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Ffn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken, `scf.if` 1 not taken: points 1, 2, … 31: 28 of 32), WITH the
    proof that on whole staging memrefs — the inputs' at their contents, the outputs it reads before covering (14, 15, 16, 17, 18) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x256x1024 .bf16) (harg2 : arg2.IsWhole) (arg3 : Memref sig .tc .vmem S1x256x2816 .bf16) (harg3 : arg3.IsWhole) (arg4 : Memref sig .tc .vmem S1x256x2816 .bf16) (harg4 : arg4.IsWhole) (arg5 : Memref sig .tc .vmem S1x256x2816 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S3x2816 .f32) (harg11 : arg11.IsWhole) (arg12 : Memref sig .tc .vmem S2816x1024 .bf16) (harg12 : arg12.IsWhole) (arg13 : Memref sig .tc .vmem S5632x1024 .bf16) (harg13 : arg13.IsWhole) (arg14 : Memref sig .tc .vmem S1x256x5632 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1024 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x264x2816 .f32) (harg21 : arg21.IsWhole) (hc0 : ¬cond0_0 i) (hc1 : ¬cond0_1 i)
    (x0 : Vec F S1x256x1024 .bf16) (x1 : Vec F S1x256x2816 .bf16) (x2 : Vec F S1x256x2816 .bf16) (x3 : Vec F S1x256x2816 .bf16) (x4 : Vec F S1x256x1024 .f32) (x5 : Vec F S1x256x1024 .f32) (x6 : Vec F S1x1x1024 .f32) (x7 : Vec F S1x1x1024 .f32) (x8 : Vec F S1x1024 .f32) (x9 : Vec F S3x2816 .f32) (x10 : Vec F S2816x1024 .bf16) (x11 : Vec F S5632x1024 .bf16) (xo14 : Vec F S1x1x1024 .f32) (xo15 : Vec F S1x1x1024 .f32) (xo16 : Vec F S1x1024 .f32) (xo17 : Vec F S3x2816 .f32) (xo18 : Vec F S1x2816 .f32) (xs0 : Vec F S1x264x2816 .f32) :
    Σ' (L12 : List (View.Piece (Elt F) S1x256x5632 .bf16)), Σ' (L13 : List (View.Piece (Elt F) S1x256x1024 .f32)), Σ' (L14 : List (View.Piece (Elt F) S1x1x1024 .f32)), Σ' (L15 : List (View.Piece (Elt F) S1x1x1024 .f32)), Σ' (L16 : List (View.Piece (Elt F) S1x1024 .f32)), Σ' (L17 : List (View.Piece (Elt F) S3x2816 .f32)), Σ' (L18 : List (View.Piece (Elt F) S1x2816 .f32)), { LS0 : List (View.Piece (Elt F) S1x264x2816 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare xo14 ∗ owns (c : Thread nD τ) arg17 fullShare xo15 ∗ owns (c : Thread nD τ) arg18 fullShare xo16 ∗ owns (c : Thread nD τ) arg19 fullShare xo17 ∗ owns (c : Thread nD τ) arg20 fullShare xo18 ∗ owns (c : Thread nD τ) arg21 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hf14; obtain rfl := harg17.eq_unread hf15; obtain rfl := harg18.eq_unread hf16; obtain rfl := harg19.eq_unread hf17; obtain rfl := harg20.eq_unread hf18; obtain rfl := harg21.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact HS0

end Cert.KernelIdeal.Ffn

end
-- ==== Proof.Frame.Outs.lean ====
/-
  What one run of the kernel body leaves in each output block and in the carried scratch, case by case: the run's pieces
  cover the buffer, so its contents are those pieces read back.
-/
module

public import proofs.«01_k».proof.Proof.Frame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Ffn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg2 : Memref sig .tc .vmem S1x256x1024 .bf16) (harg2 : arg2.IsWhole) (arg3 : Memref sig .tc .vmem S1x256x2816 .bf16) (harg3 : arg3.IsWhole) (arg4 : Memref sig .tc .vmem S1x256x2816 .bf16) (harg4 : arg4.IsWhole) (arg5 : Memref sig .tc .vmem S1x256x2816 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S3x2816 .f32) (harg11 : arg11.IsWhole) (arg12 : Memref sig .tc .vmem S2816x1024 .bf16) (harg12 : arg12.IsWhole) (arg13 : Memref sig .tc .vmem S5632x1024 .bf16) (harg13 : arg13.IsWhole) (arg14 : Memref sig .tc .vmem S1x256x5632 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1024 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x264x2816 .f32) (harg21 : arg21.IsWhole) (hc0 : cond0_0 i) (hc1 : cond0_1 i)
    (x0 : Vec F S1x256x1024 .bf16) (x1 : Vec F S1x256x2816 .bf16) (x2 : Vec F S1x256x2816 .bf16) (x3 : Vec F S1x256x2816 .bf16) (x4 : Vec F S1x256x1024 .f32) (x5 : Vec F S1x256x1024 .f32) (x6 : Vec F S1x1x1024 .f32) (x7 : Vec F S1x1x1024 .f32) (x8 : Vec F S1x1024 .f32) (x9 : Vec F S3x2816 .f32) (x10 : Vec F S2816x1024 .bf16) (x11 : Vec F S5632x1024 .bf16)

/-- Case A's pieces for output 12 tile its block (2 stores of `S1x256x2816`, checked by the kernel's evaluation: Lib/Ring.lean `Piece.tiledL`, linear in the pieces, through a loop's `@[irreducible]` trip theorem too), so they cover it. -/
theorem cover0_A_12 (y : S1x256x5632.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1 S1x256x2816.size (by sl_kernel_rfl) y

/-- What case A leaves in output 12's staging buffer: its pieces read back over junk. -/
def out0_A_12 : Vec F S1x256x5632 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1)

/-- Case A's pieces for output 13 tile its block (1 store of `S1x256x1024`, checked by the kernel's evaluation: Lib/Ring.lean `Piece.tiledL`, linear in the pieces, through a loop's `@[irreducible]` trip theorem too), so they cover it. -/
theorem cover0_A_13 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1 S1x256x1024.size (by sl_kernel_rfl) y

/-- What case A leaves in output 13's staging buffer: its pieces read back over junk. -/
def out0_A_13 : Vec F S1x256x1024 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1)

/-- Case A's pieces for output 14 tile its block (2 stores of `S1x1x1024`, checked by the kernel's evaluation: Lib/Ring.lean `Piece.tiledL`, linear in the pieces, through a loop's `@[irreducible]` trip theorem too), so they cover it. -/
theorem cover0_A_14 (y : S1x1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.1 S1x1x1024.size (by sl_kernel_rfl) y

/-- What case A leaves in output 14's staging buffer: its pieces read back over junk. -/
def out0_A_14 : Vec F S1x1x1024 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.1)

/-- Case A's pieces for output 15 tile its block (2 stores of `S1x1x1024`, checked by the kernel's evaluation: Lib/Ring.lean `Piece.tiledL`, linear in the pieces, through a loop's `@[irreducible]` trip theorem too), so they cover it. -/
theorem cover0_A_15 (y : S1x1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1 S1x1x1024.size (by sl_kernel_rfl) y

/-- What case A leaves in output 15's staging buffer: its pieces read back over junk. -/
def out0_A_15 : Vec F S1x1x1024 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1)

/-- Case A's pieces for output 16 tile its block (2 stores of `S1x1024`, checked by the kernel's evaluation: Lib/Ring.lean `Piece.tiledL`, linear in the pieces, through a loop's `@[irreducible]` trip theorem too), so they cover it. -/
theorem cover0_A_16 (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1 S1x1024.size (by sl_kernel_rfl) y

/-- What case A leaves in output 16's staging buffer: its pieces read back over junk. -/
def out0_A_16 : Vec F S1x1024 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1)

/-- Case A's pieces for output 17 are of SEVERAL sizes (4 stores of `S1x2816`, `S3x2816`): cut into blocks of `![1, 2816]` they tile its block (checked by the kernel's evaluation: Lib/Ring.lean `Piece.tiledBy`), so they cover it. -/
theorem cover0_A_17 (y : S3x2816.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1 ![1, 2816] (by sl_kernel_rfl) y

/-- What case A leaves in output 17's staging buffer: its pieces read back over junk. -/
def out0_A_17 : Vec F S3x2816 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1)

/-- Case A's pieces for output 18 tile its block (2 stores of `S1x2816`, checked by the kernel's evaluation: Lib/Ring.lean `Piece.tiledL`, linear in the pieces, through a loop's `@[irreducible]` trip theorem too), so they cover it. -/
theorem cover0_A_18 (y : S1x2816.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.1 S1x2816.size (by sl_kernel_rfl) y

/-- What case A leaves in output 18's staging buffer: its pieces read back over junk. -/
def out0_A_18 : Vec F S1x2816 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.1)

/-- Case A's pieces for scratch `arg21`, which the kernel carries between points, cover it: 3 pieces (stores and landed copies) of several sizes (`S1x256x2816`, `S1x8x2816`) tiling it when cut into blocks of `![1, 8, 2816]` (Lib/Ring.lean `Piece.tiledBy`). -/
theorem scover0_A_0 (y : S1x264x2816.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.2.1 ![1, 8, 2816] (by sl_kernel_rfl) y

/-- What case A leaves in scratch `arg21`: its pieces read back over junk. -/
def sout0_A_0 : Vec F S1x264x2816 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.2.1)

end

section

variable (c : Dev nD) (i : grid0.Coords) (arg2 : Memref sig .tc .vmem S1x256x1024 .bf16) (harg2 : arg2.IsWhole) (arg3 : Memref sig .tc .vmem S1x256x2816 .bf16) (harg3 : arg3.IsWhole) (arg4 : Memref sig .tc .vmem S1x256x2816 .bf16) (harg4 : arg4.IsWhole) (arg5 : Memref sig .tc .vmem S1x256x2816 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S3x2816 .f32) (harg11 : arg11.IsWhole) (arg12 : Memref sig .tc .vmem S2816x1024 .bf16) (harg12 : arg12.IsWhole) (arg13 : Memref sig .tc .vmem S5632x1024 .bf16) (harg13 : arg13.IsWhole) (arg14 : Memref sig .tc .vmem S1x256x5632 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1024 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x264x2816 .f32) (harg21 : arg21.IsWhole) (hc0 : ¬cond0_0 i) (hc1 : ¬cond0_1 i)
    (x0 : Vec F S1x256x1024 .bf16) (x1 : Vec F S1x256x2816 .bf16) (x2 : Vec F S1x256x2816 .bf16) (x3 : Vec F S1x256x2816 .bf16) (x4 : Vec F S1x256x1024 .f32) (x5 : Vec F S1x256x1024 .f32) (x6 : Vec F S1x1x1024 .f32) (x7 : Vec F S1x1x1024 .f32) (x8 : Vec F S1x1024 .f32) (x9 : Vec F S3x2816 .f32) (x10 : Vec F S2816x1024 .bf16) (x11 : Vec F S5632x1024 .bf16) (xo14 : Vec F S1x1x1024 .f32) (xo15 : Vec F S1x1x1024 .f32) (xo16 : Vec F S1x1024 .f32) (xo17 : Vec F S3x2816 .f32) (xo18 : Vec F S1x2816 .f32) (xs0 : Vec F S1x264x2816 .f32)

/-- Case B's pieces for output 12 tile its block (2 stores of `S1x256x2816`, checked by the kernel's evaluation: Lib/Ring.lean `Piece.tiledL`, linear in the pieces, through a loop's `@[irreducible]` trip theorem too), so they cover it. -/
theorem cover0_B_12 (y : S1x256x5632.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).1 S1x256x2816.size (by sl_kernel_rfl) y

/-- What case B leaves in output 12's staging buffer: its pieces read back over junk. -/
def out0_B_12 : Vec F S1x256x5632 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).1)

/-- Case B's pieces for output 13 tile its block (1 store of `S1x256x1024`, checked by the kernel's evaluation: Lib/Ring.lean `Piece.tiledL`, linear in the pieces, through a loop's `@[irreducible]` trip theorem too), so they cover it. -/
theorem cover0_B_13 (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.1 S1x256x1024.size (by sl_kernel_rfl) y

/-- What case B leaves in output 13's staging buffer: its pieces read back over junk. -/
def out0_B_13 : Vec F S1x256x1024 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.1)

/-- Case B's pieces for output 14 tile its block (1 store of `S1x1x1024`, checked by the kernel's evaluation: Lib/Ring.lean `Piece.tiledL`, linear in the pieces, through a loop's `@[irreducible]` trip theorem too), so they cover it. -/
theorem cover0_B_14 (y : S1x1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.1 S1x1x1024.size (by sl_kernel_rfl) y

/-- What case B leaves in output 14's staging buffer: its pieces read back over junk. -/
def out0_B_14 : Vec F S1x1x1024 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.1)

/-- Case B's pieces for output 15 tile its block (1 store of `S1x1x1024`, checked by the kernel's evaluation: Lib/Ring.lean `Piece.tiledL`, linear in the pieces, through a loop's `@[irreducible]` trip theorem too), so they cover it. -/
theorem cover0_B_15 (y : S1x1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.1 S1x1x1024.size (by sl_kernel_rfl) y

/-- What case B leaves in output 15's staging buffer: its pieces read back over junk. -/
def out0_B_15 : Vec F S1x1x1024 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.1)

/-- Case B's pieces for output 16 tile its block (1 store of `S1x1024`, checked by the kernel's evaluation: Lib/Ring.lean `Piece.tiledL`, linear in the pieces, through a loop's `@[irreducible]` trip theorem too), so they cover it. -/
theorem cover0_B_16 (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.1 S1x1024.size (by sl_kernel_rfl) y

/-- What case B leaves in output 16's staging buffer: its pieces read back over junk. -/
def out0_B_16 : Vec F S1x1024 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.1)

/-- Case B's pieces for output 17 tile its block (3 stores of `S1x2816`, checked by the kernel's evaluation: Lib/Ring.lean `Piece.tiledL`, linear in the pieces, through a loop's `@[irreducible]` trip theorem too), so they cover it. -/
theorem cover0_B_17 (y : S3x2816.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.1 S1x2816.size (by sl_kernel_rfl) y

/-- What case B leaves in output 17's staging buffer: its pieces read back over junk. -/
def out0_B_17 : Vec F S3x2816 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.1)

/-- Case B's pieces for output 18 tile its block (1 store of `S1x2816`, checked by the kernel's evaluation: Lib/Ring.lean `Piece.tiledL`, linear in the pieces, through a loop's `@[irreducible]` trip theorem too), so they cover it. -/
theorem cover0_B_18 (y : S1x2816.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.1 S1x2816.size (by sl_kernel_rfl) y

/-- What case B leaves in output 18's staging buffer: its pieces read back over junk. -/
def out0_B_18 : Vec F S1x2816 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.1)

/-- Case B's pieces for scratch `arg21`, which the kernel carries between points, cover it: 2 pieces (stores and landed copies) of several sizes (`S1x256x2816`, `S1x8x2816`) tiling it when cut into blocks of `![1, 8, 2816]` (Lib/Ring.lean `Piece.tiledBy`). -/
theorem scover0_B_0 (y : S1x264x2816.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.2.1 ![1, 8, 2816] (by sl_kernel_rfl) y

/-- What case B leaves in scratch `arg21`: its pieces read back over junk. -/
def sout0_B_0 : Vec F S1x264x2816 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.2.1)

end

section

variable (c : Dev nD) (i : grid0.Coords) (arg2 : Memref sig .tc .vmem S1x256x1024 .bf16) (harg2 : arg2.IsWhole) (arg3 : Memref sig .tc .vmem S1x256x2816 .bf16) (harg3 : arg3.IsWhole) (arg4 : Memref sig .tc .vmem S1x256x2816 .bf16) (harg4 : arg4.IsWhole) (arg5 : Memref sig .tc .vmem S1x256x2816 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S3x2816 .f32) (harg11 : arg11.IsWhole) (arg12 : Memref sig .tc .vmem S2816x1024 .bf16) (harg12 : arg12.IsWhole) (arg13 : Memref sig .tc .vmem S5632x1024 .bf16) (harg13 : arg13.IsWhole) (arg14 : Memref sig .tc .vmem S1x256x5632 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1024 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x264x2816 .f32) (harg21 : arg21.IsWhole) (hc0 : ¬cond0_0 i) (hc1 : cond0_1 i)
    (x0 : Vec F S1x256x1024 .bf16) (x1 : Vec F S1x256x2816 .bf16) (x2 : Vec F S1x256x2816 .bf16) (x3 : Vec F S1x256x2816 .bf16) (x4 : Vec F S1x256x1024 .f32) (x5 : Vec F S1x256x1024 .f32) (x6 : Vec F S1x1x1024 .f32) (x7 : Vec F S1x1x1024 .f32) (x8 : Vec F S1x1024 .f32) (x9 : Vec F S3x2816 .f32) (x10 : Vec F S2816x1024 .bf16) (x11 : Vec F S5632x1024 .bf16) (xo16 : Vec F S1x1024 .f32) (xo17 : Vec F S3x2816 .f32) (xo18 : Vec F S1x2816 .f32)

/-- Case C's pieces for output 12 tile its block (2 stores of `S1x256x2816`, checked by the kernel's evaluation: Lib/Ring.lean `Piece.tiledL`, linear in the pieces, through a loop's `@[irreducible]` trip theorem too), so they cover it. -/
theorem cover0_C_12 (y : S1x256x5632.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).1 S1x256x2816.size (by sl_kernel_rfl) y

/-- What case C leaves in output 12's staging buffer: its pieces read back over junk. -/
def out0_C_12 : Vec F S1x256x5632 .bf16 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).1)

/-- Case C's pieces for output 13 tile its block (1 store of `S1x256x1024`, checked by the kernel's evaluation: Lib/Ring.lean `Piece.tiledL`, linear in the pieces, through a loop's `@[irreducible]` trip theorem too), so they cover it. -/
theorem cover0_C_13 (y : S1x256x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.1 S1x256x1024.size (by sl_kernel_rfl) y

/-- What case C leaves in output 13's staging buffer: its pieces read back over junk. -/
def out0_C_13 : Vec F S1x256x1024 .f32 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.1)

/-- Case C's pieces for output 14 tile its block (2 stores of `S1x1x1024`, checked by the kernel's evaluation: Lib/Ring.lean `Piece.tiledL`, linear in the pieces, through a loop's `@[irreducible]` trip theorem too), so they cover it. -/
theorem cover0_C_14 (y : S1x1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.1 S1x1x1024.size (by sl_kernel_rfl) y

/-- What case C leaves in output 14's staging buffer: its pieces read back over junk. -/
def out0_C_14 : Vec F S1x1x1024 .f32 :=
  VO0_14.read (Elt F) (VO0_14.writes (Elt F) VO0_14.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.1)

/-- Case C's pieces for output 15 tile its block (2 stores of `S1x1x1024`, checked by the kernel's evaluation: Lib/Ring.lean `Piece.tiledL`, linear in the pieces, through a loop's `@[irreducible]` trip theorem too), so they cover it. -/
theorem cover0_C_15 (y : S1x1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.1 S1x1x1024.size (by sl_kernel_rfl) y

/-- What case C leaves in output 15's staging buffer: its pieces read back over junk. -/
def out0_C_15 : Vec F S1x1x1024 .f32 :=
  VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.1)

/-- Case C's pieces for output 16 tile its block (1 store of `S1x1024`, checked by the kernel's evaluation: Lib/Ring.lean `Piece.tiledL`, linear in the pieces, through a loop's `@[irreducible]` trip theorem too), so they cover it. -/
theorem cover0_C_16 (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.1 S1x1024.size (by sl_kernel_rfl) y

/-- What case C leaves in output 16's staging buffer: its pieces read back over junk. -/
def out0_C_16 : Vec F S1x1024 .f32 :=
  VO0_16.read (Elt F) (VO0_16.writes (Elt F) VO0_16.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.1)

/-- Case C's pieces for output 17 tile its block (3 stores of `S1x2816`, checked by the kernel's evaluation: Lib/Ring.lean `Piece.tiledL`, linear in the pieces, through a loop's `@[irreducible]` trip theorem too), so they cover it. -/
theorem cover0_C_17 (y : S3x2816.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.1 S1x2816.size (by sl_kernel_rfl) y

/-- What case C leaves in output 17's staging buffer: its pieces read back over junk. -/
def out0_C_17 : Vec F S3x2816 .f32 :=
  VO0_17.read (Elt F) (VO0_17.writes (Elt F) VO0_17.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.1)

/-- Case C's pieces for output 18 tile its block (1 store of `S1x2816`, checked by the kernel's evaluation: Lib/Ring.lean `Piece.tiledL`, linear in the pieces, through a loop's `@[irreducible]` trip theorem too), so they cover it. -/
theorem cover0_C_18 (y : S1x2816.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.1 S1x2816.size (by sl_kernel_rfl) y

/-- What case C leaves in output 18's staging buffer: its pieces read back over junk. -/
def out0_C_18 : Vec F S1x2816 .f32 :=
  VO0_18.read (Elt F) (VO0_18.writes (Elt F) VO0_18.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.1)

/-- Case C's pieces for scratch `arg21`, which the kernel carries between points, cover it: 3 pieces (stores and landed copies) of several sizes (`S1x256x2816`, `S1x8x2816`) tiling it when cut into blocks of `![1, 8, 2816]` (Lib/Ring.lean `Piece.tiledBy`). -/
theorem scover0_C_0 (y : S1x264x2816.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.2.1, y ∈ pc.1.set :=
  View.cover_of_tiledBy (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.2.1 ![1, 8, 2816] (by sl_kernel_rfl) y

/-- What case C leaves in scratch `arg21`: its pieces read back over junk. -/
def sout0_C_0 : Vec F S1x264x2816 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.2.1)

/-! ## What the outputs hold after each point -/

end

end Cert.KernelIdeal.Ffn

end
-- ==== Proof.Frame.Frame.lean ====
/-
  The frame of the kernel: the contents of every output block after every grid point, the pipeline's proof data, the body
  at every point, and the launch. It follows the launch kit's form for a kernel whose body carries a scratch between points.
-/
module

public import proofs.«01_k».proof.Proof.Frame.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Ffn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x5632 .bf16 × Vec F S1x256x1024 .f32 × Vec F S1x1x1024 .f32 × Vec F S1x1x1024 .f32 × Vec F S1x1024 .f32 × Vec F S3x2816 .f32 × Vec F S1x2816 .f32 × Vec F S1x264x2816 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 32 = 0 then
      if h1 : (n + 1) % 8 = 0 then
        (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
      else
        False.elim (by have hN : n + 1 < 32 := lt_of_lt_of_eq hn (show cfg0.N = 32 from N_0); omega)
    else
      if h1 : (n + 1) % 8 = 0 then
        (out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1)
      else
        (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2)

/-- `outsAt0` at a point of case A: that case's contents. -/
theorem outsAt0_A (c : Dev nD) (t : Fin cfg0.N) (h0 : t.val % 32 = 0) (h1 : t.val % 8 = 0) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 32 = 0) (h1 : ¬t.val % 8 = 0) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 8 = 0) :
    outsAt0 m c t.val t.isLt = (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨_ + 19, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 14's current staging buffer holds what the body left at the point before: the point is
    not the first, the buffer was not written back between (`flush0_14`), the window is live and uncut (Lib/Pipeline/Frame.lean
    `Dat.before_out_kept`). -/
theorem before0_14_B (c : Dev nD) (t : Fin cfg0.N) (h0 : ¬t.val % 32 = 0) (h1 : ¬t.val % 8 = 0) (d) :
    (dats m 0 c).before 14 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
/-- At a point of case B output 15's current staging buffer holds what the body left at the point before: the point is
    not the first, the buffer was not written back between (`flush0_15`), the window is live and uncut (Lib/Pipeline/Frame.lean
    `Dat.before_out_kept`). -/
theorem before0_15_B (c : Dev nD) (t : Fin cfg0.N) (h0 : ¬t.val % 32 = 0) (h1 : ¬t.val % 8 = 0) (d) :
    (dats m 0 c).before 15 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]
/-- At a point of case B output 16's current staging buffer holds what the body left at the point before: the point is
    not the first, the buffer was not written back between (`flush0_16`), the window is live and uncut (Lib/Pipeline/Frame.lean
    `Dat.before_out_kept`). -/
theorem before0_16_B (c : Dev nD) (t : Fin cfg0.N) (h0 : ¬t.val % 32 = 0) (h1 : ¬t.val % 8 = 0) (d) :
    (dats m 0 c).before 16 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 32 = 0) (h1 : ¬t.val % 8 = 0) (d) :
    (dats m 0 c).before 17 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 32 = 0) (h1 : ¬t.val % 8 = 0) (d) :
    (dats m 0 c).before 18 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]
/-- At a point of case C output 16's current staging buffer holds what the body left at the point before: the point is
    not the first, the buffer was not written back between (`flush0_16`), the window is live and uncut (Lib/Pipeline/Frame.lean
    `Dat.before_out_kept`). -/
theorem before0_16_C (c : Dev nD) (t : Fin cfg0.N) (h0 : ¬t.val % 32 = 0) (h1 : t.val % 8 = 0) (d) :
    (dats m 0 c).before 16 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case C output 17's current staging buffer holds what the body left at the point before: the point is
    not the first, the buffer was not written back between (`flush0_17`), the window is live and uncut (Lib/Pipeline/Frame.lean
    `Dat.before_out_kept`). -/
theorem before0_17_C (c : Dev nD) (t : Fin cfg0.N) (h0 : ¬t.val % 32 = 0) (h1 : t.val % 8 = 0) (d) :
    (dats m 0 c).before 17 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case C output 18's current staging buffer holds what the body left at the point before: the point is
    not the first, the buffer was not written back between (`flush0_18`), the window is live and uncut (Lib/Pipeline/Frame.lean
    `Dat.before_out_kept`). -/
theorem before0_18_C (c : Dev nD) (t : Fin cfg0.N) (h0 : ¬t.val % 32 = 0) (h1 : t.val % 8 = 0) (d) :
    (dats m 0 c).before 18 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 8 = 0
    · by_cases hz : t.val = 0
      · rw [PhiS_castSucc m c t, PhiS_zero m c _ _ hz, PhiA0_eq]
        rw [outsAt0_A m c t h0 h1]
        unfold out0_A_12 out0_A_13 out0_A_14 out0_A_15 out0_A_16 out0_A_17 out0_A_18 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_A c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [HS0]; · iexact HS0
        iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 32 := lt_of_lt_of_eq t.isLt (show cfg0.N = 32 from N_0); omega
    · exfalso; omega
  · by_cases h1 : t.val % 8 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_16_C m c t h0 h1, before0_17_C m c t h0 h1, before0_18_C m c t h0 h1]
        unfold out0_C_12 out0_C_13 out0_C_14 out0_C_15 out0_C_16 out0_C_17 out0_C_18 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexact H16
        isplitl [H17]; · iexact H17
        isplitl [H18]; · iexact H18
        isplitl [HS0]; · iexists _; iexact HS0
        iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H18
        ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _)
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_14_B m c t h0 h1, before0_15_B m c t h0 h1, before0_16_B m c t h0 h1, before0_17_B m c t h0 h1, before0_18_B m c t h0 h1]
        unfold out0_B_12 out0_B_13 out0_B_14 out0_B_15 out0_B_16 out0_B_17 out0_B_18 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexact H14
        isplitl [H15]; · iexact H15
        isplitl [H16]; · iexact H16
        isplitl [H17]; · iexact H17
        isplitl [H18]; · iexact H18
        isplitl [HS0]; · iexact HS0
        iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Ffn

end
-- ==== Proof.Reads.lean ====
/-
  What the kernel's input blocks hold at a grid point: point `t` works on batch element `t / 8` and on the rows from
  `256 · (7 − t mod 8)`, the tiles of a sequence being taken from its end.
-/
module

public import proofs.«01_k».proof.Proof.Spec
public import proofs.«01_k».proof.Proof.Block
public import proofs.«01_k».proof.Proof.Frame.Frame
public import Idealize.ShloMosaic.Lib.Pipeline.ValueKit.Geometry
public import Idealize.ShloMosaic.Lib.Pipeline.ValueKit.Tiles

@[expose] public section

set_option maxRecDepth 16384

noncomputable section

namespace Cert.KernelIdeal.Ffn

open Cert.KernelIdeal Cert.KernelIdeal.Gen Idealize.ShloMosaic Idealize.ShloMosaic.TcCoe
open Cert.FfnSpec Cert.KernelIdeal.FfnBlock
open Idealize.ShloMosaic.Pipeline (Dat Window)

variable (m : (ℓ : Loc nD τ sig) → Buf (Elt Ideal) ℓ) (c : Dev nD)

/-- The arrays the kernel reads, as its launch finds them. -/
def insK : Ins where
  ddn b t d := V m c main_v54 (ix3 b t d)
  g b t n := V m c main_v58 (ix3 b t n)
  gc b t n := V m c main_v59 (ix3 b t n)
  v b t n := V m c main_v60 (ix3 b t n)
  x b t d := V m c main_arg0 (ix3 b t d)
  dx2 b t d := V m c main_arg9 (ix3 b t d)
  sc b d := V m c main_v62 (ix3 b 0 d)
  gf d := V m c main_arg4 (ix2 0 d)
  wc k n := V m c main_arg6 (ix2 k n)
  wd n d := V m c main_v57 (ix2 n d)
  wu n d := V m c main_v56 (ix2 n d)

/-- The batch element and the first row of point `n`. -/
def pB (n : ℕ) : Fin 4 := ⟨n / 8 % 4, by omega⟩
def pT (n : ℕ) : ℕ := 256 * (7 - n % 8)
theorem pT_le (n : ℕ) : pT n + 256 ≤ 2048 := by unfold pT; omega

theorem lt32 (t : Fin cfg0.N) : t.val < 32 := lt_of_lt_of_eq t.isLt N_0

theorem e0 : ∀ t : Fin cfg0.N, win0_0.index t = ![t.val / 8, 7 - t.val % 8, 0] := (by decide +kernel : ∀ t : Fin grid0.N, _)
theorem e1 : ∀ t : Fin cfg0.N, win0_1.index t = ![t.val / 8, 7 - t.val % 8, 0] := (by decide +kernel : ∀ t : Fin grid0.N, _)
theorem e2 : ∀ t : Fin cfg0.N, win0_2.index t = ![t.val / 8, 7 - t.val % 8, 0] := (by decide +kernel : ∀ t : Fin grid0.N, _)
theorem e3 : ∀ t : Fin cfg0.N, win0_3.index t = ![t.val / 8, 7 - t.val % 8, 0] := (by decide +kernel : ∀ t : Fin grid0.N, _)
theorem e4 : ∀ t : Fin cfg0.N, win0_4.index t = ![t.val / 8, 7 - t.val % 8, 0] := (by decide +kernel : ∀ t : Fin grid0.N, _)
theorem e5 : ∀ t : Fin cfg0.N, win0_5.index t = ![t.val / 8, 7 - t.val % 8, 0] := (by decide +kernel : ∀ t : Fin grid0.N, _)
theorem e7 : ∀ t : Fin cfg0.N, win0_7.index t = ![t.val / 8, 0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![t.val / 8, 7 - t.val % 8, 0] := (by decide +kernel : ∀ t : Fin grid0.N, _)
theorem e13 : ∀ t : Fin cfg0.N, win0_13.index t = ![t.val / 8, 7 - t.val % 8, 0] := (by decide +kernel : ∀ t : Fin grid0.N, _)
theorem e14 : ∀ t : Fin cfg0.N, win0_14.index t = ![t.val / 8, 0, 0] := (by decide +kernel : ∀ t : Fin grid0.N, _)
theorem e15 : ∀ t : Fin cfg0.N, win0_15.index t = ![t.val / 8, 0, 0] := (by decide +kernel : ∀ t : Fin grid0.N, _)
theorem e16 : ∀ t : Fin cfg0.N, win0_16.index t = ![0, 0] := (by decide +kernel : ∀ t : Fin grid0.N, _)
theorem e17 : ∀ t : Fin cfg0.N, win0_17.index t = ![0, 0] := (by decide +kernel : ∀ t : Fin grid0.N, _)
theorem e18 : ∀ t : Fin cfg0.N, win0_18.index t = ![0, 0] := (by decide +kernel : ∀ t : Fin grid0.N, _)

variable (t : Fin cfg0.N)

theorem b0 (r : Fin 256) (k : Fin 1024) : iblk m c 0 t (ix3 0 r k) = (insK m c).ddn (pB t.val) (row (pT_le t.val) r) k := by
  have := lt32 t
  unfold insK
  blk_simp [iblk, e0]
  refine congrArg (V m c main_v54) ?_
  unfold pB row pT
  blk_ext [e0]

theorem b1 (r : Fin 256) (k : Fin 2816) : iblk m c 1 t (ix3 0 r k) = (insK m c).g (pB t.val) (row (pT_le t.val) r) k := by
  have := lt32 t
  unfold insK
  blk_simp [iblk, e1]
  refine congrArg (V m c main_v58) ?_
  unfold pB row pT
  blk_ext [e1]

theorem b2 (r : Fin 256) (k : Fin 2816) : iblk m c 2 t (ix3 0 r k) = (insK m c).gc (pB t.val) (row (pT_le t.val) r) k := by
  have := lt32 t
  unfold insK
  blk_simp [iblk, e2]
  refine congrArg (V m c main_v59) ?_
  unfold pB row pT
  blk_ext [e2]

theorem b3 (r : Fin 256) (k : Fin 2816) : iblk m c 3 t (ix3 0 r k) = (insK m c).v (pB t.val) (row (pT_le t.val) r) k := by
  have := lt32 t
  unfold insK
  blk_simp [iblk, e3]
  refine congrArg (V m c main_v60) ?_
  unfold pB row pT
  blk_ext [e3]

theorem b4 (r : Fin 256) (k : Fin 1024) : iblk m c 4 t (ix3 0 r k) = (insK m c).x (pB t.val) (row (pT_le t.val) r) k := by
  have := lt32 t
  unfold insK
  blk_simp [iblk, e4]
  refine congrArg (V m c main_arg0) ?_
  unfold pB row pT
  blk_ext [e4]

theorem b5 (r : Fin 256) (k : Fin 1024) : iblk m c 5 t (ix3 0 r k) = (insK m c).dx2 (pB t.val) (row (pT_le t.val) r) k := by
  have := lt32 t
  unfold insK
  blk_simp [iblk, e5]
  refine congrArg (V m c main_arg9) ?_
  unfold pB row pT
  blk_ext [e5]

theorem b7 (k : Fin 1024) : iblk m c 7 t (ix3 0 0 k) = (insK m c).sc (pB t.val) k := by
  have := lt32 t
  unfold insK
  blk_simp [iblk, e7]
  refine congrArg (V m c main_v62) ?_
  unfold pB
  blk_ext [e7]

theorem b8 (k : Fin 1024) : iblk m c 8 t (ix2 0 k) = (insK m c).gf k := by
  unfold insK
  blk_simp [iblk, e8]
  refine congrArg (V m c main_arg4) ?_
  blk_ext [e8]

theorem b9 (i : Fin 3) (k : Fin 2816) : iblk m c 9 t (ix2 i k) = (insK m c).wc i k := by
  unfold insK
  blk_simp [iblk, e9]
  refine congrArg (V m c main_arg6) ?_
  blk_ext [e9]

theorem b10 (i : Fin 2816) (k : Fin 1024) : iblk m c 10 t (ix2 i k) = (insK m c).wd i k := by
  unfold insK
  blk_simp [iblk, e10]
  refine congrArg (V m c main_v57) ?_
  blk_ext [e10]

theorem b11 (i : Fin 5632) (k : Fin 1024) : iblk m c 11 t (ix2 i k) = (insK m c).wu i k := by
  unfold insK
  blk_simp [iblk, e11]
  refine congrArg (V m c main_v56) ?_
  blk_ext [e11]

/-- The lower and the upper half of the up projection's block, each read as the body loads it. -/
theorem b11_lo (h : ∀ a, (![0, 0] : Fin 2 → ℕ) a + (![2816, 1024] : Fin 2 → ℕ) a ≤ S5632x1024.size a) (i : Fin 2816) (k : Fin 1024) :
    View.ld (iblk m c 11 t) (Rect.unit (s := S5632x1024) ![0, 0] ![2816, 1024] h) (ix2 i k) = (insK m c).wu (lo i) k := by
  rw [View.ld_unit_apply_of (iblk m c 11 t) _ _ _ _ (ix2 (lo i) k) (by intro a; fin_cases a <;> simp [lo] <;> rfl)]
  exact b11 m c t _ _

theorem b11_hi (h : ∀ a, (![2816, 0] : Fin 2 → ℕ) a + (![2816, 1024] : Fin 2 → ℕ) a ≤ S5632x1024.size a) (i : Fin 2816) (k : Fin 1024) :
    View.ld (iblk m c 11 t) (Rect.unit (s := S5632x1024) ![2816, 0] ![2816, 1024] h) (ix2 i k) = (insK m c).wu (hi i) k := by
  rw [View.ld_unit_apply_of (iblk m c 11 t) _ _ _ _ (ix2 (hi i) k) (by intro a; fin_cases a <;> simp [hi] <;> rfl)]
  exact b11 m c t _ _

end Cert.KernelIdeal.Ffn
-- ==== Proof.Scratch.lean ====
/-
  Reading a buffer that a few rectangle stores have filled: the scratch whose last eight rows are carried over from the
  point before, and the three rows of the taps' gradient.
-/
module

public import proofs.«01_k».proof.Proof.Block
public import Idealize.ShloMosaic.Lib.WritesUnit
public import Idealize.ShloMosaic.Lib.Pipeline.Frame
public import Idealize.ShloMosaic.Lib.Pipeline.ValueKit.Tiles

@[expose] public section

set_option maxRecDepth 16384

noncomputable section

namespace Cert.KernelIdeal.FfnBlock

open Cert.KernelIdeal Cert.KernelIdeal.Gen Idealize.ShloMosaic

section General

variable {s : Shape} {e : EltTy} {Val : EltTy → Type} [∀ e, Nonempty (Val e)]

theorem canon_unit_hit (off size : Fin s.rank → ℕ) {inb : ∀ a, off a + size a ≤ s.size a}
    (w : (Rect.unit off size inb).shape.Idx → Val e) (L : List (View.Piece Val s e)) {y : s.Idx}
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]; exact View.canon_cons_emb _ w L x

theorem canon_unit_miss (off size : Fin s.rank → ℕ) {inb : ∀ a, off a + size a ≤ s.size a}
    (w : (Rect.unit off size inb).shape.Idx → Val e) (L : List (View.Piece Val s e)) {y : s.Idx}
    (a : Fin s.rank) (h : (y a).val < off a ∨ off a + size a ≤ (y a).val) :
    View.canon ((⟨Rect.unit off size inb, w⟩ : View.Piece Val s e) :: L) y = View.canon L y :=
  View.canon_cons_of_not_mem _ L fun hm => by
    have := (Rect.mem_set_unit (off := off) (size := size) (inb := inb)).mp hm a
    omega

end General

variable {sig : RefSig} {κ : Kind} {sp : Space}

/-- The scratch after the point's rows were stored over what the point before left. -/
theorem ext_over (v : Memref sig κ sp S1x264x2816 .f32) (hv : v.IsWhole) (P : Vec Ideal S1x256x2816 .f32) (xs : Vec Ideal S1x264x2816 .f32)
    (D : ℕ → Fin 2816 → EReal) (hP : ∀ r c, P (ix3 0 r c) = D r.val c)
    (hx : ∀ (j : Fin 8) c, xs (ix3 0 ⟨256 + j.val, by omega⟩ c) = D (256 + j.val) c)
    (inb : ∀ a, (![0, 0, 0] : Fin 3 → ℕ) a + (![1, 256, 2816] : Fin 3 → ℕ) a ≤ S1x264x2816.size a) (n : Fin 264) (c : Fin 2816) :
    View.read (Elt Ideal) v.view (v.view.writes (Elt Ideal) (hv.unread xs)
      [(⟨Rect.unit ![0, 0, 0] ![1, 256, 2816] inb, P⟩ : View.Piece (Elt Ideal) S1x264x2816 .f32)]) (ix3 0 n c) = D n.val c := by
  by_cases h : n.val < 256
  · rw [View.read_writes_cons_unit_of_mem v.view _ inb P [] (ix3 0 n c) (ix3 0 ⟨n.val, h⟩ c) rfl
      (by intro a; fin_cases a <;> simp)]
    exact hP _ _
  · rw [View.read_writes_cons_unit_of_not_mem v.view _ inb P [] (ix3 0 n c) rfl 1 (Or.inr (by show 0 + 256 ≤ n.val; omega)),
      View.writes_nil, hv.read_unread]
    have := hx ⟨n.val - 256, by omega⟩ c
    have e : (⟨256 + (n.val - 256), by omega⟩ : Fin 264) = n := Fin.ext (by show 256 + (n.val - 256) = n.val; omega)
    simp only [e] at this
    rw [this]
    exact congrArg (D · c) (by omega)

/-- The scratch after the point's rows were stored over eight rows of zeros. -/
theorem ext_fresh (v : View sig κ sp S1x264x2816 .f32) (P : Vec Ideal S1x256x2816 .f32)
    (D : ℕ → Fin 2816 → EReal) (hP : ∀ r c, P (ix3 0 r c) = D r.val c) (hx : ∀ n c, 256 ≤ n → D n c = 0)
    (inb : ∀ a, (![0, 0, 0] : Fin 3 → ℕ) a + (![1, 256, 2816] : Fin 3 → ℕ) a ≤ S1x264x2816.size a)
    (inb' : ∀ a, (![0, 256, 0] : Fin 3 → ℕ) a + (![1, 8, 2816] : Fin 3 → ℕ) a ≤ S1x264x2816.size a)
    (inb'' : ∀ a, (![0, 0, 0] : Fin 3 → ℕ) a + (![1, 264, 2816] : Fin 3 → ℕ) a ≤ S1x264x2816.size a) (n : Fin 264) (c : Fin 2816) :
    v.readCov [(⟨Rect.unit ![0, 0, 0] ![1, 256, 2816] inb, P⟩ : View.Piece (Elt Ideal) S1x264x2816 .f32),
      ⟨Rect.unit ![0, 256, 0] ![1, 8, 2816] inb', k0_pay9 (F := Ideal)⟩] (Rect.unit (s := S1x264x2816) ![0, 0, 0] ![1, 264, 2816] inb'').toLoadRect (ix3 (0 : Fin 1) n c) = D n.val c := by
  rw [View.readCov_eq_canon']
  have hi : ∀ a, ((Rect.unit (s := S1x264x2816) ![0, 0, 0] ![1, 264, 2816] inb'').toLoadRect.idx (ix3 0 n c) a).val = ((ix3 0 n c : S1x264x2816.Idx) a).val := by
    intro a; fin_cases a <;> simp
  have hy : (Rect.unit (s := S1x264x2816) ![0, 0, 0] ![1, 264, 2816] inb'').toLoadRect.idx (ix3 0 n c) = ix3 0 n c :=
    funext fun a => Fin.ext (hi a)
  show View.canon _ _ = _
  rw [hy]
  by_cases h : n.val < 256
  · rw [canon_unit_hit (s := S1x264x2816) ![0, 0, 0] ![1, 256, 2816] P _ (ix3 (0 : Fin 1) ⟨n.val, h⟩ c) (by intro a; fin_cases a <;> simp)]
    exact hP _ _
  · rw [canon_unit_miss (s := S1x264x2816) ![0, 0, 0] ![1, 256, 2816] P _ 1 (Or.inr (by show 0 + 256 ≤ n.val; omega)),
      canon_unit_hit (s := S1x264x2816) (e := .f32) (Val := Elt Ideal) (inb := inb') ![0, 256, 0] ![1, 8, 2816] (k0_pay9 (F := Ideal)) _ (ix3 (0 : Fin 1) ⟨n.val - 256, by omega⟩ c) (by
        intro a; fin_cases a <;> simp; omega), hx _ _ (by omega)]
    pointwise [k0_pay9]

/-- The three rows of the taps' gradient, stored one after the other. -/
theorem rows3 (w0 w1 w2 : Vec Ideal S1x2816 .f32) (L : List (View.Piece (Elt Ideal) S3x2816 .f32)) (G : Fin 3 → Fin 2816 → EReal)
    (h0 : ∀ c, w0 (ix2 0 c) = G 0 c) (h1 : ∀ c, w1 (ix2 0 c) = G 1 c) (h2 : ∀ c, w2 (ix2 0 c) = G 2 c)
    (i0 : ∀ a, (![0, 0] : Fin 2 → ℕ) a + (![1, 2816] : Fin 2 → ℕ) a ≤ S3x2816.size a)
    (i1 : ∀ a, (![1, 0] : Fin 2 → ℕ) a + (![1, 2816] : Fin 2 → ℕ) a ≤ S3x2816.size a)
    (i2 : ∀ a, (![2, 0] : Fin 2 → ℕ) a + (![1, 2816] : Fin 2 → ℕ) a ≤ S3x2816.size a) (k : Fin 3) (c : Fin 2816) :
    View.canon ((⟨Rect.unit ![2, 0] ![1, 2816] i2, w2⟩ : View.Piece (Elt Ideal) S3x2816 .f32) :: ⟨Rect.unit ![1, 0] ![1, 2816] i1, w1⟩
      :: ⟨Rect.unit ![0, 0] ![1, 2816] i0, w0⟩ :: L) (ix2 k c) = G k c := by
  match k with
  | 0 =>
    refine (canon_unit_miss (s := S3x2816) ![2, 0] ![1, 2816] w2 _ (0 : Fin 2) (Or.inl (by simp))).trans ?_
    refine (canon_unit_miss (s := S3x2816) ![1, 0] ![1, 2816] w1 _ (0 : Fin 2) (Or.inl (by simp))).trans ?_
    exact (canon_unit_hit (s := S3x2816) ![0, 0] ![1, 2816] w0 _ (ix2 (0 : Fin 1) c) (by intro a; fin_cases a <;> simp)).trans (h0 c)
  | 1 =>
    refine (canon_unit_miss (s := S3x2816) ![2, 0] ![1, 2816] w2 _ (0 : Fin 2) (Or.inl (by simp))).trans ?_
    exact (canon_unit_hit (s := S3x2816) ![1, 0] ![1, 2816] w1 _ (ix2 (0 : Fin 1) c) (by intro a; fin_cases a <;> simp)).trans (h1 c)
  | 2 =>
    exact (canon_unit_hit (s := S3x2816) ![2, 0] ![1, 2816] w2 _ (ix2 (0 : Fin 1) c) (by intro a; fin_cases a <;> simp)).trans (h2 c)

/-- A row of the taps' gradient, loaded. -/
theorem row_ld (xo : Vec Ideal S3x2816 .f32) (k : Fin 3) (off : Fin 2 → ℕ) (ho : off = ![k.val, 0])
    (i : ∀ a, off a + (![1, 2816] : Fin 2 → ℕ) a ≤ S3x2816.size a) (c : Fin 2816) :
    View.ld xo (Rect.unit (s := S3x2816) off ![1, 2816] i) (ix2 0 c) = xo (ix2 k c) := by
  subst ho
  rw [View.ld_unit_apply_of xo _ _ _ _ (ix2 k c) (by intro a; fin_cases a <;> simp)]

/-- A row loaded after the whole buffer was zeroed, and after rows before it were stored. -/
theorem row_zero (v : View sig κ sp S3x2816 .f32) (k : Fin 3) (off : Fin 2 → ℕ) (ho : off = ![k.val, 0])
    (i : ∀ a, off a + (![1, 2816] : Fin 2 → ℕ) a ≤ S3x2816.size a)
    (iw : ∀ a, (![0, 0] : Fin 2 → ℕ) a + (![3, 2816] : Fin 2 → ℕ) a ≤ S3x2816.size a)
    (Z : Vec Ideal S3x2816 .f32) (hZ : ∀ k c, Z (ix2 k c) = 0) (c : Fin 2816) :
    v.readCov [(⟨Rect.unit ![0, 0] ![3, 2816] iw, Z⟩ : View.Piece (Elt Ideal) S3x2816 .f32)]
      (Rect.unit (s := S3x2816) off ![1, 2816] i).toLoadRect (ix2 (0 : Fin 1) c) = (0 : EReal) := by
  subst ho
  refine (congrFun (View.readCov_eq_canon' v _ _) _).trans ?_
  exact (canon_unit_hit (s := S3x2816) (e := .f32) (Val := Elt Ideal) (inb := iw) ![0, 0] ![3, 2816] Z _ (ix2 k c)
    (by intro a; fin_cases a <;> simp)).trans (hZ k c)

theorem zero3 (k : Fin 3) (c : Fin 2816) : k0_pay5 (F := Ideal) (ix2 k c) = (0 : EReal) := by
  pointwise [k0_pay5]

theorem row_skip (v : View sig κ sp S3x2816 .f32) (k k' : ℕ) (hk : k < k') (off off' : Fin 2 → ℕ) (ho : off = ![k, 0]) (ho' : off' = ![k', 0])
    (i : ∀ a, off' a + (![1, 2816] : Fin 2 → ℕ) a ≤ S3x2816.size a)
    (i' : ∀ a, off a + (![1, 2816] : Fin 2 → ℕ) a ≤ S3x2816.size a)
    (w : Vec Ideal S1x2816 .f32) (L : List (View.Piece (Elt Ideal) S3x2816 .f32)) (c : Fin 2816) :
    v.readCov ((⟨Rect.unit off ![1, 2816] i', w⟩ : View.Piece (Elt Ideal) S3x2816 .f32) :: L)
      (Rect.unit (s := S3x2816) off' ![1, 2816] i).toLoadRect (ix2 (0 : Fin 1) c)
      = v.readCov L (Rect.unit (s := S3x2816) off' ![1, 2816] i).toLoadRect (ix2 (0 : Fin 1) c) := by
  subst ho ho'
  refine (congrFun (View.readCov_eq_canon' v _ _) _).trans (Eq.trans ?_ (congrFun (View.readCov_eq_canon' v L _) _).symm)
  exact canon_unit_miss (s := S3x2816) ![k, 0] ![1, 2816] w _ (0 : Fin 2) (Or.inr (by show k + 1 ≤ k' + 1 * 0; omega))

end Cert.KernelIdeal.FfnBlock
-- ==== Proof.Point.lean ====
/-
  What every output's staging buffer holds after a grid point, as the sums of Spec.lean over the point's rows.
-/
module

public import proofs.«01_k».proof.Proof.Reads
public import proofs.«01_k».proof.Proof.Scratch

@[expose] public section

set_option maxRecDepth 16384

noncomputable section

namespace Cert.KernelIdeal.Ffn

open Cert.KernelIdeal Cert.KernelIdeal.Gen Idealize.ShloMosaic Idealize.ShloMosaic.TcCoe
open Cert.FfnSpec Cert.KernelIdeal.FfnBlock
open Idealize.ShloMosaic.Pipeline (Dat Window)

variable (m : (ℓ : Loc nD τ sig) → Buf (Elt Ideal) ℓ) (c : Dev nD) (t : Fin cfg0.N)

theorem dv_pt (r : Fin 256) (n : Fin 2816) :
    k0_pay16 (F := Ideal) (iblk m c 0 t) (iblk m c 10 t) (iblk m c 2 t) (ix2 r n) = dv (insK m c) (pB t.val) (row (pT_le t.val) r) n :=
  dv_eq (insK m c) (pB t.val) (pT t.val) (pT_le t.val) (b0 m c t) (b10 m c t) (b2 m c t) r n

theorem dgc_pt (r : Fin 256) (n : Fin 2816) :
    k0_pay19 (F := Ideal) (k0_pay17 (iblk m c 0 t) (iblk m c 10 t) (iblk m c 3 t)) (k0_pay18 (iblk m c 2 t)) (ix2 r n)
      = dgc (insK m c) (pB t.val) (row (pT_le t.val) r) n :=
  dgc_eq (insK m c) (pB t.val) (pT t.val) (pT_le t.val) (b0 m c t) (b10 m c t) (b2 m c t) (b3 m c t) r n

/-- The eight rows a point leaves for the next one are its own first eight rows. -/
theorem carry_pt (j : Fin 8) (n : Fin 2816) :
    (outsAt0 m c t.val t.isLt).2.2.2.2.2.2.2 (ix3 0 ⟨256 + j.val, by omega⟩ n) = dgcAt (insK m c) (pB t.val) (pT t.val + j.val) n := by
  by_cases h0 : t.val % 32 = 0
  · rw [outsAt0_A m c t h0 (by omega)]
    frame_out
    refine (canon_unit_hit (s := S1x264x2816) ![0, 256, 0] ![1, 8, 2816] _ _ (ix3 (0 : Fin 1) j n) (by intro a; fin_cases a <;> simp)).trans ?_
    exact carry_eq (insK m c) (pB t.val) (pT t.val) (pT_le t.val) (dgc_pt m c t) j n
  · by_cases h1 : t.val % 8 = 0
    · rw [outsAt0_C m c t h0 h1]
      frame_out
      refine (canon_unit_hit (s := S1x264x2816) ![0, 256, 0] ![1, 8, 2816] _ _ (ix3 (0 : Fin 1) j n) (by intro a; fin_cases a <;> simp)).trans ?_
      exact carry_eq (insK m c) (pB t.val) (pT t.val) (pT_le t.val) (dgc_pt m c t) j n
    · rw [outsAt0_B m c t h0 h1]
      frame_out
      refine (canon_unit_hit (s := S1x264x2816) ![0, 256, 0] ![1, 8, 2816] _ _ (ix3 (0 : Fin 1) j n) (by intro a; fin_cases a <;> simp)).trans ?_
      exact carry_eq (insK m c) (pB t.val) (pT t.val) (pT_le t.val) (dgc_pt m c t) j n

/-- Past the end of the sequence there is nothing. -/
theorem dgcAt_zero (I : Ins) (b : Fin 4) (n : ℕ) (h : 2048 ≤ n) (k : Fin 2816) : dgcAt I b n k = 0 := by
  unfold dgcAt; rw [dif_neg (by omega)]

/-- What a scratch has to hold for the point's products: row `n` the gradient `n` rows after the point's first. -/
abbrev ExtAt (e : Vec Ideal S1x264x2816 .f32) : Prop :=
  ∀ n k, e (ix3 0 n k) = dgcAt (insK m c) (pB t.val) (pT t.val + n.val) k

theorem rows_pt (r : Fin 256) (k : Fin 2816) :
    k0_pay20 (F := Ideal) (k0_pay17 (iblk m c 0 t) (iblk m c 10 t) (iblk m c 3 t)) (k0_pay18 (iblk m c 2 t)) (ix3 0 r k)
      = dgcAt (insK m c) (pB t.val) (pT t.val + r.val) k :=
  ext_eq (insK m c) (pB t.val) (pT t.val) (pT_le t.val) (dgc_pt m c t) r k

/-- At the last tile of a sequence, which is taken first, the rows past it are zeros. -/
theorem fresh_pt (h : t.val % 8 = 0) : ExtAt m c t ((View.whole cc0_scratch0).readCov
    [(⟨Rect.unit ![0, 0, 0] ![1, 256, 2816] inb_S1x264x2816_S1x256x2816_0_0_0,
        k0_pay20 (k0_pay17 (iblk m c 0 t) (iblk m c 10 t) (iblk m c 3 t)) (k0_pay18 (iblk m c 2 t))⟩ : View.Piece (Elt Ideal) S1x264x2816 .f32),
      ⟨Rect.unit ![0, 256, 0] ![1, 8, 2816] inb_S1x264x2816_S1x8x2816_0_256_0, k0_pay9 (F := Ideal)⟩]
    (Rect.unit (s := S1x264x2816) ![0, 0, 0] ![1, 264, 2816] inb_S1x264x2816_S1x264x2816_0_0_0).toLoadRect) :=
  ext_fresh (View.whole cc0_scratch0) _ (fun n k => dgcAt (insK m c) (pB t.val) (pT t.val + n) k) (rows_pt m c t)
    (fun n k hn => dgcAt_zero _ _ _ (by unfold pT; omega) k) _ _ _

/-- At any other tile they are the rows that the tile after it left. -/
theorem over_pt (h : ¬t.val % 8 = 0) : ExtAt m c t (View.read (Elt Ideal) scM0_0.view (scM0_0.view.writes (Elt Ideal)
    ((Memref.isWhole_whole cc0_scratch0).unread (outsAt0 m c (t.val - 1) (Nat.lt_of_le_of_lt (Nat.sub_le _ _) t.isLt)).2.2.2.2.2.2.2)
    [(⟨Rect.unit ![0, 0, 0] ![1, 256, 2816] inb_S1x264x2816_S1x256x2816_0_0_0,
        k0_pay20 (k0_pay17 (iblk m c 0 t) (iblk m c 10 t) (iblk m c 3 t)) (k0_pay18 (iblk m c 2 t))⟩ : View.Piece (Elt Ideal) S1x264x2816 .f32)])) := by
  refine ext_over scM0_0 (Memref.isWhole_whole cc0_scratch0) _ _ (fun n k => dgcAt (insK m c) (pB t.val) (pT t.val + n) k) (rows_pt m c t)
    (fun j k => ?_) _
  refine (carry_pt m c ⟨t.val - 1, Nat.lt_of_le_of_lt (Nat.sub_le _ _) t.isLt⟩ j k).trans ?_
  have hb : pB (t.val - 1) = pB t.val := Fin.ext (by unfold pB; show (t.val - 1) / 8 % 4 = t.val / 8 % 4; omega)
  have hT : pT (t.val - 1) + j.val = pT t.val + (256 + j.val) := by unfold pT; omega
  show dgcAt (insK m c) (pB (t.val - 1)) (pT (t.val - 1) + j.val) k = _
  rw [hb, hT]

variable {m c t} in
theorem dg_pt {e : Vec Ideal S1x264x2816 .f32} (he : ExtAt m c t e) (r : Fin 256) (k : Fin 2816) :
    k0_pay32 (F := Ideal) (iblk m c 9 t)
      (k0_pay19 (k0_pay17 (iblk m c 0 t) (iblk m c 10 t) (iblk m c 3 t)) (k0_pay18 (iblk m c 2 t)))
      (k0_pay22 e) (k0_pay23 e) (ix2 r k) = dg (insK m c) (pB t.val) (row (pT_le t.val) r) k :=
  dg_eq (insK m c) (pB t.val) (pT t.val) (pT_le t.val) (dgc_pt m c t) he (b9 m c t) r k

variable {m c t} in
theorem dh_pt {e : Vec Ideal S1x264x2816 .f32} (he : ExtAt m c t e) (r : Fin 256) (d : Fin 1024) :
    k0_pay35 (F := Ideal) k0_pay10 (iblk m c 9 t) (k0_pay16 (iblk m c 0 t) (iblk m c 10 t) (iblk m c 2 t))
      (k0_pay19 (k0_pay17 (iblk m c 0 t) (iblk m c 10 t) (iblk m c 3 t)) (k0_pay18 (iblk m c 2 t)))
      (k0_pay22 e) (k0_pay23 e)
      (View.ld (iblk m c 11 t) (Rect.unit ![0, 0] ![2816, 1024] inb_S5632x1024_S2816x1024_0_0))
      (View.ld (iblk m c 11 t) (Rect.unit ![2816, 0] ![2816, 1024] inb_S5632x1024_S2816x1024_2816_0)) (ix2 r d)
      = dh (insK m c) (pB t.val) (row (pT_le t.val) r) d :=
  dh_eq (insK m c) (pB t.val) (pT t.val) (pT_le t.val) (dv_pt m c t) (dgc_pt m c t) he (b9 m c t)
    (b11_lo m c t inb_S5632x1024_S2816x1024_0_0) (b11_hi m c t inb_S5632x1024_S2816x1024_2816_0) r d

/-- The two halves of the first result's block. -/
theorem halves {e : Vec Ideal S1x264x2816 .f32} (he : ExtAt m c t e) (r : Fin 256) (n : Fin 5632) :
    View.canon [(⟨Rect.unit ![0, 0, 2816] ![1, 256, 2816] inb_S1x256x5632_S1x256x2816_0_0_2816,
        k0_pay34 (iblk m c 9 t) (k0_pay19 (k0_pay17 (iblk m c 0 t) (iblk m c 10 t) (iblk m c 3 t)) (k0_pay18 (iblk m c 2 t)))
          (k0_pay22 e) (k0_pay23 e)⟩ : View.Piece (Elt Ideal) S1x256x5632 .bf16),
      ⟨Rect.unit ![0, 0, 0] ![1, 256, 2816] inb_S1x256x5632_S1x256x2816_0_0_0,
        k0_pay33 (k0_pay16 (iblk m c 0 t) (iblk m c 10 t) (iblk m c 2 t))⟩] (ix3 0 r n)
      = dup (insK m c) (pB t.val) (row (pT_le t.val) r) n := by
  unfold dup
  by_cases h : n.val < 2816
  · rw [dif_pos h]
    refine (canon_unit_miss (s := S1x256x5632) ![0, 0, 2816] ![1, 256, 2816] _ _ (2 : Fin 3) (Or.inl h)).trans ?_
    refine (canon_unit_hit (s := S1x256x5632) ![0, 0, 0] ![1, 256, 2816] _ _ (ix3 (0 : Fin 1) r (⟨n.val, h⟩ : Fin 2816))
      (by intro a; fin_cases a <;> simp)).trans ?_
    refine Eq.trans ?_ (dv_pt m c t r ⟨n.val, h⟩)
    pointwise [k0_pay33, k0_pay31]
  · rw [dif_neg h]
    refine (canon_unit_hit (s := S1x256x5632) ![0, 0, 2816] ![1, 256, 2816] _ _ (ix3 (0 : Fin 1) r (⟨n.val - 2816, by omega⟩ : Fin 2816))
      (by intro a; fin_cases a <;> simp; omega)).trans ?_
    refine Eq.trans ?_ (dg_pt he r ⟨n.val - 2816, by omega⟩)
    pointwise [k0_pay34]

theorem at12 (r : Fin 256) (n : Fin 5632) :
    (outsAt0 m c t.val t.isLt).1 (ix3 0 r n) = dup (insK m c) (pB t.val) (row (pT_le t.val) r) n := by
  by_cases h0 : t.val % 32 = 0
  · rw [outsAt0_A m c t h0 (by omega)]
    frame_out
    exact halves m c t (fresh_pt m c t (by omega)) r n
  · by_cases h1 : t.val % 8 = 0
    · rw [outsAt0_C m c t h0 h1]
      frame_out
      exact halves m c t (fresh_pt m c t h1) r n
    · rw [outsAt0_B m c t h0 h1]
      frame_out
      exact halves m c t (over_pt m c t h1) r n

variable {m c t} in
theorem dx1_pt {dh' : FVec Ideal S256x1024 .f32} (hd : ∀ r d, dh' (ix2 r d) = dh (insK m c) (pB t.val) (row (pT_le t.val) r) d)
    (r : Fin 256) (d : Fin 1024) :
    k0_pay3 (F := Ideal) dh' (k0_pay37 (iblk m c 4 t)) (k0_pay38 (iblk m c 4 t)) (iblk m c 8 t) (k0_pay41 (iblk m c 7 t)) (iblk m c 5 t)
      (ix3 0 r d) = dx1 (insK m c) (pB t.val) (row (pT_le t.val) r) d :=
  dx1_eq (insK m c) (pB t.val) (pT t.val) (pT_le t.val) hd (b7 m c t) (b4 m c t) (b5 m c t) (b8 m c t) r d

theorem at13 (r : Fin 256) (d : Fin 1024) :
    (outsAt0 m c t.val t.isLt).2.1 (ix3 0 r d) = dx1 (insK m c) (pB t.val) (row (pT_le t.val) r) d := by
  by_cases h0 : t.val % 32 = 0
  · rw [outsAt0_A m c t h0 (by omega)]
    frame_out
    exact dx1_pt (dh_pt (fresh_pt m c t (by omega))) r d
  · by_cases h1 : t.val % 8 = 0
    · rw [outsAt0_C m c t h0 h1]
      frame_out
      exact dx1_pt (dh_pt (fresh_pt m c t h1)) r d
    · rw [outsAt0_B m c t h0 h1]
      frame_out
      exact dx1_pt (dh_pt (over_pt m c t h1)) r d

/-! ## The running sums, restarted at the tile of a sequence taken first -/

/-- What a point adds to the shift's gradient, and to the scale's. -/
def term14 (n : ℕ) (d : Fin 1024) : EReal := ∑ r : Fin 256, dh (insK m c) (pB n) (row (pT_le n) r) d
def term15 (n : ℕ) (d : Fin 1024) : EReal := ∑ r : Fin 256,
  dh (insK m c) (pB n) (row (pT_le n) r) d * xhat (insK m c) (pB n) (row (pT_le n) r) d * (insK m c).gf d

variable {m c t} in
theorem dsh_pt {dh' : FVec Ideal S256x1024 .f32} (hd : ∀ r d, dh' (ix2 r d) = dh (insK m c) (pB t.val) (row (pT_le t.val) r) d)
    (o : Vec Ideal S1x1x1024 .f32) (d : Fin 1024) : k0_pay39 (F := Ideal) dh' o (ix3 0 0 d) = o (ix3 0 0 d) + term14 m c t.val d :=
  dsh_step (insK m c) (pB t.val) (pT t.val) (pT_le t.val) hd o d

variable {m c t} in
theorem dsc_pt {dh' : FVec Ideal S256x1024 .f32} (hd : ∀ r d, dh' (ix2 r d) = dh (insK m c) (pB t.val) (row (pT_le t.val) r) d)
    (o : Vec Ideal S1x1x1024 .f32) (d : Fin 1024) :
    k0_pay40 (F := Ideal) dh' (iblk m c 4 t) (iblk m c 8 t) o (ix3 0 0 d) = o (ix3 0 0 d) + term15 m c t.val d :=
  dsc_step (insK m c) (pB t.val) (pT t.val) (pT_le t.val) hd (b4 m c t) (b8 m c t) o d

theorem zero14 (d : Fin 1024) : k0_pay7 (F := Ideal) (ix3 0 0 d) = (0 : EReal) := by pointwise [k0_pay7]
theorem zero15 (d : Fin 1024) : k0_pay8 (F := Ideal) (ix3 0 0 d) = (0 : EReal) := by pointwise [k0_pay8]

theorem first14 (h1 : t.val % 8 = 0) (d : Fin 1024) :
    (outsAt0 m c t.val t.isLt).2.2.1 (ix3 0 0 d) = 0 + term14 m c t.val d := by
  by_cases h0 : t.val % 32 = 0
  · rw [outsAt0_A m c t h0 h1]
    frame_out
    exact (dsh_pt (dh_pt (fresh_pt m c t h1)) _ d).trans (congrArg (· + _) (zero14 d))
  · rw [outsAt0_C m c t h0 h1]
    frame_out
    exact (dsh_pt (dh_pt (fresh_pt m c t h1)) _ d).trans (congrArg (· + _) (zero14 d))

theorem next14 (h1 : ¬t.val % 8 = 0) (d : Fin 1024) :
    (outsAt0 m c t.val t.isLt).2.2.1 (ix3 0 0 d)
      = (outsAt0 m c (t.val - 1) (Nat.lt_of_le_of_lt (Nat.sub_le _ _) t.isLt)).2.2.1 (ix3 0 0 d) + term14 m c t.val d := by
  rw [outsAt0_B m c t (by omega) h1]
  frame_out
  exact dsh_pt (dh_pt (over_pt m c t h1)) _ d

theorem first15 (h1 : t.val % 8 = 0) (d : Fin 1024) :
    (outsAt0 m c t.val t.isLt).2.2.2.1 (ix3 0 0 d) = 0 + term15 m c t.val d := by
  by_cases h0 : t.val % 32 = 0
  · rw [outsAt0_A m c t h0 h1]
    frame_out
    exact (dsc_pt (dh_pt (fresh_pt m c t h1)) _ d).trans (congrArg (· + _) (zero15 d))
  · rw [outsAt0_C m c t h0 h1]
    frame_out
    exact (dsc_pt (dh_pt (fresh_pt m c t h1)) _ d).trans (congrArg (· + _) (zero15 d))

theorem next15 (h1 : ¬t.val % 8 = 0) (d : Fin 1024) :
    (outsAt0 m c t.val t.isLt).2.2.2.1 (ix3 0 0 d)
      = (outsAt0 m c (t.val - 1) (Nat.lt_of_le_of_lt (Nat.sub_le _ _) t.isLt)).2.2.2.1 (ix3 0 0 d) + term15 m c t.val d := by
  rw [outsAt0_B m c t (by omega) h1]
  frame_out
  exact dsc_pt (dh_pt (over_pt m c t h1)) _ d

/-! ## The running sums over the whole grid -/

/-- What a point adds to the gain's gradient, to row `k` of the taps' and to the bias'. -/
def term16 (n : ℕ) (d : Fin 1024) : EReal := ∑ r : Fin 256,
  tt (insK m c) (pB n) (row (pT_le n) r) d * xhat (insK m c) (pB n) (row (pT_le n) r) d
def term17 (k : Fin 3) (n : ℕ) (i : Fin 2816) : EReal := ∑ r : Fin 256,
  dgcAt (insK m c) (pB n) ((row (pT_le n) r).val + (2 - k.val)) i * (insK m c).g (pB n) (row (pT_le n) r) i
def term18 (n : ℕ) (i : Fin 2816) : EReal := ∑ r : Fin 256, dgc (insK m c) (pB n) (row (pT_le n) r) i

variable {m c t} in
theorem dgf_pt {dh' : FVec Ideal S256x1024 .f32} (hd : ∀ r d, dh' (ix2 r d) = dh (insK m c) (pB t.val) (row (pT_le t.val) r) d)
    (o : Vec Ideal S1x1024 .f32) (d : Fin 1024) :
    k0_pay2 (F := Ideal) dh' (k0_pay38 (iblk m c 4 t)) (k0_pay41 (iblk m c 7 t)) o (ix2 0 d) = o (ix2 0 d) + term16 m c t.val d :=
  dgf_step (insK m c) (pB t.val) (pT t.val) (pT_le t.val) hd (b7 m c t) (b4 m c t) o d

theorem dbc_pt (o : Vec Ideal S1x2816 .f32) (i : Fin 2816) :
    k0_pay25 (F := Ideal) (k0_pay17 (iblk m c 0 t) (iblk m c 10 t) (iblk m c 3 t)) (k0_pay18 (iblk m c 2 t)) o (ix2 0 i)
      = o (ix2 0 i) + term18 m c t.val i :=
  dbc_step (insK m c) (pB t.val) (pT t.val) (pT_le t.val) (dgc_pt m c t) o i

theorem zero16 (d : Fin 1024) : k0_pay4 (F := Ideal) (ix2 0 d) = (0 : EReal) := by pointwise [k0_pay4]
theorem zero18 (i : Fin 2816) : k0_pay6 (F := Ideal) (ix2 0 i) = (0 : EReal) := by pointwise [k0_pay6]

theorem first16 (h0 : t.val % 32 = 0) (d : Fin 1024) :
    (outsAt0 m c t.val t.isLt).2.2.2.2.1 (ix2 0 d) = 0 + term16 m c t.val d := by
  rw [outsAt0_A m c t h0 (by omega)]
  frame_out
  exact (dgf_pt (dh_pt (fresh_pt m c t (by omega))) _ d).trans (congrArg (· + _) (zero16 d))

theorem next16 (h0 : ¬t.val % 32 = 0) (d : Fin 1024) :
    (outsAt0 m c t.val t.isLt).2.2.2.2.1 (ix2 0 d)
      = (outsAt0 m c (t.val - 1) (Nat.lt_of_le_of_lt (Nat.sub_le _ _) t.isLt)).2.2.2.2.1 (ix2 0 d) + term16 m c t.val d := by
  by_cases h1 : t.val % 8 = 0
  · rw [outsAt0_C m c t h0 h1]
    frame_out
    exact dgf_pt (dh_pt (fresh_pt m c t h1)) _ d
  · rw [outsAt0_B m c t h0 h1]
    frame_out
    exact dgf_pt (dh_pt (over_pt m c t h1)) _ d

theorem first18 (h0 : t.val % 32 = 0) (i : Fin 2816) :
    (outsAt0 m c t.val t.isLt).2.2.2.2.2.2.1 (ix2 0 i) = 0 + term18 m c t.val i := by
  rw [outsAt0_A m c t h0 (by omega)]
  frame_out
  exact (dbc_pt m c t _ i).trans (congrArg (· + _) (zero18 i))

theorem next18 (h0 : ¬t.val % 32 = 0) (i : Fin 2816) :
    (outsAt0 m c t.val t.isLt).2.2.2.2.2.2.1 (ix2 0 i)
      = (outsAt0 m c (t.val - 1) (Nat.lt_of_le_of_lt (Nat.sub_le _ _) t.isLt)).2.2.2.2.2.2.1 (ix2 0 i) + term18 m c t.val i := by
  by_cases h1 : t.val % 8 = 0
  · rw [outsAt0_C m c t h0 h1]
    frame_out
    exact dbc_pt m c t _ i
  · rw [outsAt0_B m c t h0 h1]
    frame_out
    exact dbc_pt m c t _ i

/-- The three rows a point stores, each from what its load `o k` of that row gave. -/
theorem taps_pt {e : Vec Ideal S1x264x2816 .f32} (he : ExtAt m c t e) (o0 o1 o2 : Vec Ideal S1x2816 .f32)
    (O : Fin 3 → Fin 2816 → EReal) (h0 : ∀ i, o0 (ix2 0 i) = O 0 i) (h1 : ∀ i, o1 (ix2 0 i) = O 1 i) (h2 : ∀ i, o2 (ix2 0 i) = O 2 i)
    (L : List (View.Piece (Elt Ideal) S3x2816 .f32)) (k : Fin 3) (i : Fin 2816) :
    View.canon ((⟨Rect.unit ![2, 0] ![1, 2816] inb_S3x2816_S1x2816_2_0, k0_pay30 (k0_pay12 (iblk m c 1 t))
          (k0_pay19 (k0_pay17 (iblk m c 0 t) (iblk m c 10 t) (iblk m c 3 t)) (k0_pay18 (iblk m c 2 t))) o2⟩ : View.Piece (Elt Ideal) S3x2816 .f32)
      :: ⟨Rect.unit ![1, 0] ![1, 2816] inb_S3x2816_S1x2816_1_0, k0_pay29 (k0_pay27 o1) (k0_pay28 (k0_pay12 (iblk m c 1 t)) e)⟩
      :: ⟨Rect.unit ![0, 0] ![1, 2816] inb_S3x2816_S1x2816_0_0, k0_pay26 (k0_pay12 (iblk m c 1 t)) e o0⟩ :: L) (ix2 k i)
      = O k i + term17 m c k t.val i :=
  rows3 _ _ _ L (fun k i => O k i + term17 m c k t.val i)
    (fun i => (dw0_step (insK m c) (pB t.val) (pT t.val) (pT_le t.val) (b1 m c t) he o0 i).trans (congrArg (· + _) (h0 i)))
    (fun i => (dw1_step (insK m c) (pB t.val) (pT t.val) (pT_le t.val) (b1 m c t) he o1 i).trans (congrArg (· + _) (h1 i)))
    (fun i => (dw2_step (insK m c) (pB t.val) (pT t.val) (pT_le t.val) (dgc_pt m c t) (b1 m c t) o2 i).trans (congrArg (· + _) (h2 i)))
    _ _ _ k i

theorem first17 (h0 : t.val % 32 = 0) (k : Fin 3) (i : Fin 2816) :
    (outsAt0 m c t.val t.isLt).2.2.2.2.2.1 (ix2 k i) = 0 + term17 m c k t.val i := by
  rw [outsAt0_A m c t h0 (by omega)]
  frame_out
  refine taps_pt m c t (fresh_pt m c t (by omega)) _ _ _ (fun _ _ => 0) (fun i => ?_) (fun i => ?_) (fun i => ?_) _ k i
  · exact row_zero _ 0 _ rfl _ _ _ zero3 i
  · refine (row_skip _ 0 1 (by omega) _ _ rfl rfl _ _ _ _ i).trans ?_
    exact row_zero _ 1 _ rfl _ _ _ zero3 i
  · refine (row_skip _ 1 2 (by omega) _ _ rfl rfl _ _ _ _ i).trans ?_
    refine (row_skip _ 0 2 (by omega) _ _ rfl rfl _ _ _ _ i).trans ?_
    exact row_zero _ 2 _ rfl _ _ _ zero3 i

theorem next17 (h0 : ¬t.val % 32 = 0) (k : Fin 3) (i : Fin 2816) :
    (outsAt0 m c t.val t.isLt).2.2.2.2.2.1 (ix2 k i)
      = (outsAt0 m c (t.val - 1) (Nat.lt_of_le_of_lt (Nat.sub_le _ _) t.isLt)).2.2.2.2.2.1 (ix2 k i) + term17 m c k t.val i := by
  by_cases h1 : t.val % 8 = 0
  · rw [outsAt0_C m c t h0 h1]
    frame_out
    exact taps_pt m c t (fresh_pt m c t h1) _ _ _ (fun k i =>
      (outsAt0 m c (t.val - 1) (Nat.lt_of_le_of_lt (Nat.sub_le _ _) t.isLt)).2.2.2.2.2.1 (ix2 k i))
      (row_ld _ 0 _ rfl _) (row_ld _ 1 _ rfl _) (row_ld _ 2 _ rfl _) _ k i
  · rw [outsAt0_B m c t h0 h1]
    frame_out
    exact taps_pt m c t (over_pt m c t h1) _ _ _ (fun k i =>
      (outsAt0 m c (t.val - 1) (Nat.lt_of_le_of_lt (Nat.sub_le _ _) t.isLt)).2.2.2.2.2.1 (ix2 k i))
      (row_ld _ 0 _ rfl _) (row_ld _ 1 _ rfl _) (row_ld _ 2 _ rfl _) _ k i

end Cert.KernelIdeal.Ffn
-- ==== Proof.Arrays.lean ====
/-
  The seven result arrays after the whole grid: every block at its place, and the running sums as sums over the sequence
  and over the batch.
-/
module

public import proofs.«01_k».proof.Proof.Point
public import Idealize.ShloMosaic.Lib.Pipeline.ValueKit.Acc

@[expose] public section

set_option maxRecDepth 16384

noncomputable section

namespace Cert.KernelIdeal.Ffn

open Cert.KernelIdeal Cert.KernelIdeal.Gen Idealize.ShloMosaic Idealize.ShloMosaic.TcCoe
open Cert.FfnSpec Cert.KernelIdeal.FfnBlock
open Idealize.ShloMosaic.Pipeline (Dat Window)

variable (m : (ℓ : Loc nD τ sig) → Buf (Elt Ideal) ℓ) (c : Dev nD) (t : Fin cfg0.N)

/-! ## The tiles of a sequence, last first -/

theorem row_congr {n n' : ℕ} (h : n % 8 = n' % 8) (r : Fin 256) : row (pT_le n) r = row (pT_le n') r :=
  Fin.ext (by show pT n + r.val = pT n' + r.val; unfold pT; omega)

theorem pB_congr {n n' : ℕ} (h : n / 8 = n' / 8) : pB n = pB n' := Fin.ext (by show n / 8 % 4 = n' / 8 % 4; omega)

theorem pB_val (t : Fin cfg0.N) : (pB t.val).val = t.val / 8 := by
  have := lt32 t
  show t.val / 8 % 4 = t.val / 8; omega

theorem row_val (n : ℕ) (r : Fin 256) : (row (pT_le n) r).val = (7 - n % 8) * 256 + r.val := by
  show 256 * (7 - n % 8) + r.val = _; omega

/-- The eight tiles of a sequence, from its end, are the sequence. -/
theorem sum_tiles (f : Fin 2048 → EReal) : ∑ s : Fin 8, ∑ r : Fin 256, f (row (pT_le s.val) r) = ∑ i, f i := by
  rw [← Equiv.sum_comp Fin.revPerm]
  refine Fin.sum_mul_add_congr (fun s r hl => ?_)
  refine congrArg f (Fin.ext ?_)
  show pT (Fin.rev s).val + r.val = s.val * 256 + r.val
  rw [Fin.val_rev]; unfold pT; omega

/-- The eight points of batch element `q`. -/
theorem sum_seq (f : Fin 4 → Fin 2048 → EReal) (t : Fin cfg0.N) :
    ∑ s : Fin 8, ∑ r : Fin 256, f (pB (8 * (t.val / 8) + s.val)) (row (pT_le (8 * (t.val / 8) + s.val)) r) = ∑ i, f (pB t.val) i := by
  rw [← sum_tiles (f (pB t.val))]
  refine Finset.sum_congr rfl fun s _ => Finset.sum_congr rfl fun r _ => ?_
  rw [pB_congr (show (8 * (t.val / 8) + s.val) / 8 = t.val / 8 by omega),
    row_congr (show (8 * (t.val / 8) + s.val) % 8 = s.val % 8 by omega)]

/-- All the points. -/
theorem sum_grid (f : Fin 4 → Fin 2048 → EReal) :
    ∑ p : Fin cfg0.N, ∑ r : Fin 256, f (pB p.val) (row (pT_le p.val) r) = ∑ b, ∑ i, f b i := by
  have h : ∑ p : Fin cfg0.N, ∑ r : Fin 256, f (pB p.val) (row (pT_le p.val) r)
      = ∑ b : Fin 4, ∑ s : Fin 8, ∑ r : Fin 256, f b (row (pT_le s.val) r) :=
    Fin.sum_divmod_congr (fun p ha hs => by
      have hb : pB p.val = ⟨p.val / 8, ha⟩ := Fin.ext (by show p.val / 8 % 4 = p.val / 8; omega)
      refine Finset.sum_congr rfl fun r _ => ?_
      rw [hb, row_congr (show p.val % 8 = (p.val % 8) % 8 by omega)]) N_0
  refine h.trans (Finset.sum_congr rfl fun b _ => sum_tiles (f b))

/-! ## The arrays -/

theorem arr12 : (dats m 0 c).arrAt 12 cfg0.N = (fun y => dup (insK m c) (y 0) (y 1) (y 2) : S4x2048x5632.Idx → EReal) := by
  refine (dats m 0 c).arrAt_eq_of_covers 12 _ (by decide +kernel) fun t hf y => ?_
  have := lt32 t
  blk_simp
  rw [after0_12]
  obtain ⟨a, r, n, rfl⟩ : ∃ (a : Fin 1) (r : Fin 256) (n : Fin 5632), y = ix3 a r n := ⟨y 0, y 1, y 2, eq_ix3 y⟩
  obtain rfl : a = 0 := Fin.fin_one_eq_zero a
  refine (at12 m c t r n).trans ?_
  have h0 : pB t.val = (win0_12.blk t).view.emb (ix3 (0 : Fin 1) r n) 0 := Fin.ext ((pB_val t).trans (by blk_simp [e12]; omega))
  have h1 : row (pT_le t.val) r = (win0_12.blk t).view.emb (ix3 (0 : Fin 1) r n) 1 := Fin.ext ((row_val t.val r).trans (by blk_simp [e12]))
  have h2 : n = (win0_12.blk t).view.emb (ix3 (0 : Fin 1) r n) 2 := Fin.ext (by blk_simp [e12])
  rw [← h0, ← h1, ← h2]

theorem arr13 : (dats m 0 c).arrAt 13 cfg0.N = (fun y => dx1 (insK m c) (y 0) (y 1) (y 2) : S4x2048x1024.Idx → EReal) := by
  refine (dats m 0 c).arrAt_eq_of_covers 13 _ (by decide +kernel) fun t hf y => ?_
  have := lt32 t
  blk_simp
  rw [after0_13]
  obtain ⟨a, r, d, rfl⟩ : ∃ (a : Fin 1) (r : Fin 256) (d : Fin 1024), y = ix3 a r d := ⟨y 0, y 1, y 2, eq_ix3 y⟩
  obtain rfl : a = 0 := Fin.fin_one_eq_zero a
  refine (at13 m c t r d).trans ?_
  have h0 : pB t.val = (win0_13.blk t).view.emb (ix3 (0 : Fin 1) r d) 0 := Fin.ext ((pB_val t).trans (by blk_simp [e13]; omega))
  have h1 : row (pT_le t.val) r = (win0_13.blk t).view.emb (ix3 (0 : Fin 1) r d) 1 := Fin.ext ((row_val t.val r).trans (by blk_simp [e13]))
  have h2 : d = (win0_13.blk t).view.emb (ix3 (0 : Fin 1) r d) 2 := Fin.ext (by blk_simp [e13])
  rw [← h0, ← h1, ← h2]

theorem arr14 : (dats m 0 c).arrAt 14 cfg0.N = (fun y => dsh (insK m c) (y 0) (y 2) : S4x1x1024.Idx → EReal) := by
  refine (dats m 0 c).arrAt_eq_of_covers 14 _ (by decide +kernel) fun t hf y => ?_
  have := lt32 t
  blk_simp
  rw [after0_14]
  obtain ⟨a, r, d, rfl⟩ : ∃ (a : Fin 1) (r : Fin 1) (d : Fin 1024), y = ix3 a r d := ⟨y 0, y 1, y 2, eq_ix3 y⟩
  obtain rfl : a = 0 := Fin.fin_one_eq_zero a
  obtain rfl : r = 0 := Fin.fin_one_eq_zero r
  have h0 : pB t.val = (win0_14.blk t).view.emb (ix3 (0 : Fin 1) (0 : Fin 1) d) 0 := Fin.ext ((pB_val t).trans (by blk_simp [e14]; omega))
  have h2 : d = (win0_14.blk t).view.emb (ix3 (0 : Fin 1) (0 : Fin 1) d) 2 := Fin.ext (by blk_simp [e14])
  rw [← h0, ← h2]
  refine (Pipeline.eq_sum_fin_of_reset_step_apply_of_flush (fun n h (d : Fin 1024) => (outsAt0 m c n h).2.2.1 (ix3 0 0 d)) 8
    (fun _ => (0 : EReal)) (fun p => term14 m c p.val) (fun t h d => first14 m c t h d) (fun t h d => next14 m c t h d) t
    ((flush0_14 t).mp hf) d).trans ?_
  rw [zero_add]
  exact sum_seq (fun b i => dh (insK m c) b i d) t

theorem arr15 : (dats m 0 c).arrAt 15 cfg0.N = (fun y => dsc (insK m c) (y 0) (y 2) : S4x1x1024.Idx → EReal) := by
  refine (dats m 0 c).arrAt_eq_of_covers 15 _ (by decide +kernel) fun t hf y => ?_
  have := lt32 t
  blk_simp
  rw [after0_15]
  obtain ⟨a, r, d, rfl⟩ : ∃ (a : Fin 1) (r : Fin 1) (d : Fin 1024), y = ix3 a r d := ⟨y 0, y 1, y 2, eq_ix3 y⟩
  obtain rfl : a = 0 := Fin.fin_one_eq_zero a
  obtain rfl : r = 0 := Fin.fin_one_eq_zero r
  have h0 : pB t.val = (win0_15.blk t).view.emb (ix3 (0 : Fin 1) (0 : Fin 1) d) 0 := Fin.ext ((pB_val t).trans (by blk_simp [e15]; omega))
  have h2 : d = (win0_15.blk t).view.emb (ix3 (0 : Fin 1) (0 : Fin 1) d) 2 := Fin.ext (by blk_simp [e15])
  rw [← h0, ← h2]
  refine (Pipeline.eq_sum_fin_of_reset_step_apply_of_flush (fun n h (d : Fin 1024) => (outsAt0 m c n h).2.2.2.1 (ix3 0 0 d)) 8
    (fun _ => (0 : EReal)) (fun p => term15 m c p.val) (fun t h d => first15 m c t h d) (fun t h d => next15 m c t h d) t
    ((flush0_15 t).mp hf) d).trans ?_
  rw [zero_add]
  exact sum_seq (fun b i => dh (insK m c) b i d * xhat (insK m c) b i d * (insK m c).gf d) t

/-- The last point of the grid. -/
def tL : Fin cfg0.N := ⟨31, lt_of_lt_of_eq (by decide : 31 < 32) N_0.symm⟩
theorem tL_succ : tL.val + 1 = cfg0.N := N_0.symm

theorem arr16 : (dats m 0 c).arrAt 16 cfg0.N = (fun y => dgf (insK m c) (y 1) : S1x1024.Idx → EReal) := by
  refine (dats m 0 c).arrAt_eq_of_after_last 16 tL (by decide +kernel) _ fun y => ?_
  blk_simp
  rw [after0_16]
  obtain ⟨a, d, rfl⟩ : ∃ (a : Fin 1) (d : Fin 1024), y = ix2 a d := ⟨y 0, y 1, eq_ix2 y⟩
  obtain rfl : a = 0 := Fin.fin_one_eq_zero a
  refine (Pipeline.eq_sum_fin_of_reset_step_apply_last (fun n h (d : Fin 1024) => (outsAt0 m c n h).2.2.2.2.1 (ix2 0 d)) 32
    (fun _ => (0 : EReal)) (fun p => term16 m c p.val) (fun t h d => first16 m c t h d) (fun t h d => next16 m c t h d)
    (le_of_eq N_0) tL tL_succ d).trans ?_
  rw [zero_add]
  exact sum_grid (fun b i => tt (insK m c) b i d * xhat (insK m c) b i d)

theorem arr17 : (dats m 0 c).arrAt 17 cfg0.N = (fun y => dwc (insK m c) (y 0) (y 1) : S3x2816.Idx → EReal) := by
  refine (dats m 0 c).arrAt_eq_of_after_last 17 tL (by decide +kernel) _ fun y => ?_
  blk_simp
  rw [after0_17]
  obtain ⟨k, i, rfl⟩ : ∃ (k : Fin 3) (i : Fin 2816), y = ix2 k i := ⟨y 0, y 1, eq_ix2 y⟩
  refine (Pipeline.eq_sum_fin_of_reset_step_apply_last (fun n h (i : Fin 2816) => (outsAt0 m c n h).2.2.2.2.2.1 (ix2 k i)) 32
    (fun _ => (0 : EReal)) (fun p => term17 m c k p.val) (fun t h i => first17 m c t h k i) (fun t h i => next17 m c t h k i)
    (le_of_eq N_0) tL tL_succ i).trans ?_
  rw [zero_add]
  exact sum_grid (fun b j => dgcAt (insK m c) b (j.val + (2 - k.val)) i * (insK m c).g b j i)

theorem arr18 : (dats m 0 c).arrAt 18 cfg0.N = (fun y => dbc (insK m c) (y 1) : S1x2816.Idx → EReal) := by
  refine (dats m 0 c).arrAt_eq_of_after_last 18 tL (by decide +kernel) _ fun y => ?_
  blk_simp
  rw [after0_18]
  obtain ⟨a, i, rfl⟩ : ∃ (a : Fin 1) (i : Fin 2816), y = ix2 a i := ⟨y 0, y 1, eq_ix2 y⟩
  obtain rfl : a = 0 := Fin.fin_one_eq_zero a
  refine (Pipeline.eq_sum_fin_of_reset_step_apply_last (fun n h (i : Fin 2816) => (outsAt0 m c n h).2.2.2.2.2.2.1 (ix2 0 i)) 32
    (fun _ => (0 : EReal)) (fun p => term18 m c p.val) (fun t h i => first18 m c t h i) (fun t h i => next18 m c t h i)
    (le_of_eq N_0) tL tL_succ i).trans ?_
  rw [zero_add]
  exact sum_grid (fun b j => dgc (insK m c) b j i)

end Cert.KernelIdeal.Ffn
-- ==== Proof.Real.lean ====
/-
  Extended reals that are reals, and the two identities of the channel mixer's gradient that hold of reals only: the
  derivative of `y · σ(y)` factored, and the gradient of the norm with the cube of the reciprocal root.
-/
module

public import proofs.«01_k».proof.Proof.Spec

@[expose] public section

noncomputable section

namespace Cert.FfnReal

open Idealize.ShloMosaic Cert.FfnSpec

/-- The extended real is a real. -/
def IsReal (x : EReal) : Prop := ∃ r : ℝ, x = (r : EReal)

theorem IsReal.coe (r : ℝ) : IsReal (r : EReal) := ⟨r, rfl⟩
theorem IsReal.zero : IsReal 0 := ⟨0, by simp⟩
theorem IsReal.one : IsReal 1 := ⟨1, by simp⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.sum {ι : Type} (s : Finset ι) (f : ι → EReal) (h : ∀ i, IsReal (f i)) : IsReal (∑ i ∈ s, f i) :=
  Finset.sum_induction f IsReal (fun _ _ => IsReal.add) IsReal.zero fun i _ => h i
theorem IsReal.logistic {x : EReal} : IsReal x → IsReal (Ideal.logistic x)
  | ⟨a, ha⟩ => ⟨_, by rw [ha, Ideal.logistic_coe]⟩
theorem IsReal.div {x : EReal} {y : ℝ} (hy : y ≠ 0) (h : IsReal x) : IsReal (Ideal.div x (y : EReal)) := by
  rw [Ideal.div_coe hy]; exact h.mul (IsReal.coe _)

/-- An extended real whose absolute value is below `⊤` is a real. -/
theorem IsReal.of_abs_lt {x : EReal} (h : max x (-x) < ⊤) : IsReal x := by
  induction x using EReal.rec with
  | bot => simp at h
  | coe r => exact ⟨r, rfl⟩
  | top => simp at h

theorem sum_coe {ι : Type} (s : Finset ι) (f : ι → ℝ) : (∑ i ∈ s, (f i : EReal)) = ((∑ i ∈ s, f i : ℝ) : EReal) := by
  induction s using Finset.cons_induction with
  | empty => simp
  | cons a s ha ih => rw [Finset.sum_cons, Finset.sum_cons, ih, EReal.coe_add]

/-! ## The literals -/

theorem lit_1024 : Ideal.ofBits FTy.f32 0x44800000#32 = ((1024 : ℝ) : EReal) := by
  simp [Ideal.ofBits, Ideal.ieee, -EReal.coe_mul]; norm_num
theorem lit_neg_half : Ideal.ofBits FTy.f32 0xBF000000#32 = ((-(1 / 2) : ℝ) : EReal) := by
  simp [Ideal.ofBits, Ideal.ieee, -EReal.coe_mul]; norm_num
theorem lit_eps : ∃ e : ℝ, 0 < e ∧ Ideal.ofBits FTy.f32 0x358637BD#32 = (e : EReal) := by
  refine ⟨_, ?_, by simp [Ideal.ofBits, Ideal.ieee, -EReal.coe_mul]; rfl⟩
  norm_num
theorem lit_top : Ideal.ofBits FTy.f32 0x7F800000#32 = ⊤ := by
  simp [Ideal.ofBits, Ideal.ieee]
theorem lit_one : Ideal.ofBits FTy.f32 0x3F800000#32 = 1 := by
  rw [← EReal.coe_one]; simp [Ideal.ofBits, Ideal.ieee, -EReal.coe_mul, -EReal.coe_one]; norm_num

/-- The mean square plus the epsilon of a row of reals is a positive real, and the row's reciprocal root its inverse
    square root. -/
theorem rmsr_real (row : Fin 1024 → ℝ) : ∃ m r : ℝ, 0 < m ∧ r * r = 1 / m
    ∧ Ideal.div (∑ d, (row d : EReal) * (row d : EReal)) (Ideal.ofBits FTy.f32 0x44800000#32)
        + Ideal.ofBits FTy.f32 0x358637BD#32 = (m : EReal)
    ∧ rmsr (fun d => (row d : EReal)) = (r : EReal) := by
  obtain ⟨e, he, hlit⟩ := lit_eps
  have hsum : (∑ d, (row d : EReal) * (row d : EReal)) = ((∑ d, row d * row d : ℝ) : EReal) := by
    rw [← sum_coe]; exact Finset.sum_congr rfl fun d _ => (EReal.coe_mul _ _).symm
  have hm : Ideal.div (∑ d, (row d : EReal) * (row d : EReal)) (Ideal.ofBits FTy.f32 0x44800000#32)
      + Ideal.ofBits FTy.f32 0x358637BD#32 = (((∑ d, row d * row d) * (1 / 1024) + e : ℝ) : EReal) := by
    rw [hsum, lit_1024, hlit, Ideal.div_coe (by norm_num), ← EReal.coe_mul, ← EReal.coe_add]
  have hpos : 0 < (∑ d, row d * row d) * (1 / 1024) + e := by
    have : 0 ≤ ∑ d, row d * row d := Finset.sum_nonneg fun d _ => mul_self_nonneg _
    positivity
  refine ⟨_, (Real.sqrt ((∑ d, row d * row d) * (1 / 1024) + e))⁻¹, hpos, ?_, hm, ?_⟩
  · rw [← mul_inv, Real.mul_self_sqrt hpos.le, ← one_div]
  · unfold rmsr
    rw [hm, Ideal.rsqrt_coe, if_neg (not_lt.mpr hpos.le), if_neg hpos.ne']

theorem IsReal.rmsr {row : Fin 1024 → EReal} (h : ∀ d, IsReal (row d)) : IsReal (rmsr row) := by
  choose f hf using h
  obtain ⟨m, r, _, _, _, hr⟩ := rmsr_real f
  exact ⟨r, by rw [← hr]; congr 1; funext d; exact hf d⟩

theorem IsReal.dsilu {y : EReal} (h : IsReal y) : IsReal (dsilu y) :=
  h.logistic.add ((h.mul h.logistic).mul (IsReal.one.sub h.logistic))

/-- The two terms the product rule gives for `y · σ(y)` are the factored derivative times the cotangent. -/
theorem dsilu_split {a y : EReal} (ha : IsReal a) (hy : IsReal y) :
    a * Ideal.logistic y + y * a * (Ideal.logistic y * (1 - Ideal.logistic y)) = a * dsilu y := by
  obtain ⟨s, hs⟩ := hy.logistic
  obtain ⟨a, rfl⟩ := ha
  obtain ⟨y, rfl⟩ := hy
  unfold FfnSpec.dsilu
  rw [hs, ← EReal.coe_one]
  simp only [← EReal.coe_sub, ← EReal.coe_mul, ← EReal.coe_add]
  congr 1
  ring

/-- The gradient of `x · rsqrt (mean x² + ε)` along a row: the two terms that reach the mean through the reciprocal
    root, with the root's own derivative `−½ · r / m`, are the kernel's `− r · h_d · mean (a · h)`. -/
theorem rmsBwd_split {x a : Fin 1024 → EReal} (hx : ∀ d, IsReal (x d)) (ha : ∀ d, IsReal (a d)) (d : Fin 1024) :
    a d * rmsr x
        + x d * Ideal.div ((∑ k, x k * a k) * (Ideal.ofBits FTy.f32 0xBF000000#32
            * Ideal.div (rmsr x) (Ideal.div (∑ k, x k * x k) (Ideal.ofBits FTy.f32 0x44800000#32)
                + Ideal.ofBits FTy.f32 0x358637BD#32))) (Ideal.ofBits FTy.f32 0x44800000#32)
        + Ideal.div ((∑ k, x k * a k) * (Ideal.ofBits FTy.f32 0xBF000000#32
            * Ideal.div (rmsr x) (Ideal.div (∑ k, x k * x k) (Ideal.ofBits FTy.f32 0x44800000#32)
                + Ideal.ofBits FTy.f32 0x358637BD#32))) (Ideal.ofBits FTy.f32 0x44800000#32) * x d
      = rmsBwd (rmsr x) a (fun k => x k * rmsr x) d := by
  choose f hf using hx
  choose g hg using ha
  obtain rfl : x = fun d => (f d : EReal) := funext hf
  obtain rfl : a = fun d => (g d : EReal) := funext hg
  obtain ⟨m, r, hm, hrr, hmean, hr⟩ := rmsr_real f
  unfold rmsBwd
  rw [hr, hmean, lit_neg_half, lit_1024]
  simp only [Ideal.div_coe hm.ne', Ideal.div_coe (show (1024 : ℝ) ≠ 0 by norm_num), ← EReal.coe_mul, sum_coe,
    ← EReal.coe_sub, ← EReal.coe_add]
  congr 1
  have hs : ∑ k, g k * (f k * r) = (∑ k, f k * g k) * r := by
    rw [Finset.sum_mul]; exact Finset.sum_congr rfl fun k _ => by ring
  rw [hs, ← hrr]
  ring

end Cert.FfnReal
-- ==== Proof.Sums.lean ====
/-
  Sums over the indices of an array: a sum of a rank-3 array over its first two axes, and a sum over the 5632 columns
  of the up projection as a sum over its two halves.
-/
module

public import proofs.«01_k».proof.Proof.Spec
public import Idealize.ShloMosaic.Lib.Pointwise
public import Idealize.ShloMosaic.Lib.IdealHost

@[expose] public section

noncomputable section

namespace Cert.FfnSpec

open Idealize.ShloMosaic

/-- A host sum of a rank-3 array over its first two axes, from zero: at column `c`, the double sum over the rows. -/
theorem hostSum01 {n0 n1 n2 : ℕ} (h : (⟨3, ![n0, n1, n2]⟩ : Shape).ReducesTo [0, 1] ⟨1, ![n2]⟩)
    (v : (⟨3, ![n0, n1, n2]⟩ : Shape).Idx → EReal) (c : Fin n2) :
    Ideal.hostReduceAdd h v 0 (ix1 c) = ∑ a, ∑ b, v (ix3 a b c) := by
  show 0 + ∑ i ∈ Finset.univ.filter (fun i => h.drop i = ix1 c), v i = _
  rw [zero_add, ← Fintype.sum_prod_type (f := fun p : Fin n0 × Fin n1 => v (ix3 p.1 p.2 c))]
  have key : ∀ i : (⟨3, ![n0, n1, n2]⟩ : Shape).Idx, (h.drop i = ix1 c) ↔ i 2 = c := by
    intro i
    constructor
    · intro e
      exact Fin.ext (congrArg Fin.val (congrFun e 0))
    · intro e
      funext b
      apply Fin.ext
      match b with
      | ⟨0, _⟩ => exact congrArg Fin.val e
      | ⟨_ + 1, hb⟩ => exact absurd (show _ + 1 < 1 from hb) (by omega)
  refine Finset.sum_bij' (fun i _ => (i 0, i 1)) (fun p _ => ix3 p.1 p.2 c) ?_ ?_ ?_ ?_ ?_
  · intro i _; exact Finset.mem_univ _
  · intro p _; exact Finset.mem_filter.2 ⟨Finset.mem_univ _, (key _).2 rfl⟩
  · intro i hi
    have e := (key i).1 (Finset.mem_filter.1 hi).2
    funext a; apply Fin.ext
    match a with
    | ⟨0, _⟩ => rfl
    | ⟨1, _⟩ => rfl
    | ⟨2, _⟩ => exact (congrArg Fin.val e).symm
  · intro p _; rfl
  · intro i hi
    have e := (key i).1 (Finset.mem_filter.1 hi).2
    refine congrArg v ?_
    funext a; apply Fin.ext
    match a with
    | ⟨0, _⟩ => rfl
    | ⟨1, _⟩ => rfl
    | ⟨2, _⟩ => exact (congrArg Fin.val e)

/-- A sum over the 5632 columns is the sum over the lower half and the sum over the upper half. -/
theorem sum_halves (f : Fin 5632 → EReal) : ∑ n, f n = (∑ c, f (lo c)) + ∑ c, f (hi c) :=
  Fin.sum_univ_add (a := 2816) (b := 2816) f

/-- The product of the two halves of the up projection's gradient with the weights is one sum over all columns. -/
theorem sum_dup (I : Ins) (b : Fin 4) (t : Fin 2048) (d : Fin 1024) : ∑ n, dup I b t n * I.wu n d = dh I b t d := by
  rw [sum_halves]
  unfold dh
  refine congrArg₂ (· + ·) (Finset.sum_congr rfl fun c _ => ?_) (Finset.sum_congr rfl fun c _ => ?_)
  · refine congrArg (· * _) ?_
    unfold dup
    rw [dif_pos (show (lo c).val < 2816 from c.isLt)]
    rfl
  · refine congrArg (· * _) ?_
    unfold dup
    rw [dif_neg (show ¬ (hi c).val < 2816 by show ¬ 2816 + c.val < 2816; omega)]
    refine congrArg (dg I b t) (Fin.ext ?_)
    show 2816 + c.val - 2816 = c.val
    omega

/-- A sum against a row moved down by `2 − j` places, with zeros moved in, is the sum of the row against the other
    factor `2 − j` places later, zero past the end. -/
theorem shift_sum (g f : Fin 2048 → EReal) (j : ℕ) (hj : j ≤ 2) :
    (∑ t : Fin 2048, (if h : j + t.val < 2 then 0 else g ⟨j + t.val - 2, by omega⟩) * f t)
      = ∑ t : Fin 2048, (if h : t.val + (2 - j) < 2048 then f ⟨t.val + (2 - j), h⟩ else 0) * g t := by
  set F : ℕ → EReal := fun n => if h : n < 2048 then f ⟨n, h⟩ else 0 with hF
  set G : ℕ → EReal := fun n => if h : n < 2048 then g ⟨n, h⟩ else 0 with hG
  have hf : ∀ t : Fin 2048, f t = F t.val := fun t => by rw [hF]; simp
  have hg : ∀ t : Fin 2048, g t = G t.val := fun t => by rw [hG]; simp
  have hL : ∀ t : Fin 2048, (if h : j + t.val < 2 then 0 else g ⟨j + t.val - 2, by omega⟩) * f t
      = (fun n => (if j + n < 2 then 0 else G (j + n - 2)) * F n) t.val := fun t => by
    rw [hf t]; dsimp only; split
    · rfl
    · rw [hg]
  have hR : ∀ t : Fin 2048, (if h : t.val + (2 - j) < 2048 then f ⟨t.val + (2 - j), h⟩ else 0) * g t
      = (fun n => F (n + (2 - j)) * G n) t.val := fun t => by
    rw [hg t]
  rw [Finset.sum_congr rfl fun t _ => hL t, Finset.sum_congr rfl fun t _ => hR t,
    Fin.sum_univ_eq_sum_range (fun n => (if j + n < 2 then 0 else G (j + n - 2)) * F n) 2048,
    Fin.sum_univ_eq_sum_range (fun n => F (n + (2 - j)) * G n) 2048]
  have hz : ∀ n, 2048 ≤ n → F n = 0 := fun n h => by rw [hF]; exact dif_neg (by omega)
  have e : 2048 = (2 - j) + (2048 - (2 - j)) := by omega
  have e' : 2048 = (2048 - (2 - j)) + (2 - j) := by omega
  conv_lhs => rw [e, Finset.sum_range_add]
  conv_rhs => rw [e', Finset.sum_range_add]
  rw [Finset.sum_eq_zero (s := Finset.range (2 - j)) fun n hn => by
      rw [if_pos (by have := Finset.mem_range.1 hn; omega), zero_mul],
    Finset.sum_eq_zero (s := Finset.range (2 - j)) fun n hn => by
      rw [hz _ (by omega), zero_mul], zero_add, add_zero]
  refine Finset.sum_congr rfl fun n _ => ?_
  rw [if_neg (by omega), mul_comm, show j + (2 - j + n) - 2 = n by omega, Nat.add_comm (2 - j) n]

end Cert.FfnSpec
-- ==== Proof.RefRead.lean ====
/-
  What the reference computes: each of its seven results, read at an index, is the plain sum of Spec.lean over the
  arrays that the reference itself has at the point where the backward pass begins.
-/
module

public import proofs.«01_k».proof.Proof.Real
public import proofs.«01_k».proof.Proof.Sums
public import proofs.«01_k».proof.Proof.Gen.ReferenceIdeal.Read
public import Idealize.ShloMosaic.Lib.Pointwise

@[expose] public section

set_option maxRecDepth 16384

noncomputable section

namespace Cert.ReferenceIdeal.FfnRef

open Cert.ReferenceIdeal Cert.ReferenceIdeal.Gen Cert.ReferenceIdeal.Read Idealize.ShloMosaic
open Cert.FfnSpec Cert.FfnReal

variable (x0 : (⟨S4x2048x1024, .f32⟩ : BufTy).Contents (Elt Ideal)) (x1 x2 x3 : (⟨S4x1024, .f32⟩ : BufTy).Contents (Elt Ideal))
  (x4 : (⟨S1x1024, .f32⟩ : BufTy).Contents (Elt Ideal)) (x5 : (⟨S1024x5632, .f32⟩ : BufTy).Contents (Elt Ideal))
  (x6 : (⟨S3x2816, .f32⟩ : BufTy).Contents (Elt Ideal)) (x7 : (⟨S1x2816, .f32⟩ : BufTy).Contents (Elt Ideal))
  (x8 : (⟨S2816x1024, .f32⟩ : BufTy).Contents (Elt Ideal)) (x9 : (⟨S4x2048x1024, .f32⟩ : BufTy).Contents (Elt Ideal))

/-- The reference's own arrays where its backward pass begins. -/
def insR : Ins where
  ddn b t k := val_main_v64 (F := Ideal) x3 x9 (ix3 b t k)
  g b t c := val_main_v27 (F := Ideal) x0 x1 x2 x4 x5 (ix3 b t c)
  gc b t c := val_main_v54 (F := Ideal) x0 x1 x2 x4 x5 x6 x7 (ix3 b t c)
  v b t c := val_main_v26 (F := Ideal) x0 x1 x2 x4 x5 (ix3 b t c)
  x b t d := x0 (ix3 b t d)
  dx2 b t d := x9 (ix3 b t d)
  sc b d := x2 (ix2 b d)
  gf d := x4 (ix2 0 d)
  wc k c := x6 (ix2 k c)
  wd c k := x8 (ix2 c k)
  wu n d := x5 (ix2 d n)

theorem r65 (b : Fin 4) (t : Fin 2048) (c : Fin 2816) :
    val_main_v65 (F := Ideal) x3 x8 x9 (ix3 b t c) = dact (insR x0 x1 x2 x3 x4 x5 x6 x7 x8 x9) b t c := by
  unfold dact insR
  pointwise [val_main_v65]

theorem r56_2 (b : Fin 4) (t : Fin 2048) (c : Fin 2816) :
    val_main_v56_2 (F := Ideal) x0 x1 x2 x4 x5 x6 x7 (ix3 b t c) = Ideal.logistic ((insR x0 x1 x2 x3 x4 x5 x6 x7 x8 x9).gc b t c) := by
  unfold insR Ideal.logistic
  pointwise [val_main_v56_2, val_main_call0_v4, val_main_call0_v3, val_main_call0_v2, val_main_call0_v1, val_main_call0_v0,
    val_main_call0_cst, val_main_call0_cst_0]

theorem r66 (b : Fin 4) (t : Fin 2048) (c : Fin 2816) :
    val_main_v66 (F := Ideal) x0 x1 x2 x3 x4 x5 x6 x7 x8 x9 (ix3 b t c) = dv (insR x0 x1 x2 x3 x4 x5 x6 x7 x8 x9) b t c := by
  unfold dv
  rw [← r65, ← r56_2, mul_comm]
  pointwise [val_main_v66, val_main_v56_0]
  rfl

theorem r68 (h4 : ∀ b t c, IsReal ((insR x0 x1 x2 x3 x4 x5 x6 x7 x8 x9).gc b t c)) (h5 : ∀ b t c, IsReal (dact (insR x0 x1 x2 x3 x4 x5 x6 x7 x8 x9) b t c * (insR x0 x1 x2 x3 x4 x5 x6 x7 x8 x9).v b t c))
    (b : Fin 4) (t : Fin 2048) (c : Fin 2816) :
    val_main_v68 (F := Ideal) x0 x1 x2 x3 x4 x5 x6 x7 x8 x9 (ix3 b t c) = dgc (insR x0 x1 x2 x3 x4 x5 x6 x7 x8 x9) b t c := by
  unfold dgc
  rw [← dsilu_split (h5 b t c) (h4 b t c), ← r65, ← r56_2]
  unfold insR
  pointwise [val_main_v68, val_main_call1_v1, val_main_call1_v2, val_main_call1_v0, val_main_v67, val_main_v56_1,
    val_main_call0_v7, val_main_call0_v6, val_main_call0_cst_1]

theorem r8 (b : Fin 4) (t : Fin 2048) : val_main_v8 (F := Ideal) x0 (ix3 b t 0) = rstd (insR x0 x1 x2 x3 x4 x5 x6 x7 x8 x9) b t := by
  unfold rstd rmsr insR
  pointwise [val_main_v8, val_main_v7, val_main_v6, val_main_v5, val_main_v4, val_main_v3, val_main_v2, val_main_v1, val_main_cst, val_main_cst_0, val_main_cst_1]
  done

theorem r13 (b : Fin 4) (t : Fin 2048) (d : Fin 1024) : val_main_v13 (F := Ideal) x0 (ix3 b t d) = xhat (insR x0 x1 x2 x3 x4 x5 x6 x7 x8 x9) b t d := by
  unfold xhat
  rw [← r8]
  pointwise [val_main_v13, val_main_v12]
  rfl

section real

variable (hgc : ∀ b t c, IsReal ((insR x0 x1 x2 x3 x4 x5 x6 x7 x8 x9).gc b t c)) (hdv : ∀ b t c, IsReal (dact (insR x0 x1 x2 x3 x4 x5 x6 x7 x8 x9) b t c * (insR x0 x1 x2 x3 x4 x5 x6 x7 x8 x9).v b t c))
include hgc hdv

theorem r104 (b : Fin 4) (t : Fin 2048) (c : Fin 2816) :
    val_main_v104 (F := Ideal) x0 x1 x2 x3 x4 x5 x6 x7 x8 x9 (ix3 b t c) = dg (insR x0 x1 x2 x3 x4 x5 x6 x7 x8 x9) b t c := by
  unfold dg dgcAt
  pointwise [val_main_v104, val_main_v102, val_main_v101, val_main_v91, val_main_v90, val_main_v80, val_main_v96,
    val_main_v85, val_main_v76, val_main_cst_11, val_main_cst_15, val_main_cst_19, val_main_v75, val_main_v84,
    val_main_v95, val_main_v48, val_main_v41, val_main_v35, val_main_v47, val_main_v46, val_main_v40, val_main_v39,
    val_main_v34, val_main_v33]
  have h68 := r68 x0 x1 x2 x3 x4 x5 x6 x7 x8 x9 hgc hdv
  refine congrArg₂ (· + ·) (congrArg₂ (· + ·) ((congrArg (· * _) (h68 b t c)).trans (mul_comm _ _)) ?_) ?_
  · by_cases h : t.val + 1 < 2048
    · have e : (⟨2 + t.val - 1, by omega⟩ : Fin 2048) = ⟨t.val + 1, h⟩ := Fin.ext (by show 2 + t.val - 1 = t.val + 1; omega)
      refine (dif_pos (by omega)).trans (Eq.trans ?_ (congrArg _ (dif_pos h).symm))
      exact (congrArg (· * _) ((congrArg (fun q => val_main_v68 (F := Ideal) x0 x1 x2 x3 x4 x5 x6 x7 x8 x9 (ix3 b q c)) e).trans
        (h68 b _ c))).trans (mul_comm _ _)
    · exact (dif_neg (by omega)).trans (by rw [dif_neg h, mul_zero])
  · by_cases h : t.val + 2 < 2048
    · have e : (⟨2 + t.val, by omega⟩ : Fin 2048) = ⟨t.val + 2, h⟩ := Fin.ext (by show 2 + t.val = t.val + 2; omega)
      refine (dif_pos (by omega)).trans (Eq.trans ?_ (congrArg _ (dif_pos h).symm))
      exact (congrArg (· * _) ((congrArg (fun q => val_main_v68 (F := Ideal) x0 x1 x2 x3 x4 x5 x6 x7 x8 x9 (ix3 b q c)) e).trans
        (h68 b _ c))).trans (mul_comm _ _)
    · exact (dif_neg (by omega)).trans (by rw [dif_neg h, mul_zero])

theorem r106 (b : Fin 4) (t : Fin 2048) (n : Fin 5632) :
    val_main_v106 (F := Ideal) x0 x1 x2 x3 x4 x5 x6 x7 x8 x9 (ix3 b t n) = dup (insR x0 x1 x2 x3 x4 x5 x6 x7 x8 x9) b t n := by
  unfold dup
  pointwise [val_main_v106]
  split
  · exact r66 ..
  · exact r104 _ _ _ _ _ _ _ _ _ _ hgc hdv ..

theorem r107 (b : Fin 4) (t : Fin 2048) (d : Fin 1024) :
    val_main_v107 (F := Ideal) x0 x1 x2 x3 x4 x5 x6 x7 x8 x9 (ix3 b t d) = dh (insR x0 x1 x2 x3 x4 x5 x6 x7 x8 x9) b t d := by
  rw [← sum_dup]
  pointwise [val_main_v107]
  exact Finset.sum_congr rfl fun n _ => congrArg (· * _) (r106 _ _ _ _ _ _ _ _ _ _ hgc hdv b t n)

theorem r140 (b : Fin 4) (d : Fin 1024) :
    val_main_v140 (F := Ideal) x0 x1 x2 x3 x4 x5 x6 x7 x8 x9 (ix3 b 0 d) = dsh (insR x0 x1 x2 x3 x4 x5 x6 x7 x8 x9) b d := by
  unfold dsh
  pointwise [val_main_v140, val_main_v110, val_main_v109, val_main_v108, val_main_cst_20, val_main_cst_21]
  simp only [r107 _ _ _ _ _ _ _ _ _ _ hgc hdv, Finset.univ_unique, Finset.sum_singleton]

theorem r138 (b : Fin 4) (t : Fin 2048) (n : Fin 5632) :
    val_main_v138 (F := Ideal) x0 x1 x2 x3 x4 x5 x6 x7 x8 x9 (ix3 b t n) = dup (insR x0 x1 x2 x3 x4 x5 x6 x7 x8 x9) b t n := by
  pointwise [val_main_v138]
  exact r106 _ _ _ _ _ _ _ _ _ _ hgc hdv ..

theorem r115 (b : Fin 4) (t : Fin 2048) (d : Fin 1024) :
    val_main_v115 (F := Ideal) x0 x1 x2 x3 x4 x5 x6 x7 x8 x9 (ix3 b t d) = tt (insR x0 x1 x2 x3 x4 x5 x6 x7 x8 x9) b t d := by
  unfold tt
  pointwise [val_main_v115, val_main_v114, val_main_v19, val_main_v18, val_main_v17, val_main_cst_3]
  rw [r107 _ _ _ _ _ _ _ _ _ _ hgc hdv]
  rfl

theorem r141 (b : Fin 4) (d : Fin 1024) :
    val_main_v141 (F := Ideal) x0 x1 x2 x3 x4 x5 x6 x7 x8 x9 (ix3 b 0 d) = dsc (insR x0 x1 x2 x3 x4 x5 x6 x7 x8 x9) b d := by
  unfold dsc
  pointwise [val_main_v141, val_main_v116, val_main_v113, val_main_v112, val_main_v111, val_main_v16, val_main_v15, val_main_v14, val_main_v0, val_main_cst_22, val_main_cst_23]
  rw [Fin.sum_univ_one]
  refine Finset.sum_congr rfl fun t _ => ?_
  rw [r107 _ _ _ _ _ _ _ _ _ _ hgc hdv, r13 x0 x1 x2 x3 x4 x5 x6 x7 x8 x9, mul_comm, mul_assoc]
  rfl

theorem r137 (d : Fin 1024) :
    val_main_v137 (F := Ideal) x0 x1 x2 x3 x4 x5 x6 x7 x8 x9 (ix2 0 d) = dgf (insR x0 x1 x2 x3 x4 x5 x6 x7 x8 x9) d := by
  unfold dgf
  pointwise [val_main_v137, val_main_v122, val_main_v119, val_main_v118, val_main_cst_24, val_main_cst_25]
  rw [hostSum01, Fin.sum_univ_one, Fin.sum_univ_one]
  pointwise []
  rw [hostSum01]
  refine Finset.sum_congr rfl fun b _ => Finset.sum_congr rfl fun t _ => ?_
  pointwise [val_main_v117]
  rw [r115 _ _ _ _ _ _ _ _ _ _ hgc hdv, r13 x0 x1 x2 x3 x4 x5 x6 x7 x8 x9, mul_comm]

theorem r105 (c : Fin 2816) :
    val_main_v105 (F := Ideal) x0 x1 x2 x3 x4 x5 x6 x7 x8 x9 (ix2 0 c) = dbc (insR x0 x1 x2 x3 x4 x5 x6 x7 x8 x9) c := by
  unfold dbc
  pointwise [val_main_v105, val_main_v71, val_main_v70, val_main_v69, val_main_cst_6, val_main_cst_7]
  rw [hostSum01, Fin.sum_univ_one, Fin.sum_univ_one]
  pointwise []
  rw [hostSum01]
  exact Finset.sum_congr rfl fun b _ => Finset.sum_congr rfl fun t _ => r68 _ _ _ _ _ _ _ _ _ _ hgc hdv b t c

theorem r139 (hx : ∀ b t d, IsReal ((insR x0 x1 x2 x3 x4 x5 x6 x7 x8 x9).x b t d)) (htt : ∀ b t d, IsReal (tt (insR x0 x1 x2 x3 x4 x5 x6 x7 x8 x9) b t d * (insR x0 x1 x2 x3 x4 x5 x6 x7 x8 x9).gf d))
    (b : Fin 4) (t : Fin 2048) (d : Fin 1024) :
    val_main_v139 (F := Ideal) x0 x1 x2 x3 x4 x5 x6 x7 x8 x9 (ix3 b t d) = dx1 (insR x0 x1 x2 x3 x4 x5 x6 x7 x8 x9) b t d := by
  unfold dx1 rstd xhat rstd
  rw [← rmsBwd_split (hx b t) (htt b t)]
  have h8 : val_main_v8 (F := Ideal) x0 (ix3 b t 0) = rmsr ((insR x0 x1 x2 x3 x4 x5 x6 x7 x8 x9).x b t) := r8 x0 x1 x2 x3 x4 x5 x6 x7 x8 x9 b t
  have h7 : val_main_v7 (F := Ideal) x0 (ix3 b t 0)
      = Ideal.div (∑ k, (insR x0 x1 x2 x3 x4 x5 x6 x7 x8 x9).x b t k * (insR x0 x1 x2 x3 x4 x5 x6 x7 x8 x9).x b t k) (Ideal.ofBits FTy.f32 0x44800000#32) + Ideal.ofBits FTy.f32 0x358637BD#32 := by
    unfold insR
    pointwise [val_main_v7, val_main_v6, val_main_v5, val_main_v4, val_main_v3, val_main_v2, val_main_v1, val_main_cst, val_main_cst_0, val_main_cst_1]
  pointwise [val_main_v139, val_main_v136, val_main_v135, val_main_v134, val_main_v133, val_main_v132, val_main_v131,
    val_main_v130, val_main_v129, val_main_v128, val_main_v127, val_main_v126, val_main_v125, val_main_v124,
    val_main_v123, val_main_v121, val_main_v120, val_main_v14, val_main_v11, val_main_v9, val_main_v10, val_main_v0,
    val_main_cst_26, val_main_cst_27, val_main_cst_28, val_main_cst_2]
  simp only [r115 _ _ _ _ _ _ _ _ _ _ hgc hdv, Fin.sum_univ_one, h8, h7]
  rfl

theorem r73 (c : Fin 2816) : val_main_v73 (F := Ideal) x0 x1 x2 x3 x4 x5 x6 x7 x8 x9 (ix1 c) = dtap (insR x0 x1 x2 x3 x4 x5 x6 x7 x8 x9) 0 c := by
  have h68 := r68 x0 x1 x2 x3 x4 x5 x6 x7 x8 x9 hgc hdv
  have hrow : ∀ (b : Fin 4) (t : Fin 2048), val_main_v45 (F := Ideal) x0 x1 x2 x4 x5 (ix3 b t c)
      = if h : 2 + t.val < 2 then 0 else (insR x0 x1 x2 x3 x4 x5 x6 x7 x8 x9).g b ⟨2 + t.val - 2, by omega⟩ c := fun b t => by
    unfold insR
    pointwise [val_main_v45, val_main_v30, val_main_v29, val_main_cst_4]
  unfold dtap
  pointwise [val_main_v73, val_main_cst_8]
  rw [hostSum01]
  refine Finset.sum_congr rfl fun b _ => (Eq.trans (Finset.sum_congr rfl fun t _ => ?_)
    (shift_sum (fun t => (insR x0 x1 x2 x3 x4 x5 x6 x7 x8 x9).g b t c) (fun t => dgc (insR x0 x1 x2 x3 x4 x5 x6 x7 x8 x9) b t c) 2 (by omega)))
  exact congrArg₂ (· * ·) (hrow b t) (h68 b t c)

theorem r82 (c : Fin 2816) : val_main_v82 (F := Ideal) x0 x1 x2 x3 x4 x5 x6 x7 x8 x9 (ix1 c) = dtap (insR x0 x1 x2 x3 x4 x5 x6 x7 x8 x9) 1 c := by
  have h68 := r68 x0 x1 x2 x3 x4 x5 x6 x7 x8 x9 hgc hdv
  have hrow : ∀ (b : Fin 4) (t : Fin 2048), val_main_v38 (F := Ideal) x0 x1 x2 x4 x5 (ix3 b t c)
      = if h : 1 + t.val < 2 then 0 else (insR x0 x1 x2 x3 x4 x5 x6 x7 x8 x9).g b ⟨1 + t.val - 2, by omega⟩ c := fun b t => by
    unfold insR
    pointwise [val_main_v38, val_main_v30, val_main_v29, val_main_cst_4]
  unfold dtap
  pointwise [val_main_v82, val_main_cst_12]
  rw [hostSum01]
  refine Finset.sum_congr rfl fun b _ => (Eq.trans (Finset.sum_congr rfl fun t _ => ?_)
    (shift_sum (fun t => (insR x0 x1 x2 x3 x4 x5 x6 x7 x8 x9).g b t c) (fun t => dgc (insR x0 x1 x2 x3 x4 x5 x6 x7 x8 x9) b t c) 1 (by omega)))
  exact congrArg₂ (· * ·) (hrow b t) (h68 b t c)

theorem r93 (c : Fin 2816) : val_main_v93 (F := Ideal) x0 x1 x2 x3 x4 x5 x6 x7 x8 x9 (ix1 c) = dtap (insR x0 x1 x2 x3 x4 x5 x6 x7 x8 x9) 2 c := by
  have h68 := r68 x0 x1 x2 x3 x4 x5 x6 x7 x8 x9 hgc hdv
  have hrow : ∀ (b : Fin 4) (t : Fin 2048), val_main_v32 (F := Ideal) x0 x1 x2 x4 x5 (ix3 b t c)
      = if h : 0 + t.val < 2 then 0 else (insR x0 x1 x2 x3 x4 x5 x6 x7 x8 x9).g b ⟨0 + t.val - 2, by omega⟩ c := fun b t => by
    unfold insR
    pointwise [val_main_v32, val_main_v30, val_main_v29, val_main_cst_4]
  unfold dtap
  pointwise [val_main_v93, val_main_cst_16]
  rw [hostSum01]
  refine Finset.sum_congr rfl fun b _ => (Eq.trans (Finset.sum_congr rfl fun t _ => ?_)
    (shift_sum (fun t => (insR x0 x1 x2 x3 x4 x5 x6 x7 x8 x9).g b t c) (fun t => dgc (insR x0 x1 x2 x3 x4 x5 x6 x7 x8 x9) b t c) 0 (by omega)))
  exact congrArg₂ (· * ·) (hrow b t) (h68 b t c)

theorem r100 (k : Fin 3) (c : Fin 2816) :
    val_main_v100 (F := Ideal) x0 x1 x2 x3 x4 x5 x6 x7 x8 x9 (ix2 k c) = dwc (insR x0 x1 x2 x3 x4 x5 x6 x7 x8 x9) k c := by
  have h73 := r73 x0 x1 x2 x3 x4 x5 x6 x7 x8 x9 hgc hdv c
  have h82 := r82 x0 x1 x2 x3 x4 x5 x6 x7 x8 x9 hgc hdv c
  have h93 := r93 x0 x1 x2 x3 x4 x5 x6 x7 x8 x9 hgc hdv c
  unfold dwc
  pointwise [val_main_v100, val_main_v99, val_main_v89, val_main_v88, val_main_v79, val_main_v78, val_main_v77, val_main_v87, val_main_v86, val_main_v98, val_main_v97, val_main_v94, val_main_v83, val_main_v74, val_main_cst_10, val_main_cst_14, val_main_cst_18, val_main_cst_9, val_main_cst_13, val_main_cst_17]
  simp only [hostSum01]
  pointwise []
  simp only [h73, h82, h93, Fin.sum_univ_one]
  fin_cases k <;> simp

end real

end Cert.ReferenceIdeal.FfnRef
-- ==== Proof.Bridge.lean ====
/-
  The arrays the kernel's launch finds are the reference's own where its backward pass begins: both programs run the same
  forward pass on the host, the roundings to sixteen bits being the identity on exact values.
-/
module

public import proofs.«01_k».proof.Proof.Reads
public import proofs.«01_k».proof.Proof.RefRead

@[expose] public section

set_option maxRecDepth 16384

noncomputable section

namespace Cert.KernelIdeal.Ffn

open Cert.KernelIdeal Cert.KernelIdeal.Gen Idealize.ShloMosaic Idealize.ShloMosaic.TcCoe Idealize.ShloMosaic.StableHlo
open Cert.FfnSpec Cert.ReferenceIdeal.Read

variable (m : (ℓ : Loc nD τ sig) → Buf (Elt Ideal) ℓ) (c : Dev nD)

/-- The launch contents of argument `b`. -/
abbrev arg (b : Ref sig .tc) : Buf (Elt Ideal) ((c : Thread nD τ).loc b) := m ((c : Thread nD τ).loc b)

theorem V58 : V m c main_v58 = val_main_v27 (F := Ideal) (arg m c main_arg0) (arg m c main_arg1) (arg m c main_arg2)
    (arg m c main_arg4) (arg m c main_arg5) := by
  show StableHlo.after hostOps0 _ _ = _
  after_results
  rfl

theorem V60 : V m c main_v60 = val_main_v26 (F := Ideal) (arg m c main_arg0) (arg m c main_arg1) (arg m c main_arg2)
    (arg m c main_arg4) (arg m c main_arg5) := by
  show StableHlo.after hostOps0 _ _ = _
  after_results
  rfl

theorem V59 : V m c main_v59 = val_main_v54 (F := Ideal) (arg m c main_arg0) (arg m c main_arg1) (arg m c main_arg2)
    (arg m c main_arg4) (arg m c main_arg5) (arg m c main_arg6) (arg m c main_arg7) := by
  show StableHlo.after hostOps0 _ _ = _
  after_results
  rfl

theorem V54 : V m c main_v54 = val_main_v64 (F := Ideal) (arg m c main_arg3) (arg m c main_arg9) := by
  have h : V m c main_v54 = val_main_v63 (F := Ideal) (arg m c main_arg3) * (arg m c main_arg9 : S4x2048x1024.Idx → EReal) := by
    show StableHlo.after hostOps0 _ _ = _
    after_results
    rfl
  rw [h]
  refine funext fun i => congrArg (val_main_v63 (F := Ideal) (arg m c main_arg3) i * ·) ?_
  obtain ⟨b, t, d, rfl⟩ : ∃ (b : Fin 4) (t : Fin 2048) (d : Fin 1024), i = ix3 b t d := ⟨i 0, i 1, i 2, eq_ix3 i⟩
  pointwise [val_main_v62]

theorem V57 : V m c main_v57 = arg m c main_arg8 := by
  show StableHlo.after hostOps0 _ _ = _
  after_results
  rfl

theorem V56 (n : Fin 5632) (d : Fin 1024) : V m c main_v56 (ix2 n d) = arg m c main_arg5 (ix2 d n) := by
  have h : V m c main_v56 = transpose (α := EReal) S5632x1024 [1, 0] (arg m c main_arg5) transposes_S1024x5632_S5632x1024_1_0 := by
    show StableHlo.after hostOps0 _ _ = _
    after_results
    rfl
  rw [h]
  pointwise []

theorem V62 (b : Fin 4) (d : Fin 1024) : V m c main_v62 (ix3 b 0 d) = arg m c main_arg2 (ix2 b d) := by
  have h : V m c main_v62 = shapeCast S4x1x1024 (arg m c main_arg2) shapeCasts_S4x1024_S4x1x1024 := by
    show StableHlo.after hostOps0 _ _ = _
    after_results
    rfl
  rw [h]
  pointwise []

/-- The kernel's inputs of the backward pass are the reference's. -/
theorem insK_eq : insK m c = Cert.ReferenceIdeal.FfnRef.insR (arg m c main_arg0) (arg m c main_arg1) (arg m c main_arg2)
    (arg m c main_arg3) (arg m c main_arg4) (arg m c main_arg5) (arg m c main_arg6) (arg m c main_arg7) (arg m c main_arg8)
    (arg m c main_arg9) := by
  unfold insK Cert.ReferenceIdeal.FfnRef.insR
  exact (Ins.mk.injEq ..).mpr ⟨funext fun b => funext fun t => funext fun d => congrFun (V54 m c) _,
    funext fun b => funext fun t => funext fun d => congrFun (V58 m c) _,
    funext fun b => funext fun t => funext fun d => congrFun (V59 m c) _,
    funext fun b => funext fun t => funext fun d => congrFun (V60 m c) _,
    funext fun b => funext fun t => funext fun d => congrFun (V_main_arg0 m c) _,
    funext fun b => funext fun t => funext fun d => congrFun (V_main_arg9 m c) _,
    funext fun b => funext fun d => V62 m c b d,
    funext fun d => congrFun (V_main_arg4 m c) _,
    funext fun k => funext fun n => congrFun (V_main_arg6 m c) _,
    funext fun n => funext fun d => congrFun (V57 m c) _,
    funext fun n => funext fun d => V56 m c n d⟩

end Cert.KernelIdeal.Ffn
-- ==== Proof.RefReal.lean ====
/-
  Where every argument entry is a real number, so is everything the two regroupings of the backward pass ask of: the
  convolution's output, the gate's product, the residual stream and the cotangent that reaches the norm.
-/
module

public import proofs.«01_k».proof.Proof.RefRead

@[expose] public section

set_option maxRecDepth 16384

noncomputable section

namespace Cert.FfnReal

open Cert.FfnSpec

/-- All that the backward pass starts from is real. -/
structure InsReal (I : Ins) : Prop where
  ddn : ∀ b t k, IsReal (I.ddn b t k)
  gc : ∀ b t c, IsReal (I.gc b t c)
  v : ∀ b t c, IsReal (I.v b t c)
  x : ∀ b t d, IsReal (I.x b t d)
  sc : ∀ b d, IsReal (I.sc b d)
  gf : ∀ d, IsReal (I.gf d)
  wc : ∀ k c, IsReal (I.wc k c)
  wd : ∀ c k, IsReal (I.wd c k)
  wu : ∀ n d, IsReal (I.wu n d)

variable {I : Ins} (h : InsReal I)
include h

theorem InsReal.dact (b : Fin 4) (t : Fin 2048) (c : Fin 2816) : IsReal (dact I b t c) :=
  IsReal.sum _ _ fun k => (h.ddn b t k).mul (h.wd c k)

theorem InsReal.dactv (b : Fin 4) (t : Fin 2048) (c : Fin 2816) : IsReal (FfnSpec.dact I b t c * I.v b t c) :=
  (h.dact b t c).mul (h.v b t c)

theorem InsReal.dgcAt (b : Fin 4) (n : ℕ) (c : Fin 2816) : IsReal (dgcAt I b n c) := by
  unfold FfnSpec.dgcAt
  split
  · exact (h.dactv b _ c).mul (h.gc b _ c).dsilu
  · exact IsReal.zero

theorem InsReal.dh (b : Fin 4) (t : Fin 2048) (d : Fin 1024) : IsReal (dh I b t d) :=
  (IsReal.sum _ _ fun c => ((h.dact b t c).mul ((h.gc b t c).mul (h.gc b t c).logistic)).mul (h.wu (lo c) d)).add
    (IsReal.sum _ _ fun c => ((((h.wc 2 c).mul ((h.dactv b t c).mul (h.gc b t c).dsilu)).add
      ((h.wc 1 c).mul (h.dgcAt b _ c))).add ((h.wc 0 c).mul (h.dgcAt b _ c))).mul (h.wu (hi c) d))

theorem InsReal.ttgf (b : Fin 4) (t : Fin 2048) (d : Fin 1024) : IsReal (tt I b t d * I.gf d) :=
  ((h.dh b t d).mul (IsReal.one.add (h.sc b d))).mul (h.gf d)

end Cert.FfnReal

namespace Cert.ReferenceIdeal.FfnRef

open Cert.ReferenceIdeal Cert.ReferenceIdeal.Gen Cert.ReferenceIdeal.Read Idealize.ShloMosaic
open Cert.FfnSpec Cert.FfnReal

variable (x0 : (⟨S4x2048x1024, .f32⟩ : BufTy).Contents (Elt Ideal)) (x1 x2 x3 : (⟨S4x1024, .f32⟩ : BufTy).Contents (Elt Ideal))
  (x4 : (⟨S1x1024, .f32⟩ : BufTy).Contents (Elt Ideal)) (x5 : (⟨S1024x5632, .f32⟩ : BufTy).Contents (Elt Ideal))
  (x6 : (⟨S3x2816, .f32⟩ : BufTy).Contents (Elt Ideal)) (x7 : (⟨S1x2816, .f32⟩ : BufTy).Contents (Elt Ideal))
  (x8 : (⟨S2816x1024, .f32⟩ : BufTy).Contents (Elt Ideal)) (x9 : (⟨S4x2048x1024, .f32⟩ : BufTy).Contents (Elt Ideal))
  (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (h6 : ∀ i, IsReal (x6 i)) (h7 : ∀ i, IsReal (x7 i))
  (h8 : ∀ i, IsReal (x8 i)) (h9 : ∀ i, IsReal (x9 i))

section
include x3 x5 x6 x7 x8 x9 h0 h1 h2 h4

theorem real24 (b : Fin 4) (t : Fin 2048) (d : Fin 1024) : IsReal (val_main_v24 (F := Ideal) x0 x1 x2 x4 (ix3 b t d)) := by
  have h13 : IsReal (val_main_v13 (F := Ideal) x0 (ix3 b t d)) := by
    rw [r13 x0 x1 x2 x3 x4 x5 x6 x7 x8 x9]
    exact (h0 _).mul (IsReal.rmsr fun d => h0 _)
  pointwise [val_main_v24, val_main_v23, val_main_v22, val_main_v21, val_main_v20, val_main_v19, val_main_v18,
    val_main_cst_3, val_main_v17, val_main_v16, val_main_v15, val_main_v14, val_main_v0]
  exact (((h13.mul (h4 _)).mul (IsReal.one.add (h2 _))).add (h1 _))

include h5

theorem real25 (b : Fin 4) (t : Fin 2048) (n : Fin 5632) : IsReal (val_main_v25 (F := Ideal) x0 x1 x2 x4 x5 (ix3 b t n)) := by
  pointwise [val_main_v25]
  exact IsReal.sum _ _ fun k => (real24 x0 x1 x2 x3 x4 x5 x6 x7 x8 x9 h0 h1 h2 h4 b t k).mul (h5 _)

theorem real27 (b : Fin 4) (t : Fin 2048) (c : Fin 2816) : IsReal (val_main_v27 (F := Ideal) x0 x1 x2 x4 x5 (ix3 b t c)) := by
  pointwise [val_main_v27]
  exact real25 x0 x1 x2 x3 x4 x5 x6 x7 x8 x9 h0 h1 h2 h4 h5 b t _

theorem real26 (b : Fin 4) (t : Fin 2048) (c : Fin 2816) : IsReal (val_main_v26 (F := Ideal) x0 x1 x2 x4 x5 (ix3 b t c)) := by
  pointwise [val_main_v26]
  exact real25 x0 x1 x2 x3 x4 x5 x6 x7 x8 x9 h0 h1 h2 h4 h5 b t _

include h6 h7

theorem real54 (b : Fin 4) (t : Fin 2048) (c : Fin 2816) :
    IsReal (val_main_v54 (F := Ideal) x0 x1 x2 x4 x5 x6 x7 (ix3 b t c)) := by
  have h27 := real27 x0 x1 x2 x3 x4 x5 x6 x7 x8 x9 h0 h1 h2 h4 h5
  have h30 : ∀ (b : Fin 4) (n : Fin 2050) (c : Fin 2816), IsReal (val_main_v30 (F := Ideal) x0 x1 x2 x4 x5 (ix3 b n c)) := by
    intro b n c
    pointwise [val_main_v30, val_main_v29, val_main_cst_4]
    split
    · exact IsReal.zero
    · exact h27 ..
  pointwise [val_main_v54, val_main_v53, val_main_v52, val_main_v28, val_main_v51, val_main_v50, val_main_v49, val_main_v48,
    val_main_v47, val_main_v46, val_main_v45, val_main_v44, val_main_v43, val_main_v42, val_main_v41, val_main_v40,
    val_main_v39, val_main_v38, val_main_v37, val_main_v36, val_main_v35, val_main_v34, val_main_v33, val_main_v32]
  exact ((((h30 ..).mul (h6 _)).add ((h30 ..).mul (h6 _))).add ((h30 ..).mul (h6 _))).add (h7 _)

end

include h0 h1 h2 h3 h4 h5 h6 h7 h8 h9

/-- Over real arguments the reference's arrays at the head of its backward pass are real. -/
theorem insR_real : InsReal (insR x0 x1 x2 x3 x4 x5 x6 x7 x8 x9) where
  ddn b t k := by
    unfold insR
    pointwise [val_main_v64, val_main_v63, val_main_v62, val_main_v55]
    exact (h3 _).mul (h9 _)
  gc b t c := real54 x0 x1 x2 x3 x4 x5 x6 x7 x8 x9 h0 h1 h2 h4 h5 h6 h7 b t c
  v b t c := real26 x0 x1 x2 x3 x4 x5 x6 x7 x8 x9 h0 h1 h2 h4 h5 b t c
  x b t d := h0 _
  sc b d := h2 _
  gf d := h4 _
  wc k c := h6 _
  wd c k := h8 _
  wu n d := h5 _

end Cert.ReferenceIdeal.FfnRef
-- ==== Proof.Pre.lean ====
/-
  The precondition read at an entry: every entry of every argument is a real number.
-/
module

public import proofs.«01_k».proof.Defs
public import proofs.«01_k».proof.Proof.Real
public import Idealize.ShloMosaic.Lib.Pointwise

@[expose] public section

set_option maxRecDepth 16384

noncomputable section

namespace Cert.Pre_finite

open Idealize.ShloMosaic Cert.FfnReal

instance facts : Facts where
  bcast_S_S4x2048x1024 := by decide
  bcast_S_S4x1024 := by decide
  bcast_S_S1x1024 := by decide
  bcast_S_S1024x5632 := by decide
  bcast_S_S3x2816 := by decide
  bcast_S_S1x2816 := by decide
  bcast_S_S2816x1024 := by decide

/-- An array whose comparison `|x| < ∞` is all ones holds real numbers. -/
theorem real_of_lt {s : Shape} {h : S_.BroadcastsInDim s (![] : Fin 0 → Fin s.rank)} {x : FVec Ideal s .f32}
    (e : cmpf .olt (Host.absf x) (broadcastInDim s ![] h (constant S_ .f32 0x7F800000#32)) = fun _ => 1#1) (i : s.Idx) :
    IsReal (x i) := by
  have e' : BitVec.ofBool (decide (max (x i) (-(x i)) < Ideal.ofBits FTy.f32 0x7F800000#32)) = 1#1 := congrFun e i
  rw [lit_top] at e'
  refine IsReal.of_abs_lt ?_
  by_contra hn
  rw [decide_eq_false hn] at e'
  exact absurd e' (by decide)

/-- Every argument entry of a launch memory that meets the precondition is real. -/
theorem args_real {m : (ℓ : Loc Cert.KernelIdeal.nD Cert.KernelIdeal.τ Cert.KernelIdeal.sig) → Buf (Elt Ideal) ℓ}
    (h : Cert.Pre_KernelIdeal_finite m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i)) := by
  obtain ⟨e0, e1, e2, e3, e4, e5, e6, e7, e8, e9⟩ := h c
  exact ⟨fun i => real_of_lt e0 i, fun i => real_of_lt e1 i, fun i => real_of_lt e2 i, fun i => real_of_lt e3 i,
    fun i => real_of_lt e4 i, fun i => real_of_lt e5 i, fun i => real_of_lt e6 i, fun i => real_of_lt e7 i,
    fun i => real_of_lt e8 i, fun i => real_of_lt e9 i⟩

end Cert.Pre_finite
-- ==== Proof.Equation.lean ====
/-
  The equality: over arguments that hold real numbers, each of the launch's seven results is the reference's.
-/
module

public import proofs.«01_k».proof.Proof.Arrays
public import proofs.«01_k».proof.Proof.Bridge
public import proofs.«01_k».proof.Proof.RefReal
public import proofs.«01_k».proof.Proof.Pre

@[expose] public section

set_option maxRecDepth 16384

noncomputable section

namespace Cert.KernelIdeal.Ffn

open Cert.KernelIdeal Cert.KernelIdeal.Gen Idealize.ShloMosaic Idealize.ShloMosaic.TcCoe Idealize.SL.Sem
open Cert.FfnSpec Cert.FfnReal Cert.ReferenceIdeal.Read Cert.ReferenceIdeal.FfnRef

variable (m : (ℓ : Loc nD τ sig) → Buf (Elt Ideal) ℓ)

/-- The arrays the backward pass begins from, of the launch's arguments, are real. -/
theorem ins_real (hp : Cert.Pre_KernelIdeal_finite m) (c : Dev nD) : InsReal (insR (arg m c main_arg0) (arg m c main_arg1) (arg m c main_arg2) (arg m c main_arg3) (arg m c main_arg4) (arg m c main_arg5) (arg m c main_arg6) (arg m c main_arg7) (arg m c main_arg8) (arg m c main_arg9)) := by
  obtain ⟨h0, h1, h2, h3, h4, h5, h6, h7, h8, h9⟩ := Cert.Pre_finite.args_real hp c
  exact insR_real (arg m c main_arg0) (arg m c main_arg1) (arg m c main_arg2) (arg m c main_arg3) (arg m c main_arg4) (arg m c main_arg5) (arg m c main_arg6) (arg m c main_arg7) (arg m c main_arg8) (arg m c main_arg9) h0 h1 h2 h3 h4 h5 h6 h7 h8 h9

variable (hp : Cert.Pre_KernelIdeal_finite m) (c : Dev nD)
include hp

theorem res12 : (dats m 0 c).arrAt 12 cfg0.N = val_main_v138 (F := Ideal) (arg m c main_arg0) (arg m c main_arg1) (arg m c main_arg2) (arg m c main_arg3) (arg m c main_arg4) (arg m c main_arg5) (arg m c main_arg6) (arg m c main_arg7) (arg m c main_arg8) (arg m c main_arg9) := by
  rw [arr12, insK_eq]
  funext y
  obtain ⟨a, b, d, rfl⟩ : ∃ a b d, y = ix3 a b d := ⟨y 0, y 1, y 2, ValueIdx.eq_ix3 y⟩
  exact (r138 (arg m c main_arg0) (arg m c main_arg1) (arg m c main_arg2) (arg m c main_arg3) (arg m c main_arg4) (arg m c main_arg5) (arg m c main_arg6) (arg m c main_arg7) (arg m c main_arg8) (arg m c main_arg9)
    (ins_real m hp c).gc (ins_real m hp c).dactv a b d).symm

theorem res13 : (dats m 0 c).arrAt 13 cfg0.N = val_main_v139 (F := Ideal) (arg m c main_arg0) (arg m c main_arg1) (arg m c main_arg2) (arg m c main_arg3) (arg m c main_arg4) (arg m c main_arg5) (arg m c main_arg6) (arg m c main_arg7) (arg m c main_arg8) (arg m c main_arg9) := by
  rw [arr13, insK_eq]
  funext y
  obtain ⟨a, b, d, rfl⟩ : ∃ a b d, y = ix3 a b d := ⟨y 0, y 1, y 2, ValueIdx.eq_ix3 y⟩
  exact (r139 (arg m c main_arg0) (arg m c main_arg1) (arg m c main_arg2) (arg m c main_arg3) (arg m c main_arg4) (arg m c main_arg5) (arg m c main_arg6) (arg m c main_arg7) (arg m c main_arg8) (arg m c main_arg9)
    (ins_real m hp c).gc (ins_real m hp c).dactv (ins_real m hp c).x (ins_real m hp c).ttgf a b d).symm

theorem res14 : (dats m 0 c).arrAt 14 cfg0.N = val_main_v140 (F := Ideal) (arg m c main_arg0) (arg m c main_arg1) (arg m c main_arg2) (arg m c main_arg3) (arg m c main_arg4) (arg m c main_arg5) (arg m c main_arg6) (arg m c main_arg7) (arg m c main_arg8) (arg m c main_arg9) := by
  rw [arr14, insK_eq]
  funext y
  obtain ⟨a, d, rfl⟩ : ∃ a d, y = ix3 a 0 d := ⟨y 0, y 2, (ValueIdx.eq_ix3 y).trans (congrArg (fun q => ix3 (y 0) q (y 2)) (Fin.eq_zero (y 1)))⟩
  exact (r140 (arg m c main_arg0) (arg m c main_arg1) (arg m c main_arg2) (arg m c main_arg3) (arg m c main_arg4) (arg m c main_arg5) (arg m c main_arg6) (arg m c main_arg7) (arg m c main_arg8) (arg m c main_arg9)
    (ins_real m hp c).gc (ins_real m hp c).dactv a d).symm

theorem res15 : (dats m 0 c).arrAt 15 cfg0.N = val_main_v141 (F := Ideal) (arg m c main_arg0) (arg m c main_arg1) (arg m c main_arg2) (arg m c main_arg3) (arg m c main_arg4) (arg m c main_arg5) (arg m c main_arg6) (arg m c main_arg7) (arg m c main_arg8) (arg m c main_arg9) := by
  rw [arr15, insK_eq]
  funext y
  obtain ⟨a, d, rfl⟩ : ∃ a d, y = ix3 a 0 d := ⟨y 0, y 2, (ValueIdx.eq_ix3 y).trans (congrArg (fun q => ix3 (y 0) q (y 2)) (Fin.eq_zero (y 1)))⟩
  exact (r141 (arg m c main_arg0) (arg m c main_arg1) (arg m c main_arg2) (arg m c main_arg3) (arg m c main_arg4) (arg m c main_arg5) (arg m c main_arg6) (arg m c main_arg7) (arg m c main_arg8) (arg m c main_arg9)
    (ins_real m hp c).gc (ins_real m hp c).dactv a d).symm

theorem res16 : (dats m 0 c).arrAt 16 cfg0.N = val_main_v137 (F := Ideal) (arg m c main_arg0) (arg m c main_arg1) (arg m c main_arg2) (arg m c main_arg3) (arg m c main_arg4) (arg m c main_arg5) (arg m c main_arg6) (arg m c main_arg7) (arg m c main_arg8) (arg m c main_arg9) := by
  rw [arr16, insK_eq]
  funext y
  obtain ⟨d, rfl⟩ : ∃ d, y = ix2 0 d := ⟨y 1, (ValueIdx.eq_ix2 y).trans (congrArg (fun q => ix2 q (y 1)) (Fin.eq_zero (y 0)))⟩
  exact (r137 (arg m c main_arg0) (arg m c main_arg1) (arg m c main_arg2) (arg m c main_arg3) (arg m c main_arg4) (arg m c main_arg5) (arg m c main_arg6) (arg m c main_arg7) (arg m c main_arg8) (arg m c main_arg9)
    (ins_real m hp c).gc (ins_real m hp c).dactv d).symm

theorem res17 : (dats m 0 c).arrAt 17 cfg0.N = val_main_v100 (F := Ideal) (arg m c main_arg0) (arg m c main_arg1) (arg m c main_arg2) (arg m c main_arg3) (arg m c main_arg4) (arg m c main_arg5) (arg m c main_arg6) (arg m c main_arg7) (arg m c main_arg8) (arg m c main_arg9) := by
  rw [arr17, insK_eq]
  funext y
  obtain ⟨a, d, rfl⟩ : ∃ a d, y = ix2 a d := ⟨y 0, y 1, ValueIdx.eq_ix2 y⟩
  exact (r100 (arg m c main_arg0) (arg m c main_arg1) (arg m c main_arg2) (arg m c main_arg3) (arg m c main_arg4) (arg m c main_arg5) (arg m c main_arg6) (arg m c main_arg7) (arg m c main_arg8) (arg m c main_arg9)
    (ins_real m hp c).gc (ins_real m hp c).dactv a d).symm

theorem res18 : (dats m 0 c).arrAt 18 cfg0.N = val_main_v105 (F := Ideal) (arg m c main_arg0) (arg m c main_arg1) (arg m c main_arg2) (arg m c main_arg3) (arg m c main_arg4) (arg m c main_arg5) (arg m c main_arg6) (arg m c main_arg7) (arg m c main_arg8) (arg m c main_arg9) := by
  rw [arr18, insK_eq]
  funext y
  obtain ⟨d, rfl⟩ : ∃ d, y = ix2 0 d := ⟨y 1, (ValueIdx.eq_ix2 y).trans (congrArg (fun q => ix2 q (y 1)) (Fin.eq_zero (y 0)))⟩
  exact (r105 (arg m c main_arg0) (arg m c main_arg1) (arg m c main_arg2) (arg m c main_arg3) (arg m c main_arg4) (arg m c main_arg5) (arg m c main_arg6) (arg m c main_arg7) (arg m c main_arg8) (arg m c main_arg9)
    (ins_real m hp c).gc (ins_real m hp c).dactv d).symm

section posts

variable {r : PUnit × MemSt nD τ sig (Elt Ideal)} (h : Pipeline.FramePost cfgs (dats m) 0 (V m) r)
include h

omit hp in
theorem post12 : r.2.mem ((c : Thread nD τ).loc main_v63_0) = (dats m 0 c).arrAt 12 cfg0.N := (h c).1 12

theorem fin12 : r.2.mem ((c : Thread nD τ).loc main_v63_0) = val_main_v138 (F := Ideal) (arg m c main_arg0) (arg m c main_arg1) (arg m c main_arg2) (arg m c main_arg3) (arg m c main_arg4) (arg m c main_arg5) (arg m c main_arg6) (arg m c main_arg7) (arg m c main_arg8) (arg m c main_arg9) :=
  (post12 m c h).trans (res12 m hp c)

omit hp in
theorem post13 : r.2.mem ((c : Thread nD τ).loc main_v63_1) = (dats m 0 c).arrAt 13 cfg0.N := (h c).1 13

theorem fin13 : r.2.mem ((c : Thread nD τ).loc main_v63_1) = val_main_v139 (F := Ideal) (arg m c main_arg0) (arg m c main_arg1) (arg m c main_arg2) (arg m c main_arg3) (arg m c main_arg4) (arg m c main_arg5) (arg m c main_arg6) (arg m c main_arg7) (arg m c main_arg8) (arg m c main_arg9) :=
  (post13 m c h).trans (res13 m hp c)

omit hp in
theorem post14 : r.2.mem ((c : Thread nD τ).loc main_v63_2) = (dats m 0 c).arrAt 14 cfg0.N := (h c).1 14

theorem fin14 : r.2.mem ((c : Thread nD τ).loc main_v63_2) = val_main_v140 (F := Ideal) (arg m c main_arg0) (arg m c main_arg1) (arg m c main_arg2) (arg m c main_arg3) (arg m c main_arg4) (arg m c main_arg5) (arg m c main_arg6) (arg m c main_arg7) (arg m c main_arg8) (arg m c main_arg9) :=
  (post14 m c h).trans (res14 m hp c)

omit hp in
theorem post15 : r.2.mem ((c : Thread nD τ).loc main_v63_3) = (dats m 0 c).arrAt 15 cfg0.N := (h c).1 15

theorem fin15 : r.2.mem ((c : Thread nD τ).loc main_v63_3) = val_main_v141 (F := Ideal) (arg m c main_arg0) (arg m c main_arg1) (arg m c main_arg2) (arg m c main_arg3) (arg m c main_arg4) (arg m c main_arg5) (arg m c main_arg6) (arg m c main_arg7) (arg m c main_arg8) (arg m c main_arg9) :=
  (post15 m c h).trans (res15 m hp c)

omit hp in
theorem post16 : r.2.mem ((c : Thread nD τ).loc main_v63_4) = (dats m 0 c).arrAt 16 cfg0.N := (h c).1 16

theorem fin16 : r.2.mem ((c : Thread nD τ).loc main_v63_4) = val_main_v137 (F := Ideal) (arg m c main_arg0) (arg m c main_arg1) (arg m c main_arg2) (arg m c main_arg3) (arg m c main_arg4) (arg m c main_arg5) (arg m c main_arg6) (arg m c main_arg7) (arg m c main_arg8) (arg m c main_arg9) :=
  (post16 m c h).trans (res16 m hp c)

omit hp in
theorem post17 : r.2.mem ((c : Thread nD τ).loc main_v63_5) = (dats m 0 c).arrAt 17 cfg0.N := (h c).1 17

theorem fin17 : r.2.mem ((c : Thread nD τ).loc main_v63_5) = val_main_v100 (F := Ideal) (arg m c main_arg0) (arg m c main_arg1) (arg m c main_arg2) (arg m c main_arg3) (arg m c main_arg4) (arg m c main_arg5) (arg m c main_arg6) (arg m c main_arg7) (arg m c main_arg8) (arg m c main_arg9) :=
  (post17 m c h).trans (res17 m hp c)

omit hp in
theorem post18 : r.2.mem ((c : Thread nD τ).loc main_v63_6) = (dats m 0 c).arrAt 18 cfg0.N := (h c).1 18

theorem fin18 : r.2.mem ((c : Thread nD τ).loc main_v63_6) = val_main_v105 (F := Ideal) (arg m c main_arg0) (arg m c main_arg1) (arg m c main_arg2) (arg m c main_arg3) (arg m c main_arg4) (arg m c main_arg5) (arg m c main_arg6) (arg m c main_arg7) (arg m c main_arg8) (arg m c main_arg9) :=
  (post18 m c h).trans (res18 m hp c)

omit hp in
theorem kept0 : r.2.mem ((c : Thread nD τ).loc main_arg0) = m ((c : Thread nD τ).loc main_arg0) :=
  ((h c).1 4).trans (((dats m 0 c).arrAt_in 4 rfl _).trans ((A_eq m c 4).trans (V_main_arg0 m c)))

omit hp in
theorem kept1 : r.2.mem ((c : Thread nD τ).loc main_arg1) = m ((c : Thread nD τ).loc main_arg1) :=
  ((h c).2 main_arg1 (Pipeline.mem_restRefs_of main_arg1 (by decide) (by decide))).trans (V_main_arg1 m c)

omit hp in
theorem kept2 : r.2.mem ((c : Thread nD τ).loc main_arg2) = m ((c : Thread nD τ).loc main_arg2) :=
  ((h c).2 main_arg2 (Pipeline.mem_restRefs_of main_arg2 (by decide) (by decide))).trans (V_main_arg2 m c)

omit hp in
theorem kept3 : r.2.mem ((c : Thread nD τ).loc main_arg3) = m ((c : Thread nD τ).loc main_arg3) :=
  ((h c).2 main_arg3 (Pipeline.mem_restRefs_of main_arg3 (by decide) (by decide))).trans (V_main_arg3 m c)

omit hp in
theorem kept4 : r.2.mem ((c : Thread nD τ).loc main_arg4) = m ((c : Thread nD τ).loc main_arg4) :=
  ((h c).1 8).trans (((dats m 0 c).arrAt_in 8 rfl _).trans ((A_eq m c 8).trans (V_main_arg4 m c)))

omit hp in
theorem kept5 : r.2.mem ((c : Thread nD τ).loc main_arg5) = m ((c : Thread nD τ).loc main_arg5) :=
  ((h c).2 main_arg5 (Pipeline.mem_restRefs_of main_arg5 (by decide) (by decide))).trans (V_main_arg5 m c)

omit hp in
theorem kept6 : r.2.mem ((c : Thread nD τ).loc main_arg6) = m ((c : Thread nD τ).loc main_arg6) :=
  ((h c).1 9).trans (((dats m 0 c).arrAt_in 9 rfl _).trans ((A_eq m c 9).trans (V_main_arg6 m c)))

omit hp in
theorem kept7 : r.2.mem ((c : Thread nD τ).loc main_arg7) = m ((c : Thread nD τ).loc main_arg7) :=
  ((h c).2 main_arg7 (Pipeline.mem_restRefs_of main_arg7 (by decide) (by decide))).trans (V_main_arg7 m c)

omit hp in
theorem kept8 : r.2.mem ((c : Thread nD τ).loc main_arg8) = m ((c : Thread nD τ).loc main_arg8) :=
  ((h c).2 main_arg8 (Pipeline.mem_restRefs_of main_arg8 (by decide) (by decide))).trans (V_main_arg8 m c)

omit hp in
theorem kept9 : r.2.mem ((c : Thread nD τ).loc main_arg9) = m ((c : Thread nD τ).loc main_arg9) :=
  ((h c).1 5).trans (((dats m 0 c).arrAt_in 5 rfl _).trans ((A_eq m c 5).trans (V_main_arg9 m c)))

end posts

omit c in
/-- Every run of the program ends with the reference's seven values in its results and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v63_0) = val_main_v138 (F := Ideal) (arg m c main_arg0) (arg m c main_arg1) (arg m c main_arg2) (arg m c main_arg3) (arg m c main_arg4) (arg m c main_arg5) (arg m c main_arg6) (arg m c main_arg7) (arg m c main_arg8) (arg m c main_arg9)
      ∧ r.2.mem ((c.tc : Thread nD τ).loc main_v63_1) = val_main_v139 (F := Ideal) (arg m c main_arg0) (arg m c main_arg1) (arg m c main_arg2) (arg m c main_arg3) (arg m c main_arg4) (arg m c main_arg5) (arg m c main_arg6) (arg m c main_arg7) (arg m c main_arg8) (arg m c main_arg9)
      ∧ r.2.mem ((c.tc : Thread nD τ).loc main_v63_2) = val_main_v140 (F := Ideal) (arg m c main_arg0) (arg m c main_arg1) (arg m c main_arg2) (arg m c main_arg3) (arg m c main_arg4) (arg m c main_arg5) (arg m c main_arg6) (arg m c main_arg7) (arg m c main_arg8) (arg m c main_arg9)
      ∧ r.2.mem ((c.tc : Thread nD τ).loc main_v63_3) = val_main_v141 (F := Ideal) (arg m c main_arg0) (arg m c main_arg1) (arg m c main_arg2) (arg m c main_arg3) (arg m c main_arg4) (arg m c main_arg5) (arg m c main_arg6) (arg m c main_arg7) (arg m c main_arg8) (arg m c main_arg9)
      ∧ r.2.mem ((c.tc : Thread nD τ).loc main_v63_4) = val_main_v137 (F := Ideal) (arg m c main_arg0) (arg m c main_arg1) (arg m c main_arg2) (arg m c main_arg3) (arg m c main_arg4) (arg m c main_arg5) (arg m c main_arg6) (arg m c main_arg7) (arg m c main_arg8) (arg m c main_arg9)
      ∧ r.2.mem ((c.tc : Thread nD τ).loc main_v63_5) = val_main_v100 (F := Ideal) (arg m c main_arg0) (arg m c main_arg1) (arg m c main_arg2) (arg m c main_arg3) (arg m c main_arg4) (arg m c main_arg5) (arg m c main_arg6) (arg m c main_arg7) (arg m c main_arg8) (arg m c main_arg9)
      ∧ r.2.mem ((c.tc : Thread nD τ).loc main_v63_6) = val_main_v105 (F := Ideal) (arg m c main_arg0) (arg m c main_arg1) (arg m c main_arg2) (arg m c main_arg3) (arg m c main_arg4) (arg m c main_arg5) (arg m c main_arg6) (arg m c main_arg7) (arg m c main_arg8) (arg m c main_arg9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨fin12 m hp c h, fin13 m hp c h, fin14 m hp c h, fin15 m hp c h, fin16 m hp c h, fin17 m hp c h, fin18 m hp c h,
      kept0 m c h, kept1 m c h, kept2 m c h, kept3 m c h, kept4 m c h, kept5 m c h, kept6 m c h, kept7 m c h, kept8 m c h, kept9 m c h⟩)
    (run_main m ρ)

end Cert.KernelIdeal.Ffn
-- ==== Proof.Twin.lean ====
/-
  The given program and the idealized one have the same text; their body tables are equal, label by label, so one run
  serves both.
-/
module

public import proofs.«01_k».proof.Defs
public import proofs.«01_k».proof.Proof.Gen.Kernel
public import proofs.«01_k».proof.Proof.Gen.KernelIdeal
public import proofs.«01_k».proof.Proof.Frame.Frame

@[expose] public section

set_option maxRecDepth 16384
set_option maxHeartbeats 1000000

noncomputable section

namespace Cert.Proof

open Idealize.ShloMosaic Idealize.SL.Sem

theorem body_eq : Cert.Kernel.cc0_ffn_bwd (F := Bits) = Cert.KernelIdeal.cc0_ffn_bwd (F := Bits) := rfl

theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) =>
    dsimp only
    rw [body_eq]
    rfl

theorem defs_eq : Cert.Kernel.defs (F := Bits) = Cert.KernelIdeal.defs (F := Bits) :=
  congrArg (Pipeline.defs Cert.KernelIdeal.pcfgs) bodies_eq

theorem main_eq : Cert.Kernel.main (F := Bits) = Cert.KernelIdeal.main (F := Bits) := rfl

/-- The given program's run is the one run, at bit patterns. -/
theorem frame_kernel : Cert.quiescent_Kernel := by
  intro m ρ _
  have h := Cert.KernelIdeal.Ffn.frame (F := Bits) m ρ
  rw [← defs_eq, ← main_eq] at h
  exact h

end Cert.Proof
-- ==== Proof.Wgrad.lean ====
/-
  A weight gradient: the product of two arrays of rows, contracted over the batch and the positions together.
-/
module

public import Idealize.ShloMosaic.Lib.MatmulPlain
public import Idealize.ShloMosaic.Lib.TwoAxisContraction
public import Idealize.ShloMosaic.Lib.Pointwise

@[expose] public section

set_option maxRecDepth 16384

noncomputable section

namespace Cert.Wgrad

open Idealize.ShloMosaic
open Idealize.ShloMosaic.ValueIdx (contrEquiv2 contrEquiv2_symm_val0 contrEquiv2_symm_val1)

/-- `[a,b,n] · [a,b,k] → [n,k]`, contracting the first two axes of both sides. -/
def dims (a b n k : ℕ) : DotDims ⟨3, ![a, b, n]⟩ ⟨3, ![a, b, k]⟩ ⟨2, ![n, k]⟩ where
  lhsContracting := [0, 1]
  rhsContracting := [0, 1]
  lhsNonContracting := [2]
  rhsNonContracting := [2]
  lhsBatch := []
  rhsBatch := []
  wf := ⟨rfl, by simp, rfl, by simp, by simp, by simp, (by decide : (([] ++ [2] ++ [0, 1] : List (Fin 3))).Perm (List.finRange 3)),
    (by decide : (([] ++ [2] ++ [0, 1] : List (Fin 3))).Perm (List.finRange 3)), rfl, by show 0 < 2; decide,
    fun a => by fin_cases a <;> rfl⟩

/-- Read at a row and a column it is the double sum over the contracted axes. -/
theorem dims_apply {a b n k : ℕ} (prec : Option ContractPrecision) (sched : HostSchedule) (L : FVec Ideal ⟨3, ![a, b, n]⟩ .f32)
    (R : FVec Ideal ⟨3, ![a, b, k]⟩ .f32) (i : Fin n) (j : Fin k) :
    FloatOps.dotGeneral (dims a b n k) prec sched L R (ix2 i j) = ∑ p : Fin a, ∑ q : Fin b, L (ix3 p q i) * R (ix3 p q j) := by
  have hr : (dims a b n k).contr.rank = 2 := rfl
  have c0 : (dims a b n k).contr.size ⟨0, by rw [hr]; omega⟩ = a := rfl
  have c1 : (dims a b n k).contr.size ⟨1, by rw [hr]; omega⟩ = b := rfl
  rw [Ideal.dotGeneral_apply, ← Equiv.sum_comp (contrEquiv2 (dims a b n k) a b hr c0 c1).symm, Fintype.sum_prod_type]
  refine Finset.sum_congr rfl fun p _ => Finset.sum_congr rfl fun q _ => ?_
  have h0 := contrEquiv2_symm_val0 (dims a b n k) a b hr c0 c1 (p, q)
  have h1 := contrEquiv2_symm_val1 (dims a b n k) a b hr c0 c1 (p, q)
  refine congrArg₂ (· * ·) (congrArg L ?_) (congrArg R ?_)
  all_goals
    funext x; apply Fin.ext
    match x with
    | ⟨0, _⟩ => exact h0
    | ⟨1, _⟩ => exact h1
    | ⟨2, _⟩ => rfl

end Cert.Wgrad
-- ==== Proof.WgradUp.lean ====
/-
  The weight gradient of the up projection: what the accumulating call leaves in its result is the reference's product.
-/
module

public import proofs.«01_k».proof.Proof.Wgrad
public import proofs.«01_k».proof.Proof.Gen.Kernel2Ideal.Value
public import proofs.«01_k».proof.Proof.Gen.Reference2Ideal.Read
public import Idealize.ShloMosaic.Lib.Pipeline.ValueKit.Geometry
public import Idealize.ShloMosaic.Lib.Pipeline.ValueKit.Tiles

@[expose] public section

set_option maxRecDepth 16384

noncomputable section

namespace Cert.Kernel2Ideal.WgradUp

open Cert.Kernel2Ideal Cert.Kernel2Ideal.Gen Cert.Kernel2Ideal.Value Idealize.ShloMosaic Idealize.ShloMosaic.TcCoe
open Idealize.ShloMosaic.StableHlo Cert.Reference2Ideal.Read

variable (m : (ℓ : Loc nD τ sig) → Buf (Elt Ideal) ℓ) (c : Dev nD)

/-- The launch contents of argument `b`. -/
abbrev arg (b : Ref sig .tc) : Buf (Elt Ideal) ((c : Thread nD τ).loc b) := m ((c : Thread nD τ).loc b)

/-- The gradient of the up projection's output, as the reference has it. -/
abbrev dup : (⟨3, ![4, 2048, 5632]⟩ : Shape).Idx → EReal :=
  val_main_v78 (F := Ideal) (arg m c main_arg0) (arg m c main_arg1) (arg m c main_arg2) (arg m c main_arg3)
    (arg m c main_arg4) (arg m c main_arg5) (arg m c main_arg6) (arg m c main_arg7) (arg m c main_arg8) (arg m c main_arg9)

/-- The up projection's input, as the reference has it. -/
abbrev h2 : (⟨3, ![4, 2048, 1024]⟩ : Shape).Idx → EReal :=
  val_main_v21 (F := Ideal) (arg m c main_arg0) (arg m c main_arg1) (arg m c main_arg2) (arg m c main_arg4)

theorem V80 : V (F := Ideal) m c main_v80 = shapeCast (α := EReal) S8192x5632 (dup m c) shapeCasts_S4x2048x5632_S8192x5632 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
    List.cons_append, List.nil_append]
  after_results
  rfl

theorem V82 : V (F := Ideal) m c main_v82 = shapeCast (α := EReal) S8192x1024 (h2 m c) shapeCasts_S4x2048x1024_S8192x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
    List.cons_append, List.nil_append]
  after_results
  rfl

theorem pay2 (acc : Vec Ideal S1408x1024 .f32) (x0 : Vec Ideal S2048x1408 .bf16) (x1 : Vec Ideal S2048x1024 .bf16)
    (i : Fin 1408) (j : Fin 1024) :
    k0_pay2 (F := Ideal) acc x0 x1 (ix2 i j) = acc (ix2 i j) + ∑ r : Fin 2048, x0 (ix2 r i) * x1 (ix2 r j) := by
  pointwise [k0_pay2]

theorem pay1 (i : Fin 1408) (j : Fin 1024) : k0_pay1 (F := Ideal) (ix2 i j) = 0 := by
  pointwise [k0_pay1]

theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)
theorem lt16 (t : Fin cfg0.N) : t.val < 16 := lt_of_lt_of_eq t.isLt N_0

theorem merge_dup (X : (⟨3, ![4, 2048, 5632]⟩ : Shape).Idx → EReal) (b : Fin 4) (r : Fin 2048) (k : Fin 5632) :
    shapeCast S8192x5632 X shapeCasts_S4x2048x5632_S8192x5632 (ix2 (⟨2048 * b.val + r.val, by omega⟩ : Fin 8192) k) = X (ix3 b r k) := by
  pointwise []

theorem merge_h2 (X : (⟨3, ![4, 2048, 1024]⟩ : Shape).Idx → EReal) (b : Fin 4) (r : Fin 2048) (k : Fin 1024) :
    shapeCast S8192x1024 X shapeCasts_S4x2048x1024_S8192x1024 (ix2 (⟨2048 * b.val + r.val, by omega⟩ : Fin 8192) k) = X (ix3 b r k) := by
  pointwise []

theorem b0 (t : Fin cfg0.N) (r : Fin 2048) (k : Fin 1408) : iblk m c 0 t (ix2 r k)
    = dup m c (ix3 (⟨t.val % 4, by omega⟩ : Fin 4) r (⟨1408 * (t.val / 4) + k.val, by have := lt16 t; omega⟩ : Fin 5632)) := by
  have := lt16 t
  rw [← merge_dup (dup m c), ← V80]
  blk_simp [iblk, e0]
  refine congrArg (V m c main_v80) ?_
  blk_ext [e0]

theorem b1 (t : Fin cfg0.N) (r : Fin 2048) (k : Fin 1024) : iblk m c 1 t (ix2 r k)
    = h2 m c (ix3 (⟨t.val % 4, by omega⟩ : Fin 4) r k) := by
  have := lt16 t
  rw [← merge_h2 (h2 m c), ← V82]
  blk_simp [iblk, e1]
  refine congrArg (V m c main_v82) ?_
  blk_ext [e1]

/-- The two blocks of rows at a grid point. -/
abbrev rowsA (t : Fin cfg0.N) : S2048x1408.Idx → EReal := iblk (F := Ideal) m c 0 t
abbrev rowsB (t : Fin cfg0.N) : S2048x1024.Idx → EReal := iblk (F := Ideal) m c 1 t

/-- What grid point `n` adds to its block of the result. -/
def part (n : ℕ) (y : S1408x1024.Idx) : EReal :=
  if h : n < cfg0.N then ∑ r : Fin 2048, rowsA m c ⟨n, h⟩ (ix2 r (y 0)) * rowsB m c ⟨n, h⟩ (ix2 r (y 1)) else 0

/-- The result after the last grid point: the sum over the batch and the positions. -/
theorem result (n : Fin 5632) (d : Fin 1024) :
    G2 (F := Ideal) m c (ix2 n d) = ∑ b : Fin 4, ∑ r : Fin 2048, dup m c (ix3 b r n) * h2 m c (ix3 b r d) := by
  have hq : run2Of (ix2 n d) = n.val / 1408 := by
    show 1 * (n.val / 1408 - 0) + 1 * (d.val / 1024 - 0) = _
    omega
  have hN : cfg0.N = 16 := N_0
  have hlt : 4 * run2Of (ix2 n d) + 3 < cfg0.N := by rw [hq, hN]; omega
  unfold G2
  rw [dif_pos hlt]
  refine (Pipeline.accAt_add_apply (β := EReal) (reset2 m c) (step2 m c) (fun _ => (0 : EReal)) (part m c) _ 3 ?_ ?_ 3 le_rfl hlt _).trans ?_
  · intro h y
    obtain ⟨i, j, rfl⟩ : ∃ (i : Fin 1408) (j : Fin 1024), y = ix2 i j := ⟨y 0, y 1, eq_ix2 y⟩
    unfold part reset2
    rw [dif_pos h, pay2, pay1]
    rfl
  · intro k h acc y _ _
    obtain ⟨i, j, rfl⟩ : ∃ (i : Fin 1408) (j : Fin 1024), y = ix2 i j := ⟨y 0, y 1, eq_ix2 y⟩
    unfold part step2
    rw [dif_pos h, pay2]
    rfl
  · show (0 : EReal) + _ = _
    rw [zero_add, Finset.sum_range]
    refine Finset.sum_congr rfl fun b _ => ?_
    have hb : 4 * run2Of (ix2 n d) + b.val < cfg0.N := by rw [hN]; omega
    unfold part
    rw [dif_pos hb]
    refine Finset.sum_congr rfl fun r _ => ?_
    refine congrArg₂ (· * ·) ((b0 m c _ r _).trans (congrArg (dup m c) ?_)) ((b1 m c _ r _).trans (congrArg (h2 m c) ?_))
    · funext x; apply Fin.ext
      match x with
      | ⟨0, _⟩ => show (4 * run2Of (ix2 n d) + b.val) % 4 = b.val; omega
      | ⟨1, _⟩ => rfl
      | ⟨2, _⟩ => show 1408 * ((4 * run2Of (ix2 n d) + b.val) / 4) + n.val % 1408 = n.val; omega
    · funext x; apply Fin.ext
      match x with
      | ⟨0, _⟩ => show (4 * run2Of (ix2 n d) + b.val) % 4 = b.val; omega
      | ⟨1, _⟩ => rfl
      | ⟨2, _⟩ => show d.val % 1024 = d.val; omega

/-- It is the reference's weight gradient. -/
theorem result_eq : G2 (F := Ideal) m c = val_main_v81 (F := Ideal) (arg m c main_arg0) (arg m c main_arg1) (arg m c main_arg2)
    (arg m c main_arg3) (arg m c main_arg4) (arg m c main_arg5) (arg m c main_arg6) (arg m c main_arg7) (arg m c main_arg8)
    (arg m c main_arg9) := by
  funext i
  obtain ⟨n, d, rfl⟩ : ∃ (n : Fin 5632) (d : Fin 1024), i = ix2 n d := ⟨i 0, i 1, eq_ix2 i⟩
  rw [result]
  pointwise [val_main_v81, val_main_v80]
  unfold val_main_v79
  exact (Wgrad.dims_apply _ _ (dup m c) (h2 m c) n d).symm

end Cert.Kernel2Ideal.WgradUp
-- ==== Proof.WgradDown.lean ====
/-
  The weight gradient of the down projection, a column half after the other: the call's result is the reference's product.
-/
module

public import proofs.«01_k».proof.Proof.Wgrad
public import proofs.«01_k».proof.Proof.Gen.Kernel3Ideal.Value
public import proofs.«01_k».proof.Proof.Gen.Reference3Ideal.Read
public import Idealize.ShloMosaic.Lib.Pipeline.ValueKit.Geometry
public import Idealize.ShloMosaic.Lib.Pipeline.ValueKit.Tiles

@[expose] public section

set_option maxRecDepth 16384

noncomputable section

namespace Cert.Kernel3Ideal.WgradDown

open Cert.Kernel3Ideal Cert.Kernel3Ideal.Gen Cert.Kernel3Ideal.Value Idealize.ShloMosaic Idealize.ShloMosaic.TcCoe
open Idealize.ShloMosaic.StableHlo Cert.Reference3Ideal.Read

variable (m : (ℓ : Loc nD τ sig) → Buf (Elt Ideal) ℓ) (c : Dev nD)

/-- The launch contents of argument `b`. -/
abbrev arg (b : Ref sig .tc) : Buf (Elt Ideal) ((c : Thread nD τ).loc b) := m ((c : Thread nD τ).loc b)

/-- The down projection's input, as the reference has it. -/
abbrev act : (⟨3, ![4, 2048, 2816]⟩ : Shape).Idx → EReal :=
  val_main_v53 (F := Ideal) (arg m c main_arg0) (arg m c main_arg1) (arg m c main_arg2) (arg m c main_arg4) (arg m c main_arg5)
    (arg m c main_arg6) (arg m c main_arg7)

/-- The gradient of the down projection's output, as the reference has it. -/
abbrev ddn : (⟨3, ![4, 2048, 1024]⟩ : Shape).Idx → EReal :=
  val_main_v59 (F := Ideal) (arg m c main_arg3) (arg m c main_arg9)

theorem V58 : V (F := Ideal) m c main_v58 = shapeCast (α := EReal) S8192x2816 (act m c) shapeCasts_S4x2048x2816_S8192x2816 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem V59 : V (F := Ideal) m c main_v59 = shapeCast (α := EReal) S8192x1024 (ddn m c) shapeCasts_S4x2048x1024_S8192x1024 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem pay2 (acc : Vec Ideal S2816x512 .f32) (x0 : Vec Ideal S2048x2816 .bf16) (x1 : Vec Ideal S2048x512 .bf16)
    (i : Fin 2816) (j : Fin 512) :
    k0_pay2 (F := Ideal) acc x0 x1 (ix2 i j) = acc (ix2 i j) + ∑ r : Fin 2048, x0 (ix2 r i) * x1 (ix2 r j) := by
  pointwise [k0_pay2]

theorem pay1 (i : Fin 2816) (j : Fin 512) : k0_pay1 (F := Ideal) (ix2 i j) = 0 := by
  pointwise [k0_pay1]

theorem e0 : ∀ t : Fin cfg0.N, win0_0.index t = ![t.val % 4, 0] := (by decide +kernel : ∀ t : Fin grid0.N, _)
theorem e1 : ∀ t : Fin cfg0.N, win0_1.index t = ![t.val % 4, t.val / 4] := (by decide +kernel : ∀ t : Fin grid0.N, _)
theorem lt8 (t : Fin cfg0.N) : t.val < 8 := lt_of_lt_of_eq t.isLt N_0

theorem merge_act (X : (⟨3, ![4, 2048, 2816]⟩ : Shape).Idx → EReal) (b : Fin 4) (r : Fin 2048) (k : Fin 2816) :
    shapeCast S8192x2816 X shapeCasts_S4x2048x2816_S8192x2816 (ix2 (⟨2048 * b.val + r.val, by omega⟩ : Fin 8192) k) = X (ix3 b r k) := by
  pointwise []

theorem merge_ddn (X : (⟨3, ![4, 2048, 1024]⟩ : Shape).Idx → EReal) (b : Fin 4) (r : Fin 2048) (k : Fin 1024) :
    shapeCast S8192x1024 X shapeCasts_S4x2048x1024_S8192x1024 (ix2 (⟨2048 * b.val + r.val, by omega⟩ : Fin 8192) k) = X (ix3 b r k) := by
  pointwise []

theorem b0 (t : Fin cfg0.N) (r : Fin 2048) (k : Fin 2816) : iblk m c 0 t (ix2 r k)
    = act m c (ix3 (⟨t.val % 4, by omega⟩ : Fin 4) r k) := by
  have := lt8 t
  rw [← merge_act (act m c), ← V58]
  blk_simp [iblk, e0]
  refine congrArg (V m c main_v58) ?_
  blk_ext [e0]

theorem b1 (t : Fin cfg0.N) (r : Fin 2048) (k : Fin 512) : iblk m c 1 t (ix2 r k)
    = ddn m c (ix3 (⟨t.val % 4, by omega⟩ : Fin 4) r (⟨512 * (t.val / 4) + k.val, by have := lt8 t; omega⟩ : Fin 1024)) := by
  have := lt8 t
  rw [← merge_ddn (ddn m c), ← V59]
  blk_simp [iblk, e1]
  refine congrArg (V m c main_v59) ?_
  blk_ext [e1]

/-- The two blocks of rows at a grid point. -/
abbrev rowsA (t : Fin cfg0.N) : S2048x2816.Idx → EReal := iblk (F := Ideal) m c 0 t
abbrev rowsB (t : Fin cfg0.N) : S2048x512.Idx → EReal := iblk (F := Ideal) m c 1 t

/-- What grid point `n` adds to its block of the result. -/
def part (n : ℕ) (y : S2816x512.Idx) : EReal :=
  if h : n < cfg0.N then ∑ r : Fin 2048, rowsA m c ⟨n, h⟩ (ix2 r (y 0)) * rowsB m c ⟨n, h⟩ (ix2 r (y 1)) else 0

/-- The result after the last grid point: the sum over the batch and the positions. -/
theorem result (n : Fin 2816) (d : Fin 1024) :
    G2 (F := Ideal) m c (ix2 n d) = ∑ b : Fin 4, ∑ r : Fin 2048, act m c (ix3 b r n) * ddn m c (ix3 b r d) := by
  have hq : run2Of (ix2 n d) = d.val / 512 := by
    show 2 * (n.val / 2816 - 0) + 1 * (d.val / 512 - 0) = _
    omega
  have hN : cfg0.N = 8 := N_0
  have hlt : 4 * run2Of (ix2 n d) + 3 < cfg0.N := by rw [hq, hN]; omega
  unfold G2
  rw [dif_pos hlt]
  refine (Pipeline.accAt_add_apply (β := EReal) (reset2 m c) (step2 m c) (fun _ => (0 : EReal)) (part m c) _ 3 ?_ ?_ 3 le_rfl hlt _).trans ?_
  · intro h y
    obtain ⟨i, j, rfl⟩ : ∃ (i : Fin 2816) (j : Fin 512), y = ix2 i j := ⟨y 0, y 1, eq_ix2 y⟩
    unfold part reset2
    rw [dif_pos h, pay2, pay1]
    rfl
  · intro k h acc y _ _
    obtain ⟨i, j, rfl⟩ : ∃ (i : Fin 2816) (j : Fin 512), y = ix2 i j := ⟨y 0, y 1, eq_ix2 y⟩
    unfold part step2
    rw [dif_pos h, pay2]
    rfl
  · show (0 : EReal) + _ = _
    rw [zero_add, Finset.sum_range]
    refine Finset.sum_congr rfl fun b _ => ?_
    have hb : 4 * run2Of (ix2 n d) + b.val < cfg0.N := by rw [hN]; omega
    unfold part
    rw [dif_pos hb]
    refine Finset.sum_congr rfl fun r _ => ?_
    refine congrArg₂ (· * ·) ((b0 m c _ r _).trans (congrArg (act m c) ?_)) ((b1 m c _ r _).trans (congrArg (ddn m c) ?_))
    · funext x; apply Fin.ext
      match x with
      | ⟨0, _⟩ => show (4 * run2Of (ix2 n d) + b.val) % 4 = b.val; omega
      | ⟨1, _⟩ => rfl
      | ⟨2, _⟩ => show n.val % 2816 = n.val; omega
    · funext x; apply Fin.ext
      match x with
      | ⟨0, _⟩ => show (4 * run2Of (ix2 n d) + b.val) % 4 = b.val; omega
      | ⟨1, _⟩ => rfl
      | ⟨2, _⟩ => show 512 * ((4 * run2Of (ix2 n d) + b.val) / 4) + d.val % 512 = d.val; omega

theorem swap (n : Fin 2816) (d : Fin 1024) :
    ∑ b : Fin 4, ∑ r : Fin 2048, act m c (ix3 b r n) * ddn m c (ix3 b r d)
      = ∑ b : Fin 4, ∑ r : Fin 2048, ddn m c (ix3 b r d) * act m c (ix3 b r n) :=
  Finset.sum_congr rfl fun _ _ => Finset.sum_congr rfl fun _ _ => mul_comm (G := EReal) _ _

/-- It is the reference's weight gradient, whose products have their factors the other way round. -/
theorem result_eq : G2 (F := Ideal) m c = val_main_v61 (F := Ideal) (arg m c main_arg0) (arg m c main_arg1) (arg m c main_arg2)
    (arg m c main_arg3) (arg m c main_arg4) (arg m c main_arg5) (arg m c main_arg6) (arg m c main_arg7) (arg m c main_arg9) := by
  funext i
  obtain ⟨n, d, rfl⟩ : ∃ (n : Fin 2816) (d : Fin 1024), i = ix2 n d := ⟨i 0, i 1, eq_ix2 i⟩
  refine (result m c n d).trans ?_
  pointwise [val_main_v61]
  unfold val_main_v60
  exact (swap m c n d).trans (Wgrad.dims_apply _ _ (ddn m c) (act m c) d n).symm

end Cert.Kernel3Ideal.WgradDown
-- ==== Proof.MixBlock.lean ====
/-
  What one grid point of the mixer's input-projection kernel computes, over any blocks that hold rows `T … T + 1023` of
  one batch element: each stored value, read at an index, is the plain sum of MixSpec.lean at the row it stands for.
-/
module

public import proofs.«01_k».proof.Proof.MixSpec
public import proofs.«01_k».proof.Proof.Gen.Kernel4Ideal.Skeleton
public import Idealize.ShloMosaic.Lib.Pointwise

@[expose] public section

set_option maxRecDepth 16384

noncomputable section

namespace Cert.Kernel4Ideal.MixBlock

open Cert.Kernel4Ideal Cert.Kernel4Ideal.Gen Idealize.ShloMosaic
open Cert.FfnSpec (rmsr rmsBwd)
open Cert.MixSpec

/-- The row of the sequence that row `r` of the block at `T` stands for. -/
def row {T : ℕ} (hT : T + 1024 ≤ 2048) (r : Fin 1024) : Fin 2048 := ⟨T + r.val, by omega⟩

variable (I : Ins) (b : Fin 4) (T : ℕ) (hT : T + 1024 ≤ 2048)

variable {x0 : Vec Ideal S1024x512 .bf16} {x1 : Vec Ideal S1x1024x512 .f32} {x2 x3 : Vec Ideal S1x1024x1024 .f32}
  {x4 x5 : Vec Ideal S1x1x1024 .f32} {x6 : Vec Ideal S1x1024 .f32} {x7 : Vec Ideal S1024x1024 .bf16}

/-- The number one, as the body passes it on. -/
abbrev one : Ideal .f32 := Scalar.ofBits .f32 0x3F800000#32

theorem dz_eq (h0 : ∀ r j, x0 (ix2 r j) = I.du b (row hT r) j) (h1 : ∀ r j, x1 (ix3 0 r j) = I.dp b (row hT r) j)
    (r j : Fin 1024) : k0_pay8 (F := Ideal) x0 x1 (ix2 r j) = dz I b (row hT r) j := by
  unfold dz
  pointwise [k0_pay8]
  simp only [h0, h1]

theorem rstd_eq (h2 : ∀ r k, x2 (ix3 0 r k) = I.x b (row hT r) k) (r : Fin 1024) :
    k0_pay10 (F := Ideal) x2 (ix2 r 0) = rstd I b (row hT r) := by
  unfold rstd rmsr
  pointwise [k0_pay10, k0_pay9]
  simp only [h2]

theorem xhat_eq (h2 : ∀ r k, x2 (ix3 0 r k) = I.x b (row hT r) k) (r k : Fin 1024) :
    k0_pay11 (F := Ideal) x2 (ix2 r k) = xhat I b (row hT r) k := by
  unfold xhat
  pointwise [k0_pay11, k0_pay9]
  rw [rstd_eq I b T hT h2, h2]

theorem act_eq (h2 : ∀ r k, x2 (ix3 0 r k) = I.x b (row hT r) k) (h6 : ∀ k, x6 (ix2 0 k) = I.g k) (r k : Fin 1024) :
    k0_pay13 (F := Ideal) x2 x6 (ix2 r k) = act I b (row hT r) k := by
  unfold act
  pointwise [k0_pay13]
  rw [xhat_eq I b T hT h2, h6]

theorem sc_eq (h5 : ∀ k, x5 (ix3 0 0 k) = I.sc b k) (k : Fin 1024) : k0_pay12 (F := Ideal) x5 (ix2 0 k) = I.sc b k := by
  pointwise [k0_pay12]
  exact h5 k

theorem dh_eq {z : FVec Ideal S1024x1024 .bf16} (hz : ∀ r j, z (ix2 r j) = dz I b (row hT r) j)
    (h7 : ∀ k j, x7 (ix2 k j) = I.w k j) (r k : Fin 1024) :
    k0_pay16 (F := Ideal) z x7 (ix2 r k) = dh I b (row hT r) k := by
  unfold dh
  pointwise [k0_pay16]
  simp only [hz, h7]

variable {d : FVec Ideal S1024x1024 .f32}

theorem tt_eq (hd : ∀ r k, d (ix2 r k) = dh I b (row hT r) k) (h5 : ∀ k, x5 (ix3 0 0 k) = I.sc b k) (r k : Fin 1024) :
    k0_pay1 (F := Ideal) (k0_pay12 x5) d (1 : EReal) (ix2 r k) = tt I b (row hT r) k := by
  unfold tt
  pointwise [k0_pay1]
  rw [hd, sc_eq I b h5]
  done

theorem dx_eq (hd : ∀ r k, d (ix2 r k) = dh I b (row hT r) k) (h2 : ∀ r k, x2 (ix3 0 r k) = I.x b (row hT r) k)
    (h3 : ∀ r k, x3 (ix3 0 r k) = I.dx1 b (row hT r) k) (h5 : ∀ k, x5 (ix3 0 0 k) = I.sc b k)
    (h6 : ∀ k, x6 (ix2 0 k) = I.g k) (r k : Fin 1024) :
    k0_pay3 (F := Ideal) (k0_pay10 x2) (k0_pay11 x2) x6 (k0_pay12 x5) d one x3 (ix3 0 r k) = dx I b (row hT r) k := by
  unfold dx rmsBwd
  pointwise [k0_pay3]
  simp only [tt_eq I b T hT hd h5, xhat_eq I b T hT h2, rstd_eq I b T hT h2, h3, h6]
  done

theorem dg_step (hd : ∀ r k, d (ix2 r k) = dh I b (row hT r) k) (h2 : ∀ r k, x2 (ix3 0 r k) = I.x b (row hT r) k)
    (h5 : ∀ k, x5 (ix3 0 0 k) = I.sc b k) (o : Vec Ideal S1x1024 .f32) (k : Fin 1024) :
    k0_pay2 (F := Ideal) (k0_pay11 x2) (k0_pay12 x5) d one o (ix2 0 k)
      = o (ix2 0 k) + ∑ r, tt I b (row hT r) k * xhat I b (row hT r) k := by
  pointwise [k0_pay2]
  simp only [tt_eq I b T hT hd h5, xhat_eq I b T hT h2]

theorem dw_step {z : FVec Ideal S1024x1024 .bf16} (hz : ∀ r j, z (ix2 r j) = dz I b (row hT r) j)
    (h2 : ∀ r k, x2 (ix3 0 r k) = I.x b (row hT r) k) (h4 : ∀ k, x4 (ix3 0 0 k) = I.sh b k)
    (h5 : ∀ k, x5 (ix3 0 0 k) = I.sc b k) (h6 : ∀ k, x6 (ix2 0 k) = I.g k) (o : Vec Ideal S1024x1024 .f32) (k j : Fin 1024) :
    k0_pay15 (F := Ideal) z (k0_pay13 x2 x6) (k0_pay14 x5) x4 o (ix2 k j)
      = o (ix2 k j) + ∑ r, hin I b (row hT r) k * dz I b (row hT r) j := by
  unfold hin
  pointwise [k0_pay15, k0_pay14]
  simp only [hz, act_eq I b T hT h2 h6, sc_eq I b h5, h4]

theorem dsh_step {z : FVec Ideal S1024x1024 .bf16} (hz : ∀ r j, z (ix2 r j) = dz I b (row hT r) j)
    (h7 : ∀ k j, x7 (ix2 k j) = I.w k j) (o : Vec Ideal S1x1x1024 .f32) (k : Fin 1024) :
    k0_pay17 (F := Ideal) z x7 o (ix3 0 0 k) = o (ix3 0 0 k) + ∑ r, dh I b (row hT r) k := by
  pointwise [k0_pay17]
  simp only [dh_eq I b T hT hz h7]

theorem dsc_step {z : FVec Ideal S1024x1024 .bf16} (hz : ∀ r j, z (ix2 r j) = dz I b (row hT r) j)
    (h7 : ∀ k j, x7 (ix2 k j) = I.w k j) (h2 : ∀ r k, x2 (ix3 0 r k) = I.x b (row hT r) k) (h6 : ∀ k, x6 (ix2 0 k) = I.g k)
    (o : Vec Ideal S1x1x1024 .f32) (k : Fin 1024) :
    k0_pay18 (F := Ideal) z (k0_pay13 x2 x6) x7 o (ix3 0 0 k)
      = o (ix3 0 0 k) + ∑ r, dh I b (row hT r) k * act I b (row hT r) k := by
  pointwise [k0_pay18]
  simp only [dh_eq I b T hT hz h7, act_eq I b T hT h2 h6]

end Cert.Kernel4Ideal.MixBlock
-- ==== Proof.MixRef.lean ====
/-
  What the reference of the mixer's input projection computes: each of its five results, read at an index, is the plain
  sum of MixSpec.lean.
-/
module

public import proofs.«01_k».proof.Proof.MixSpec
public import proofs.«01_k».proof.Proof.Real
public import proofs.«01_k».proof.Proof.Sums
public import proofs.«01_k».proof.Proof.Wgrad
public import proofs.«01_k».proof.Proof.Gen.Reference4Ideal.Read
public import Idealize.ShloMosaic.Lib.Pointwise

@[expose] public section

set_option maxRecDepth 16384

noncomputable section

namespace Cert.Reference4Ideal.MixRef

open Cert.Reference4Ideal Cert.Reference4Ideal.Gen Cert.Reference4Ideal.Read Idealize.ShloMosaic
open Cert.FfnSpec (rmsr rmsBwd hostSum01)
open Cert.MixSpec Cert.FfnReal

variable (x0 : (⟨S4x2048x1024, .f32⟩ : BufTy).Contents (Elt Ideal)) (x1 x2 : (⟨S4x1024, .f32⟩ : BufTy).Contents (Elt Ideal))
  (x3 : (⟨S1x1024, .f32⟩ : BufTy).Contents (Elt Ideal)) (x4 : (⟨S1024x1024, .f32⟩ : BufTy).Contents (Elt Ideal))
  (x5 x6 : (⟨S4x2048x512, .f32⟩ : BufTy).Contents (Elt Ideal)) (x7 : (⟨S4x2048x1024, .f32⟩ : BufTy).Contents (Elt Ideal))

/-- The arguments, read at plain coordinates. -/
def ins : Ins where
  du b t j := x5 (ix3 b t j)
  dp b t j := x6 (ix3 b t j)
  x b t k := x0 (ix3 b t k)
  dx1 b t k := x7 (ix3 b t k)
  sh b k := x1 (ix2 b k)
  sc b k := x2 (ix2 b k)
  g k := x3 (ix2 0 k)
  w k j := x4 (ix2 k j)

theorem r26 (b : Fin 4) (t : Fin 2048) (j : Fin 1024) :
    val_main_v26 (F := Ideal) x5 x6 (ix3 b t j) = dz (ins x0 x1 x2 x3 x4 x5 x6 x7) b t j := by
  unfold dz ins
  pointwise [val_main_v26]

theorem r29 (b : Fin 4) (t : Fin 2048) (k : Fin 1024) :
    val_main_v29 (F := Ideal) x4 x5 x6 (ix3 b t k) = dh (ins x0 x1 x2 x3 x4 x5 x6 x7) b t k := by
  unfold dh
  pointwise [val_main_v29]
  refine Finset.sum_congr rfl fun j _ => ?_
  rw [r26 x0 x1 x2 x3 x4 x5 x6 x7]
  rfl

theorem r8 (b : Fin 4) (t : Fin 2048) : val_main_v8 (F := Ideal) x0 (ix3 b t 0) = rstd (ins x0 x1 x2 x3 x4 x5 x6 x7) b t := by
  unfold rstd rmsr ins
  pointwise [val_main_v8, val_main_v7, val_main_v6, val_main_v5, val_main_v4, val_main_v3, val_main_v2, val_main_v1, val_main_cst, val_main_cst_0, val_main_cst_1]
  done

theorem r13 (b : Fin 4) (t : Fin 2048) (k : Fin 1024) :
    val_main_v13 (F := Ideal) x0 (ix3 b t k) = xhat (ins x0 x1 x2 x3 x4 x5 x6 x7) b t k := by
  unfold xhat
  rw [← r8]
  pointwise [val_main_v13, val_main_v12]
  rfl

theorem r16 (b : Fin 4) (t : Fin 2048) (k : Fin 1024) :
    val_main_v16 (F := Ideal) x0 x3 (ix3 b t k) = act (ins x0 x1 x2 x3 x4 x5 x6 x7) b t k := by
  unfold act
  rw [← r13]
  pointwise [val_main_v16, val_main_v15, val_main_v14, val_main_v0]
  rfl

theorem r24 (b : Fin 4) (t : Fin 2048) (k : Fin 1024) :
    val_main_v24 (F := Ideal) x0 x1 x2 x3 (ix3 b t k) = hin (ins x0 x1 x2 x3 x4 x5 x6 x7) b t k := by
  unfold hin
  rw [← r16]
  pointwise [val_main_v24, val_main_v23, val_main_v22, val_main_v21, val_main_v20, val_main_v19, val_main_v18,
    val_main_cst_3, val_main_v17]
  rfl

/-- The projection's gradient. -/
theorem r28 (k j : Fin 1024) :
    val_main_v28 (F := Ideal) x0 x1 x2 x3 x5 x6 (ix2 k j) = dw (ins x0 x1 x2 x3 x4 x5 x6 x7) k j := by
  unfold dw
  pointwise [val_main_v28]
  unfold val_main_v27
  refine (Wgrad.dims_apply _ _ (val_main_v26 (F := Ideal) x5 x6) (val_main_v24 (F := Ideal) x0 x1 x2 x3) j k).trans ?_
  refine Finset.sum_congr rfl fun b _ => Finset.sum_congr rfl fun t _ => ?_
  rw [r26 x0 x1 x2 x3 x4 x5 x6 x7, r24 x0 x1 x2 x3 x4 x5 x6 x7]
  exact mul_comm (G := EReal) _ _

/-- The shift's. -/
theorem r61 (b : Fin 4) (k : Fin 1024) :
    val_main_v61 (F := Ideal) x4 x5 x6 (ix3 b 0 k) = dsh (ins x0 x1 x2 x3 x4 x5 x6 x7) b k := by
  unfold dsh
  pointwise [val_main_v61, val_main_v32, val_main_v31, val_main_v30, val_main_cst_4, val_main_cst_5]
  simp only [r29 x0 x1 x2 x3 x4 x5 x6 x7, Finset.univ_unique, Finset.sum_singleton]

theorem r37 (b : Fin 4) (t : Fin 2048) (k : Fin 1024) :
    val_main_v37 (F := Ideal) x2 x4 x5 x6 (ix3 b t k) = tt (ins x0 x1 x2 x3 x4 x5 x6 x7) b t k := by
  unfold tt
  rw [← r29]
  pointwise [val_main_v37, val_main_v36, val_main_v19, val_main_v18, val_main_v17, val_main_cst_3]
  rfl

/-- The scale's. -/
theorem r62 (b : Fin 4) (k : Fin 1024) :
    val_main_v62 (F := Ideal) x0 x3 x4 x5 x6 (ix3 b 0 k) = dsc (ins x0 x1 x2 x3 x4 x5 x6 x7) b k := by
  unfold dsc
  pointwise [val_main_v62, val_main_v38, val_main_v35, val_main_v34, val_main_v33, val_main_cst_6, val_main_cst_7]
  rw [Fin.sum_univ_one]
  refine Finset.sum_congr rfl fun t _ => ?_
  rw [r29 x0 x1 x2 x3 x4 x5 x6 x7, r16 x0 x1 x2 x3 x4 x5 x6 x7, mul_comm]

/-- The gain's. -/
theorem r59 (k : Fin 1024) :
    val_main_v59 (F := Ideal) x0 x2 x4 x5 x6 (ix2 0 k) = dg (ins x0 x1 x2 x3 x4 x5 x6 x7) k := by
  unfold dg
  pointwise [val_main_v59, val_main_v44, val_main_v41, val_main_v40, val_main_cst_8, val_main_cst_9]
  rw [hostSum01, Fin.sum_univ_one, Fin.sum_univ_one]
  pointwise []
  rw [hostSum01]
  refine Finset.sum_congr rfl fun b _ => Finset.sum_congr rfl fun t _ => ?_
  pointwise [val_main_v39]
  rw [r37 x0 x1 x2 x3 x4 x5 x6 x7, r13 x0 x1 x2 x3 x4 x5 x6 x7, mul_comm]

/-- The input's, for which the norm's gradient is regrouped. -/
theorem r60 (hx : ∀ b t k, IsReal ((ins x0 x1 x2 x3 x4 x5 x6 x7).x b t k))
    (htt : ∀ b t k, IsReal (tt (ins x0 x1 x2 x3 x4 x5 x6 x7) b t k * (ins x0 x1 x2 x3 x4 x5 x6 x7).g k))
    (b : Fin 4) (t : Fin 2048) (k : Fin 1024) :
    val_main_v60 (F := Ideal) x0 x2 x3 x4 x5 x6 x7 (ix3 b t k) = dx (ins x0 x1 x2 x3 x4 x5 x6 x7) b t k := by
  unfold dx rstd xhat rstd
  rw [← rmsBwd_split (hx b t) (htt b t)]
  have h8 : val_main_v8 (F := Ideal) x0 (ix3 b t 0) = rmsr ((ins x0 x1 x2 x3 x4 x5 x6 x7).x b t) := r8 x0 x1 x2 x3 x4 x5 x6 x7 b t
  have h7 : val_main_v7 (F := Ideal) x0 (ix3 b t 0)
      = Ideal.div (∑ k, (ins x0 x1 x2 x3 x4 x5 x6 x7).x b t k * (ins x0 x1 x2 x3 x4 x5 x6 x7).x b t k) (Ideal.ofBits FTy.f32 0x44800000#32) + Ideal.ofBits FTy.f32 0x358637BD#32 := by
    unfold ins
    pointwise [val_main_v7, val_main_v6, val_main_v5, val_main_v4, val_main_v3, val_main_v2, val_main_v1, val_main_cst, val_main_cst_0, val_main_cst_1]
  pointwise [val_main_v60, val_main_v58, val_main_v57, val_main_v56, val_main_v55, val_main_v54, val_main_v53, val_main_v52,
    val_main_v51, val_main_v50, val_main_v49, val_main_v48, val_main_v47, val_main_v46, val_main_v45, val_main_v43,
    val_main_v42, val_main_v14, val_main_v11, val_main_v10, val_main_v9, val_main_v0,
    val_main_cst_10, val_main_cst_11, val_main_cst_12, val_main_cst_2]
  simp only [r37 x0 x1 x2 x3 x4 x5 x6 x7, Fin.sum_univ_one, h8, h7]
  rfl

/-- Over real arguments the two hypotheses of `r60` hold. -/
theorem real_tt (h2 : ∀ i, IsReal (x2 i)) (h3 : ∀ i, IsReal (x3 i)) (h4 : ∀ i, IsReal (x4 i)) (h5 : ∀ i, IsReal (x5 i))
    (h6 : ∀ i, IsReal (x6 i)) (b : Fin 4) (t : Fin 2048) (k : Fin 1024) :
    IsReal (tt (ins x0 x1 x2 x3 x4 x5 x6 x7) b t k * (ins x0 x1 x2 x3 x4 x5 x6 x7).g k) := by
  refine ((IsReal.sum _ _ fun j => IsReal.mul ?_ (h4 _)).mul (IsReal.one.add (h2 _))).mul (h3 _)
  unfold dz
  split
  · exact h5 _
  · exact h6 _

end Cert.Reference4Ideal.MixRef
-- ==== Proof.MixReads.lean ====
/-
  What the input blocks of the mixer's input-projection kernel hold at a grid point: point `t` works on batch element
  `t / 2` and on the rows from `1024 · (t mod 2)`.
-/
module

public import proofs.«01_k».proof.Proof.MixBlock
public import proofs.«01_k».proof.Proof.MixRef
public import proofs.«01_k».proof.Proof.Gen.Kernel4Ideal.Value
public import Idealize.ShloMosaic.Lib.Pipeline.ValueKit.Geometry
public import Idealize.ShloMosaic.Lib.Pipeline.ValueKit.Tiles

@[expose] public section

set_option maxRecDepth 16384

noncomputable section

namespace Cert.Kernel4Ideal.Mix

open Cert.Kernel4Ideal Cert.Kernel4Ideal.Gen Idealize.ShloMosaic Idealize.ShloMosaic.TcCoe Idealize.ShloMosaic.StableHlo
open Cert.MixSpec Cert.Kernel4Ideal.MixBlock
open Idealize.ShloMosaic.Pipeline (Dat Window)

variable (m : (ℓ : Loc nD τ sig) → Buf (Elt Ideal) ℓ) (c : Dev nD)

/-- The launch contents of argument `b`. -/
abbrev arg (b : Ref sig .tc) : Buf (Elt Ideal) ((c : Thread nD τ).loc b) := m ((c : Thread nD τ).loc b)

/-- The arguments at plain coordinates. -/
abbrev insK : Ins := Cert.Reference4Ideal.MixRef.ins (arg m c main_arg0) (arg m c main_arg1) (arg m c main_arg2)
  (arg m c main_arg3) (arg m c main_arg4) (arg m c main_arg5) (arg m c main_arg6) (arg m c main_arg7)

/-- The batch element and the first row of point `n`. -/
def pB (n : ℕ) : Fin 4 := ⟨n / 2 % 4, by omega⟩
def pT (n : ℕ) : ℕ := 1024 * (n % 2)
theorem pT_le (n : ℕ) : pT n + 1024 ≤ 2048 := by unfold pT; omega

theorem lt8 (t : Fin cfg0.N) : t.val < 8 := lt_of_lt_of_eq t.isLt N_0

theorem e0 : ∀ t : Fin cfg0.N, win0_0.index t = ![t.val % 2, t.val / 2] := (by decide +kernel : ∀ t : Fin grid0.N, _)
theorem e1 : ∀ t : Fin cfg0.N, win0_1.index t = ![t.val / 2, t.val % 2, 0] := (by decide +kernel : ∀ t : Fin grid0.N, _)
theorem e2 : ∀ t : Fin cfg0.N, win0_2.index t = ![t.val / 2, t.val % 2, 0] := (by decide +kernel : ∀ t : Fin grid0.N, _)
theorem e3 : ∀ t : Fin cfg0.N, win0_3.index t = ![t.val / 2, t.val % 2, 0] := (by decide +kernel : ∀ t : Fin grid0.N, _)
theorem e4 : ∀ t : Fin cfg0.N, win0_4.index t = ![t.val / 2, 0, 0] := (by decide +kernel : ∀ t : Fin grid0.N, _)
theorem e5 : ∀ t : Fin cfg0.N, win0_5.index t = ![t.val / 2, 0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val / 2, t.val % 2, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val / 2, 0, 0] := (by decide +kernel : ∀ t : Fin grid0.N, _)
theorem e11 : ∀ t : Fin cfg0.N, win0_11.index t = ![t.val / 2, 0, 0] := (by decide +kernel : ∀ t : Fin grid0.N, _)
theorem e12 : ∀ t : Fin cfg0.N, win0_12.index t = ![0, 0] := (by decide +kernel : ∀ t : Fin grid0.N, _)

/-- Column `j` of batch element `b` in the array that holds the batch elements side by side. -/
def col (b : Fin 4) (j : Fin 512) : Fin 2048 := ⟨512 * b.val + j.val, by omega⟩

theorem V2 (b : Fin 4) (t : Fin 2048) (j : Fin 512) : V m c main_v2 (ix2 t (col b j)) = arg m c main_arg5 (ix3 b t j) := by
  have h : V m c main_v2 = (truncf (F := Ideal) .bf16 (shapeCast S2048x2048 (transpose (α := EReal) S2048x4x512 [1, 0, 2] (arg m c main_arg5)
      transposes_S4x2048x512_S2048x4x512_1_0_2) shapeCasts_S2048x4x512_S2048x2048) bitsLt_bf16_f32 : FVec Ideal S2048x2048 .bf16) := by
    show StableHlo.after hostOps0 _ _ = _
    after_results
    rfl
  rw [h]
  pointwise []
  refine congrArg (arg m c main_arg5) ?_
  unfold col
  refine funext fun a => Fin.ext ?_
  fin_cases a
  · show (512 * b.val + j.val) / 512 = b.val; omega
  · rfl
  · show (512 * b.val + j.val) % 512 = j.val; omega

theorem V3 (b : Fin 4) (k : Fin 1024) : V m c main_v3 (ix3 b 0 k) = arg m c main_arg1 (ix2 b k) := by
  have h : V m c main_v3 = shapeCast S4x1x1024 (arg m c main_arg1) shapeCasts_S4x1024_S4x1x1024 := by
    show StableHlo.after hostOps0 _ _ = _
    after_results
    rfl
  rw [h]
  pointwise []

theorem V4 (b : Fin 4) (k : Fin 1024) : V m c main_v4 (ix3 b 0 k) = arg m c main_arg2 (ix2 b k) := by
  have h : V m c main_v4 = shapeCast S4x1x1024 (arg m c main_arg2) shapeCasts_S4x1024_S4x1x1024 := by
    show StableHlo.after hostOps0 _ _ = _
    after_results
    rfl
  rw [h]
  pointwise []

theorem V5 : V m c main_v5 = arg m c main_arg4 := by
  show StableHlo.after hostOps0 _ _ = _
  after_results
  rfl

variable (t : Fin cfg0.N)

theorem b0 (r : Fin 1024) (j : Fin 512) : iblk m c 0 t (ix2 r j) = (insK m c).du (pB t.val) (row (pT_le t.val) r) j := by
  have := lt8 t
  blk_simp [iblk, e0]
  refine Eq.trans (congrArg (V m c main_v2) ?_) (V2 m c (pB t.val) (row (pT_le t.val) r) j)
  unfold pB row pT col
  blk_ext [e0]

theorem b1 (r : Fin 1024) (k : Fin 512) : iblk m c 1 t (ix3 0 r k) = (insK m c).dp (pB t.val) (row (pT_le t.val) r) k := by
  have := lt8 t
  blk_simp [iblk, e1]
  refine Eq.trans (congrArg (V m c main_arg6) ?_) (congrFun (V_main_arg6 m c) (ix3 (pB t.val) (row (pT_le t.val) r) k))
  unfold pB row pT
  blk_ext [e1]

theorem b2 (r : Fin 1024) (k : Fin 1024) : iblk m c 2 t (ix3 0 r k) = (insK m c).x (pB t.val) (row (pT_le t.val) r) k := by
  have := lt8 t
  blk_simp [iblk, e2]
  refine Eq.trans (congrArg (V m c main_arg0) ?_) (congrFun (V_main_arg0 m c) (ix3 (pB t.val) (row (pT_le t.val) r) k))
  unfold pB row pT
  blk_ext [e2]

theorem b3 (r : Fin 1024) (k : Fin 1024) : iblk m c 3 t (ix3 0 r k) = (insK m c).dx1 (pB t.val) (row (pT_le t.val) r) k := by
  have := lt8 t
  blk_simp [iblk, e3]
  refine Eq.trans (congrArg (V m c main_arg7) ?_) (congrFun (V_main_arg7 m c) (ix3 (pB t.val) (row (pT_le t.val) r) k))
  unfold pB row pT
  blk_ext [e3]

theorem b4 (k : Fin 1024) : iblk m c 4 t (ix3 0 0 k) = (insK m c).sh (pB t.val) k := by
  have := lt8 t
  blk_simp [iblk, e4]
  refine Eq.trans (congrArg (V m c main_v3) ?_) (V3 m c (pB t.val) k)
  unfold pB
  blk_ext [e4]

theorem b5 (k : Fin 1024) : iblk m c 5 t (ix3 0 0 k) = (insK m c).sc (pB t.val) k := by
  have := lt8 t
  blk_simp [iblk, e5]
  refine Eq.trans (congrArg (V m c main_v4) ?_) (V4 m c (pB t.val) k)
  unfold pB
  blk_ext [e5]

theorem b6 (k : Fin 1024) : iblk m c 6 t (ix2 0 k) = (insK m c).g k := by
  blk_simp [iblk, e6]
  refine Eq.trans (congrArg (V m c main_arg3) ?_) (congrFun (V_main_arg3 m c) (ix2 0 k))
  blk_ext [e6]

theorem b7 (k j : Fin 1024) : iblk m c 7 t (ix2 k j) = (insK m c).w k j := by
  blk_simp [iblk, e7]
  refine Eq.trans (congrArg (V m c main_v5) ?_) (congrFun (V5 m c) (ix2 k j))
  blk_ext [e7]

end Cert.Kernel4Ideal.Mix
-- ==== Proof.MixPoint.lean ====
/-
  What every output's staging buffer of the mixer's input-projection kernel holds after a grid point, as the sums of
  MixSpec.lean over the point's rows.
-/
module

public import proofs.«01_k».proof.Proof.MixReads

@[expose] public section

set_option maxRecDepth 16384

noncomputable section

namespace Cert.Kernel4Ideal.Mix

open Cert.Kernel4Ideal Cert.Kernel4Ideal.Gen Idealize.ShloMosaic Idealize.ShloMosaic.TcCoe
open Cert.MixSpec Cert.Kernel4Ideal.MixBlock
open Idealize.ShloMosaic.Pipeline (Dat Window)

variable (m : (ℓ : Loc nD τ sig) → Buf (Elt Ideal) ℓ) (c : Dev nD) (t : Fin cfg0.N)

theorem dz_pt (r j : Fin 1024) :
    k0_pay8 (F := Ideal) (iblk m c 0 t) (iblk m c 1 t) (ix2 r j) = dz (insK m c) (pB t.val) (row (pT_le t.val) r) j :=
  dz_eq (insK m c) (pB t.val) (pT t.val) (pT_le t.val) (b0 m c t) (b1 m c t) r j

theorem dh_pt (r k : Fin 1024) :
    k0_pay16 (F := Ideal) (k0_pay8 (iblk m c 0 t) (iblk m c 1 t)) (iblk m c 7 t) (ix2 r k)
      = dh (insK m c) (pB t.val) (row (pT_le t.val) r) k :=
  dh_eq (insK m c) (pB t.val) (pT t.val) (pT_le t.val) (dz_pt m c t) (b7 m c t) r k

theorem dx_pt (r k : Fin 1024) :
    k0_pay3 (F := Ideal) (k0_pay10 (iblk m c 2 t)) (k0_pay11 (iblk m c 2 t)) (iblk m c 6 t) (k0_pay12 (iblk m c 5 t))
      (k0_pay16 (k0_pay8 (iblk m c 0 t) (iblk m c 1 t)) (iblk m c 7 t)) one (iblk m c 3 t) (ix3 0 r k)
      = dx (insK m c) (pB t.val) (row (pT_le t.val) r) k :=
  dx_eq (insK m c) (pB t.val) (pT t.val) (pT_le t.val) (dh_pt m c t) (b2 m c t) (b3 m c t) (b5 m c t) (b6 m c t) r k

theorem at8 (r k : Fin 1024) :
    (outsAt0 m c t.val t.isLt).1 (ix3 0 r k) = dx (insK m c) (pB t.val) (row (pT_le t.val) r) k := by
  by_cases h0 : t.val % 8 = 0
  · rw [outsAt0_A m c t h0 (by omega)]
    frame_out
    exact dx_pt m c t r k
  · by_cases h1 : t.val % 2 = 0
    · rw [outsAt0_C m c t h0 h1]
      frame_out
      exact dx_pt m c t r k
    · rw [outsAt0_B m c t h0 h1]
      frame_out
      exact dx_pt m c t r k

/-! ## The running sums over the whole grid -/

/-- What a point adds to the projection's gradient, and to the gain's. -/
def term9 (n : ℕ) (k j : Fin 1024) : EReal := ∑ r : Fin 1024,
  hin (insK m c) (pB n) (row (pT_le n) r) k * dz (insK m c) (pB n) (row (pT_le n) r) j
def term12 (n : ℕ) (k : Fin 1024) : EReal := ∑ r : Fin 1024,
  tt (insK m c) (pB n) (row (pT_le n) r) k * xhat (insK m c) (pB n) (row (pT_le n) r) k

theorem dw_pt (o : Vec Ideal S1024x1024 .f32) (k j : Fin 1024) :
    k0_pay15 (F := Ideal) (k0_pay8 (iblk m c 0 t) (iblk m c 1 t)) (k0_pay13 (iblk m c 2 t) (iblk m c 6 t)) (k0_pay14 (iblk m c 5 t))
      (iblk m c 4 t) o (ix2 k j) = o (ix2 k j) + term9 m c t.val k j :=
  dw_step (insK m c) (pB t.val) (pT t.val) (pT_le t.val) (dz_pt m c t) (b2 m c t) (b4 m c t) (b5 m c t) (b6 m c t) o k j

theorem dg_pt (o : Vec Ideal S1x1024 .f32) (k : Fin 1024) :
    k0_pay2 (F := Ideal) (k0_pay11 (iblk m c 2 t)) (k0_pay12 (iblk m c 5 t))
      (k0_pay16 (k0_pay8 (iblk m c 0 t) (iblk m c 1 t)) (iblk m c 7 t)) one o (ix2 0 k) = o (ix2 0 k) + term12 m c t.val k :=
  dg_step (insK m c) (pB t.val) (pT t.val) (pT_le t.val) (dh_pt m c t) (b2 m c t) (b5 m c t) o k

theorem zero9 (k j : Fin 1024) : k0_pay4 (F := Ideal) (ix2 k j) = (0 : EReal) := by pointwise [k0_pay4]
theorem zero12 (k : Fin 1024) : k0_pay5 (F := Ideal) (ix2 0 k) = (0 : EReal) := by pointwise [k0_pay5]

theorem first9 (h0 : t.val % 8 = 0) (k j : Fin 1024) :
    (outsAt0 m c t.val t.isLt).2.1 (ix2 k j) = 0 + term9 m c t.val k j := by
  rw [outsAt0_A m c t h0 (by omega)]
  frame_out
  exact (dw_pt m c t _ k j).trans (congrArg (· + _) (zero9 k j))

theorem next9 (h0 : ¬t.val % 8 = 0) (k j : Fin 1024) :
    (outsAt0 m c t.val t.isLt).2.1 (ix2 k j)
      = (outsAt0 m c (t.val - 1) (Nat.lt_of_le_of_lt (Nat.sub_le _ _) t.isLt)).2.1 (ix2 k j) + term9 m c t.val k j := by
  by_cases h1 : t.val % 2 = 0
  · rw [outsAt0_C m c t h0 h1]
    frame_out
    exact dw_pt m c t _ k j
  · rw [outsAt0_B m c t h0 h1]
    frame_out
    exact dw_pt m c t _ k j

theorem first12 (h0 : t.val % 8 = 0) (k : Fin 1024) :
    (outsAt0 m c t.val t.isLt).2.2.2.2 (ix2 0 k) = 0 + term12 m c t.val k := by
  rw [outsAt0_A m c t h0 (by omega)]
  frame_out
  exact (dg_pt m c t _ k).trans (congrArg (· + _) (zero12 k))

theorem next12 (h0 : ¬t.val % 8 = 0) (k : Fin 1024) :
    (outsAt0 m c t.val t.isLt).2.2.2.2 (ix2 0 k)
      = (outsAt0 m c (t.val - 1) (Nat.lt_of_le_of_lt (Nat.sub_le _ _) t.isLt)).2.2.2.2 (ix2 0 k) + term12 m c t.val k := by
  by_cases h1 : t.val % 2 = 0
  · rw [outsAt0_C m c t h0 h1]
    frame_out
    exact dg_pt m c t _ k
  · rw [outsAt0_B m c t h0 h1]
    frame_out
    exact dg_pt m c t _ k

/-! ## The running sums restarted with every batch element -/

/-- What a point adds to the shift's gradient, and to the scale's. -/
def term10 (n : ℕ) (k : Fin 1024) : EReal := ∑ r : Fin 1024, dh (insK m c) (pB n) (row (pT_le n) r) k
def term11 (n : ℕ) (k : Fin 1024) : EReal := ∑ r : Fin 1024,
  dh (insK m c) (pB n) (row (pT_le n) r) k * act (insK m c) (pB n) (row (pT_le n) r) k

theorem dsh_pt (o : Vec Ideal S1x1x1024 .f32) (k : Fin 1024) :
    k0_pay17 (F := Ideal) (k0_pay8 (iblk m c 0 t) (iblk m c 1 t)) (iblk m c 7 t) o (ix3 0 0 k) = o (ix3 0 0 k) + term10 m c t.val k :=
  dsh_step (insK m c) (pB t.val) (pT t.val) (pT_le t.val) (dz_pt m c t) (b7 m c t) o k

theorem dsc_pt (o : Vec Ideal S1x1x1024 .f32) (k : Fin 1024) :
    k0_pay18 (F := Ideal) (k0_pay8 (iblk m c 0 t) (iblk m c 1 t)) (k0_pay13 (iblk m c 2 t) (iblk m c 6 t)) (iblk m c 7 t) o (ix3 0 0 k)
      = o (ix3 0 0 k) + term11 m c t.val k :=
  dsc_step (insK m c) (pB t.val) (pT t.val) (pT_le t.val) (dz_pt m c t) (b7 m c t) (b2 m c t) (b6 m c t) o k

theorem zero10 (k : Fin 1024) : k0_pay6 (F := Ideal) (ix3 0 0 k) = (0 : EReal) := by pointwise [k0_pay6]
theorem zero11 (k : Fin 1024) : k0_pay7 (F := Ideal) (ix3 0 0 k) = (0 : EReal) := by pointwise [k0_pay7]

theorem first10 (h1 : t.val % 2 = 0) (k : Fin 1024) :
    (outsAt0 m c t.val t.isLt).2.2.1 (ix3 0 0 k) = 0 + term10 m c t.val k := by
  by_cases h0 : t.val % 8 = 0
  · rw [outsAt0_A m c t h0 h1]
    frame_out
    exact (dsh_pt m c t _ k).trans (congrArg (· + _) (zero10 k))
  · rw [outsAt0_C m c t h0 h1]
    frame_out
    exact (dsh_pt m c t _ k).trans (congrArg (· + _) (zero10 k))

theorem next10 (h1 : ¬t.val % 2 = 0) (k : Fin 1024) :
    (outsAt0 m c t.val t.isLt).2.2.1 (ix3 0 0 k)
      = (outsAt0 m c (t.val - 1) (Nat.lt_of_le_of_lt (Nat.sub_le _ _) t.isLt)).2.2.1 (ix3 0 0 k) + term10 m c t.val k := by
  rw [outsAt0_B m c t (by omega) h1]
  frame_out
  exact dsh_pt m c t _ k

theorem first11 (h1 : t.val % 2 = 0) (k : Fin 1024) :
    (outsAt0 m c t.val t.isLt).2.2.2.1 (ix3 0 0 k) = 0 + term11 m c t.val k := by
  by_cases h0 : t.val % 8 = 0
  · rw [outsAt0_A m c t h0 h1]
    frame_out
    exact (dsc_pt m c t _ k).trans (congrArg (· + _) (zero11 k))
  · rw [outsAt0_C m c t h0 h1]
    frame_out
    exact (dsc_pt m c t _ k).trans (congrArg (· + _) (zero11 k))

theorem next11 (h1 : ¬t.val % 2 = 0) (k : Fin 1024) :
    (outsAt0 m c t.val t.isLt).2.2.2.1 (ix3 0 0 k)
      = (outsAt0 m c (t.val - 1) (Nat.lt_of_le_of_lt (Nat.sub_le _ _) t.isLt)).2.2.2.1 (ix3 0 0 k) + term11 m c t.val k := by
  rw [outsAt0_B m c t (by omega) h1]
  frame_out
  exact dsc_pt m c t _ k

end Cert.Kernel4Ideal.Mix
-- ==== Proof.MixPre.lean ====
/-
  The precondition of the mixer's input projection read at an entry: every entry of every argument, but for the shift and
  the residual stream's cotangent, is a real number.
-/
module

public import proofs.«01_k».proof.Proof.Pre

@[expose] public section

set_option maxRecDepth 16384

noncomputable section

namespace Cert.Pre_finite4

open Idealize.ShloMosaic Cert.FfnReal

instance facts : Facts where
  bcast_S_S4x2048x1024 := by decide
  bcast_S_S4x1024 := by decide
  bcast_S_S1x1024 := by decide
  bcast_S_S1024x1024 := by decide
  bcast_S_S4x2048x512 := by decide

/-- The arguments that the norm's gradient needs real are real. -/
theorem args_real {m : (ℓ : Loc Cert.Kernel4Ideal.nD Cert.Kernel4Ideal.τ Cert.Kernel4Ideal.sig) → Buf (Elt Ideal) ℓ}
    (h : Cert.Pre_Kernel4Ideal_finite4 m) (c : Dev Cert.Kernel4Ideal.nD) :
    (∀ i, IsReal (m ((c.tc : Thread Cert.Kernel4Ideal.nD Cert.Kernel4Ideal.τ).loc Cert.Kernel4Ideal.main_arg0) i))
    ∧ (∀ i, IsReal (m ((c.tc : Thread Cert.Kernel4Ideal.nD Cert.Kernel4Ideal.τ).loc Cert.Kernel4Ideal.main_arg2) i))
    ∧ (∀ i, IsReal (m ((c.tc : Thread Cert.Kernel4Ideal.nD Cert.Kernel4Ideal.τ).loc Cert.Kernel4Ideal.main_arg3) i))
    ∧ (∀ i, IsReal (m ((c.tc : Thread Cert.Kernel4Ideal.nD Cert.Kernel4Ideal.τ).loc Cert.Kernel4Ideal.main_arg4) i))
    ∧ (∀ i, IsReal (m ((c.tc : Thread Cert.Kernel4Ideal.nD Cert.Kernel4Ideal.τ).loc Cert.Kernel4Ideal.main_arg5) i))
    ∧ (∀ i, IsReal (m ((c.tc : Thread Cert.Kernel4Ideal.nD Cert.Kernel4Ideal.τ).loc Cert.Kernel4Ideal.main_arg6) i)) := by
  obtain ⟨e0, e2, e3, e4, e5, e6⟩ := h c
  exact ⟨fun i => Cert.Pre_finite.real_of_lt e0 i, fun i => Cert.Pre_finite.real_of_lt e2 i,
    fun i => Cert.Pre_finite.real_of_lt e3 i, fun i => Cert.Pre_finite.real_of_lt e4 i,
    fun i => Cert.Pre_finite.real_of_lt e5 i, fun i => Cert.Pre_finite.real_of_lt e6 i⟩

end Cert.Pre_finite4
-- ==== Proof.MixArrays.lean ====
/-
  The five result arrays of the mixer's input-projection kernel after the whole grid: every block at its place, and the
  running sums as sums over the sequence and over the batch; then their equality with the reference's.
-/
module

public import proofs.«01_k».proof.Proof.MixPoint
public import proofs.«01_k».proof.Proof.MixPre
public import Idealize.ShloMosaic.Lib.Pipeline.ValueKit.Acc

@[expose] public section

set_option maxRecDepth 16384

noncomputable section

namespace Cert.Kernel4Ideal.Mix

open Cert.Kernel4Ideal Cert.Kernel4Ideal.Gen Idealize.ShloMosaic Idealize.ShloMosaic.TcCoe
open Cert.MixSpec Cert.Kernel4Ideal.MixBlock Cert.Reference4Ideal.Read Cert.Reference4Ideal.MixRef
open Idealize.ShloMosaic.Pipeline (Dat Window)

variable (m : (ℓ : Loc nD τ sig) → Buf (Elt Ideal) ℓ) (c : Dev nD) (t : Fin cfg0.N)

theorem row_congr {n n' : ℕ} (h : n % 2 = n' % 2) (r : Fin 1024) : row (pT_le n) r = row (pT_le n') r :=
  Fin.ext (by show pT n + r.val = pT n' + r.val; unfold pT; omega)

theorem pB_congr {n n' : ℕ} (h : n / 2 = n' / 2) : pB n = pB n' := Fin.ext (by show n / 2 % 4 = n' / 2 % 4; omega)

theorem pB_val (t : Fin cfg0.N) : (pB t.val).val = t.val / 2 := by
  have := lt8 t
  show t.val / 2 % 4 = t.val / 2; omega

theorem row_val (n : ℕ) (r : Fin 1024) : (row (pT_le n) r).val = n % 2 * 1024 + r.val := by
  show 1024 * (n % 2) + r.val = _; omega

/-- The two tiles of a sequence are the sequence. -/
theorem sum_tiles (f : Fin 2048 → EReal) : ∑ s : Fin 2, ∑ r : Fin 1024, f (row (pT_le s.val) r) = ∑ i, f i := by
  refine Fin.sum_mul_add_congr (fun s r hl => ?_)
  refine congrArg f (Fin.ext ?_)
  show pT s.val + r.val = s.val * 1024 + r.val
  unfold pT; omega

/-- The two points of a batch element. -/
theorem sum_seq (f : Fin 4 → Fin 2048 → EReal) (t : Fin cfg0.N) :
    ∑ s : Fin 2, ∑ r : Fin 1024, f (pB (2 * (t.val / 2) + s.val)) (row (pT_le (2 * (t.val / 2) + s.val)) r) = ∑ i, f (pB t.val) i := by
  rw [← sum_tiles (f (pB t.val))]
  refine Finset.sum_congr rfl fun s _ => Finset.sum_congr rfl fun r _ => ?_
  rw [pB_congr (show (2 * (t.val / 2) + s.val) / 2 = t.val / 2 by omega),
    row_congr (show (2 * (t.val / 2) + s.val) % 2 = s.val % 2 by omega)]

/-- All the points. -/
theorem sum_grid (f : Fin 4 → Fin 2048 → EReal) :
    ∑ p : Fin cfg0.N, ∑ r : Fin 1024, f (pB p.val) (row (pT_le p.val) r) = ∑ b, ∑ i, f b i := by
  have h : ∑ p : Fin cfg0.N, ∑ r : Fin 1024, f (pB p.val) (row (pT_le p.val) r)
      = ∑ b : Fin 4, ∑ s : Fin 2, ∑ r : Fin 1024, f b (row (pT_le s.val) r) :=
    Fin.sum_divmod_congr (fun p ha hs => by
      have hb : pB p.val = ⟨p.val / 2, ha⟩ := Fin.ext (by show p.val / 2 % 4 = p.val / 2; omega)
      refine Finset.sum_congr rfl fun r _ => ?_
      rw [hb, row_congr (show p.val % 2 = (p.val % 2) % 2 by omega)]) N_0
  refine h.trans (Finset.sum_congr rfl fun b _ => sum_tiles (f b))

/-! ## The arrays -/

theorem arr8 : (dats m 0 c).arrAt 8 cfg0.N = (fun y => dx (insK m c) (y 0) (y 1) (y 2) : S4x2048x1024.Idx → EReal) := by
  refine (dats m 0 c).arrAt_eq_of_covers 8 _ (by decide +kernel) fun t hf y => ?_
  have := lt8 t
  blk_simp
  rw [after0_8]
  obtain ⟨a, r, k, rfl⟩ : ∃ (a : Fin 1) (r : Fin 1024) (k : Fin 1024), y = ix3 a r k := ⟨y 0, y 1, y 2, eq_ix3 y⟩
  obtain rfl : a = 0 := Fin.fin_one_eq_zero a
  refine (at8 m c t r k).trans ?_
  have h0 : pB t.val = (win0_8.blk t).view.emb (ix3 (0 : Fin 1) r k) 0 := Fin.ext ((pB_val t).trans (by blk_simp [e8]; omega))
  have h1 : row (pT_le t.val) r = (win0_8.blk t).view.emb (ix3 (0 : Fin 1) r k) 1 := Fin.ext ((row_val t.val r).trans (by blk_simp [e8]))
  have h2 : k = (win0_8.blk t).view.emb (ix3 (0 : Fin 1) r k) 2 := Fin.ext (by blk_simp [e8])
  rw [← h0, ← h1, ← h2]

/-- The last point of the grid. -/
def tL : Fin cfg0.N := ⟨7, lt_of_lt_of_eq (by decide : 7 < 8) N_0.symm⟩
theorem tL_succ : tL.val + 1 = cfg0.N := N_0.symm

theorem arr9 : (dats m 0 c).arrAt 9 cfg0.N = (fun y => dw (insK m c) (y 0) (y 1) : S1024x1024.Idx → EReal) := by
  refine (dats m 0 c).arrAt_eq_of_after_last 9 tL (by decide +kernel) _ fun y => ?_
  blk_simp
  rw [after0_9]
  obtain ⟨k, j, rfl⟩ : ∃ (k : Fin 1024) (j : Fin 1024), y = ix2 k j := ⟨y 0, y 1, eq_ix2 y⟩
  refine (Pipeline.eq_sum_fin_of_reset_step_apply_last (fun n h (j : Fin 1024) => (outsAt0 m c n h).2.1 (ix2 k j)) 8
    (fun _ => (0 : EReal)) (fun p => term9 m c p.val k) (fun t h j => first9 m c t h k j) (fun t h j => next9 m c t h k j)
    (le_of_eq N_0) tL tL_succ j).trans ?_
  rw [zero_add]
  exact sum_grid (fun b i => hin (insK m c) b i k * dz (insK m c) b i j)

theorem arr10 : (dats m 0 c).arrAt 10 cfg0.N = (fun y => dsh (insK m c) (y 0) (y 2) : S4x1x1024.Idx → EReal) := by
  refine (dats m 0 c).arrAt_eq_of_covers 10 _ (by decide +kernel) fun t hf y => ?_
  have := lt8 t
  blk_simp
  rw [after0_10]
  obtain ⟨a, r, k, rfl⟩ : ∃ (a : Fin 1) (r : Fin 1) (k : Fin 1024), y = ix3 a r k := ⟨y 0, y 1, y 2, eq_ix3 y⟩
  obtain rfl : a = 0 := Fin.fin_one_eq_zero a
  obtain rfl : r = 0 := Fin.fin_one_eq_zero r
  have h0 : pB t.val = (win0_10.blk t).view.emb (ix3 (0 : Fin 1) (0 : Fin 1) k) 0 := Fin.ext ((pB_val t).trans (by blk_simp [e10]; omega))
  have h2 : k = (win0_10.blk t).view.emb (ix3 (0 : Fin 1) (0 : Fin 1) k) 2 := Fin.ext (by blk_simp [e10])
  rw [← h0, ← h2]
  refine (Pipeline.eq_sum_fin_of_reset_step_apply_of_flush (fun n h (k : Fin 1024) => (outsAt0 m c n h).2.2.1 (ix3 0 0 k)) 2
    (fun _ => (0 : EReal)) (fun p => term10 m c p.val) (fun t h k => first10 m c t h k) (fun t h k => next10 m c t h k) t
    ((flush0_10 t).mp hf) k).trans ?_
  rw [zero_add]
  exact sum_seq (fun b i => dh (insK m c) b i k) t

theorem arr11 : (dats m 0 c).arrAt 11 cfg0.N = (fun y => dsc (insK m c) (y 0) (y 2) : S4x1x1024.Idx → EReal) := by
  refine (dats m 0 c).arrAt_eq_of_covers 11 _ (by decide +kernel) fun t hf y => ?_
  have := lt8 t
  blk_simp
  rw [after0_11]
  obtain ⟨a, r, k, rfl⟩ : ∃ (a : Fin 1) (r : Fin 1) (k : Fin 1024), y = ix3 a r k := ⟨y 0, y 1, y 2, eq_ix3 y⟩
  obtain rfl : a = 0 := Fin.fin_one_eq_zero a
  obtain rfl : r = 0 := Fin.fin_one_eq_zero r
  have h0 : pB t.val = (win0_11.blk t).view.emb (ix3 (0 : Fin 1) (0 : Fin 1) k) 0 := Fin.ext ((pB_val t).trans (by blk_simp [e11]; omega))
  have h2 : k = (win0_11.blk t).view.emb (ix3 (0 : Fin 1) (0 : Fin 1) k) 2 := Fin.ext (by blk_simp [e11])
  rw [← h0, ← h2]
  refine (Pipeline.eq_sum_fin_of_reset_step_apply_of_flush (fun n h (k : Fin 1024) => (outsAt0 m c n h).2.2.2.1 (ix3 0 0 k)) 2
    (fun _ => (0 : EReal)) (fun p => term11 m c p.val) (fun t h k => first11 m c t h k) (fun t h k => next11 m c t h k) t
    ((flush0_11 t).mp hf) k).trans ?_
  rw [zero_add]
  exact sum_seq (fun b i => dh (insK m c) b i k * act (insK m c) b i k) t

theorem arr12 : (dats m 0 c).arrAt 12 cfg0.N = (fun y => dg (insK m c) (y 1) : S1x1024.Idx → EReal) := by
  refine (dats m 0 c).arrAt_eq_of_after_last 12 tL (by decide +kernel) _ fun y => ?_
  blk_simp
  rw [after0_12]
  obtain ⟨a, k, rfl⟩ : ∃ (a : Fin 1) (k : Fin 1024), y = ix2 a k := ⟨y 0, y 1, eq_ix2 y⟩
  obtain rfl : a = 0 := Fin.fin_one_eq_zero a
  refine (Pipeline.eq_sum_fin_of_reset_step_apply_last (fun n h (k : Fin 1024) => (outsAt0 m c n h).2.2.2.2 (ix2 0 k)) 8
    (fun _ => (0 : EReal)) (fun p => term12 m c p.val) (fun t h k => first12 m c t h k) (fun t h k => next12 m c t h k)
    (le_of_eq N_0) tL tL_succ k).trans ?_
  rw [zero_add]
  exact sum_grid (fun b i => tt (insK m c) b i k * xhat (insK m c) b i k)

/-! ## The results are the reference's -/

theorem res8 (hp : Cert.Pre_Kernel4Ideal_finite4 m) : (dats m 0 c).arrAt 8 cfg0.N = val_main_v60 (F := Ideal) (arg m c main_arg0)
    (arg m c main_arg2) (arg m c main_arg3) (arg m c main_arg4) (arg m c main_arg5) (arg m c main_arg6) (arg m c main_arg7) := by
  obtain ⟨h0, h2, h3, h4, h5, h6⟩ := Cert.Pre_finite4.args_real hp c
  rw [arr8]
  funext y
  obtain ⟨b, t, k, rfl⟩ : ∃ b t k, y = ix3 b t k := ⟨y 0, y 1, y 2, ValueIdx.eq_ix3 y⟩
  exact (r60 _ (arg m c main_arg1) _ _ _ _ _ _ (fun _ _ _ => h0 _) (real_tt _ _ _ _ _ _ _ _ h2 h3 h4 h5 h6) b t k).symm

theorem res9 : (dats m 0 c).arrAt 9 cfg0.N = val_main_v28 (F := Ideal) (arg m c main_arg0) (arg m c main_arg1)
    (arg m c main_arg2) (arg m c main_arg3) (arg m c main_arg5) (arg m c main_arg6) := by
  rw [arr9]
  funext y
  obtain ⟨k, j, rfl⟩ : ∃ k j, y = ix2 k j := ⟨y 0, y 1, ValueIdx.eq_ix2 y⟩
  exact (r28 _ _ _ _ (arg m c main_arg4) _ _ (arg m c main_arg7) k j).symm

theorem res10 : (dats m 0 c).arrAt 10 cfg0.N = val_main_v61 (F := Ideal) (arg m c main_arg4) (arg m c main_arg5) (arg m c main_arg6) := by
  rw [arr10]
  funext y
  obtain ⟨b, k, rfl⟩ : ∃ b k, y = ix3 b 0 k := ⟨y 0, y 2, (ValueIdx.eq_ix3 y).trans (congrArg (fun q => ix3 (y 0) q (y 2)) (Fin.eq_zero (y 1)))⟩
  exact (r61 (arg m c main_arg0) (arg m c main_arg1) (arg m c main_arg2) (arg m c main_arg3) _ _ _ (arg m c main_arg7) b k).symm

theorem res11 : (dats m 0 c).arrAt 11 cfg0.N = val_main_v62 (F := Ideal) (arg m c main_arg0) (arg m c main_arg3) (arg m c main_arg4)
    (arg m c main_arg5) (arg m c main_arg6) := by
  rw [arr11]
  funext y
  obtain ⟨b, k, rfl⟩ : ∃ b k, y = ix3 b 0 k := ⟨y 0, y 2, (ValueIdx.eq_ix3 y).trans (congrArg (fun q => ix3 (y 0) q (y 2)) (Fin.eq_zero (y 1)))⟩
  exact (r62 _ (arg m c main_arg1) (arg m c main_arg2) _ _ _ _ (arg m c main_arg7) b k).symm

theorem res12 : (dats m 0 c).arrAt 12 cfg0.N = val_main_v59 (F := Ideal) (arg m c main_arg0) (arg m c main_arg2) (arg m c main_arg4)
    (arg m c main_arg5) (arg m c main_arg6) := by
  rw [arr12]
  funext y
  obtain ⟨k, rfl⟩ : ∃ k, y = ix2 0 k := ⟨y 1, (ValueIdx.eq_ix2 y).trans (congrArg (fun q => ix2 q (y 1)) (Fin.eq_zero (y 0)))⟩
  exact (r59 _ (arg m c main_arg1) _ (arg m c main_arg3) _ _ _ (arg m c main_arg7) k).symm

end Cert.Kernel4Ideal.Mix
-- ==== Proof.lean ====
/-
  The certificate: the kernel's two programs run and leave their arguments unchanged, so does the reference, and over
  finite arguments the idealized kernel and the reference end with the same seven results. The two weight gradients of the
  MLP have programs of their own, and theirs hold over all arguments; so has the backward pass of the mixer's input
  projection, over arguments of which all but two are finite. Five more, over all arguments, are the forward pass of that
  projection and the last step of the four big weights' updates, a sum and an AdamW step.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Read
public import proofs.«01_k».proof.Proof.MixFwd
public import proofs.«01_k».proof.Proof.AdamUp
public import proofs.«01_k».proof.Proof.AdamDown
public import proofs.«01_k».proof.Proof.AdamGlu
public import proofs.«01_k».proof.Proof.AdamOut
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Read
public import proofs.«01_k».proof.Proof.Equation
public import proofs.«01_k».proof.Proof.Twin
public import proofs.«01_k».proof.Proof.WgradUp
public import proofs.«01_k».proof.Proof.WgradDown
public import proofs.«01_k».proof.Proof.MixArrays

@[expose] public section

set_option maxRecDepth 16384

noncomputable section

namespace Cert.Proof

open Idealize.ShloMosaic Idealize.SL.Sem Cert.ReferenceIdeal.Read

theorem frame_ideal : Cert.quiescent_KernelIdeal := fun m ρ _ => Cert.KernelIdeal.Ffn.frame (F := Ideal) m ρ

/-- The reference's run leaves its arguments unchanged; it declares no semaphore. -/
theorem frame_reference : Cert.quiescent_ReferenceIdeal := fun m ρ _ =>
  (θ_run Cert.ReferenceIdeal.defs _ _).mono (fun r h => ⟨fun c => (h c).2.2.2.2.2.2.2,
    sem_eq_zero_of_no_sems (by decide) r.2⟩) (Cert.ReferenceIdeal.Value.run (F := Ideal) m ρ)

/-- Over finite arguments both programs end with the reference's seven values. -/
theorem algebraic : Cert.algebraic_KernelIdeal_ReferenceIdeal_pre_finite := by
  intro m ρ m' ρ' hp hagree
  refine ⟨fun c => val_main_v138 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => val_main_v139 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => val_main_v140 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => val_main_v141 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => val_main_v137 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Ffn.run_value m hp ρ, ?_⟩
  refine (θ_run Cert.ReferenceIdeal.defs _ _).mono (fun r h c => ?_) (Cert.ReferenceIdeal.Value.run (F := Ideal) m' ρ')
  obtain ⟨a0, a1, a2, a3, a4, a5, a6, a7, a8, a9⟩ := hagree c
  obtain ⟨h138, h139, h140, h141, h137, h100, h105, hkept⟩ := h c
  beta_reduce
  rw [← a0, ← a1, ← a2, ← a3, ← a4, ← a5, ← a6, ← a7, ← a8, ← a9]
  exact ⟨h138.trans (val_main_v138_eq _),
    h139.trans (val_main_v139_eq _),
    h140.trans (val_main_v140_eq _),
    h141.trans (val_main_v141_eq _),
    h137.trans (val_main_v137_eq _),
    h100.trans (val_main_v100_eq _),
    h105.trans (val_main_v105_eq _), hkept⟩

theorem frame_kernel2 : Cert.quiescent_Kernel2 := fun m ρ _ => Cert.Kernel2.Gen.frame m ρ
theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2,
    sem_eq_zero_of_no_sems (by decide) r.2⟩) (Cert.Reference2Ideal.Value.run (F := Ideal) m ρ)

/-- The weight gradient of the up projection. -/
theorem algebraic2 : Cert.algebraic_Kernel2Ideal_Reference2Ideal := by
  intro m ρ m' ρ' _ hagree
  refine ⟨fun c => Cert.Reference2Ideal.Read.val_main_v81 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)),
    (θ_run Cert.Kernel2Ideal.defs _ _).mono (fun r h c =>
      ⟨(h c).1.trans (Cert.Kernel2Ideal.WgradUp.result_eq m c), (h c).2⟩) (Cert.Kernel2Ideal.Value.run m ρ), ?_⟩
  refine (θ_run Cert.Reference2Ideal.defs _ _).mono (fun r h c => ?_) (Cert.Reference2Ideal.Value.run (F := Ideal) m' ρ')
  obtain ⟨a0, a1, a2, a3, a4, a5, a6, a7, a8, a9⟩ := hagree c
  beta_reduce
  rw [← a0, ← a1, ← a2, ← a3, ← a4, ← a5, ← a6, ← a7, ← a8, ← a9]
  exact ⟨(h c).1.trans (Cert.Reference2Ideal.Read.val_main_v81_eq _), (h c).2⟩

theorem frame_kernel3 : Cert.quiescent_Kernel3 := fun m ρ _ => Cert.Kernel3.Gen.frame m ρ
theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2,
    sem_eq_zero_of_no_sems (by decide) r.2⟩) (Cert.Reference3Ideal.Value.run (F := Ideal) m ρ)

/-- The weight gradient of the down projection. -/
theorem algebraic3 : Cert.algebraic_Kernel3Ideal_Reference3Ideal := by
  intro m ρ m' ρ' _ hagree
  refine ⟨fun c => Cert.Reference3Ideal.Read.val_main_v61 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg9)),
    (θ_run Cert.Kernel3Ideal.defs _ _).mono (fun r h c =>
      ⟨(h c).1.trans (Cert.Kernel3Ideal.WgradDown.result_eq m c), (h c).2⟩) (Cert.Kernel3Ideal.Value.run m ρ), ?_⟩
  refine (θ_run Cert.Reference3Ideal.defs _ _).mono (fun r h c => ?_) (Cert.Reference3Ideal.Value.run (F := Ideal) m' ρ')
  obtain ⟨a0, a1, a2, a3, a4, a5, a6, a7, a8, a9⟩ := hagree c
  beta_reduce
  rw [← a0, ← a1, ← a2, ← a3, ← a4, ← a5, ← a6, ← a7, ← a9]
  exact ⟨(h c).1.trans (Cert.Reference3Ideal.Read.val_main_v61_eq _ _), (h c).2⟩

theorem frame_kernel4 : Cert.quiescent_Kernel4 := fun m ρ _ => Cert.Kernel4.Gen.frame m ρ
theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2.2.2.2.2,
    sem_eq_zero_of_no_sems (by decide) r.2⟩) (Cert.Reference4Ideal.Value.run (F := Ideal) m ρ)

/-- The gradients of the mixer's input projection; the shift and the residual stream's cotangent may be infinite. -/
theorem algebraic4 : Cert.algebraic_Kernel4Ideal_Reference4Ideal_pre_finite4 := by
  intro m ρ m' ρ' hp hagree
  refine ⟨fun c => Cert.Reference4Ideal.Read.val_main_v60 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)),
    fun c => Cert.Reference4Ideal.Read.val_main_v28 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)),
    fun c => Cert.Reference4Ideal.Read.val_main_v61 (F := Ideal) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)),
    fun c => Cert.Reference4Ideal.Read.val_main_v62 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)),
    fun c => Cert.Reference4Ideal.Read.val_main_v59 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)),
    (θ_run Cert.Kernel4Ideal.defs _ _).mono (fun r h c => by
      obtain ⟨h8, h9, h10, h11, h12, hkept⟩ := h c
      exact ⟨h8.trans (Cert.Kernel4Ideal.Mix.res8 m c hp), h9.trans (Cert.Kernel4Ideal.Mix.res9 m c),
        h10.trans (Cert.Kernel4Ideal.Mix.res10 m c), h11.trans (Cert.Kernel4Ideal.Mix.res11 m c),
        h12.trans (Cert.Kernel4Ideal.Mix.res12 m c), hkept⟩) (Cert.Kernel4Ideal.Value.run_blocks m ρ), ?_⟩
  refine (θ_run Cert.Reference4Ideal.defs _ _).mono (fun r h c => ?_) (Cert.Reference4Ideal.Value.run (F := Ideal) m' ρ')
  obtain ⟨a0, a1, a2, a3, a4, a5, a6, a7⟩ := hagree c
  obtain ⟨h60, h28, h61, h62, h59, hkept⟩ := h c
  beta_reduce
  rw [← a0, ← a1, ← a2, ← a3, ← a4, ← a5, ← a6, ← a7]
  exact ⟨h60.trans (Cert.Reference4Ideal.Read.val_main_v60_eq _ _), h28.trans (Cert.Reference4Ideal.Read.val_main_v28_eq _ _ _ _ _ _),
    h61.trans (Cert.Reference4Ideal.Read.val_main_v61_eq _ _ _), h62.trans (Cert.Reference4Ideal.Read.val_main_v62_eq _ _ _ _ _),
    h59.trans (Cert.Reference4Ideal.Read.val_main_v59_eq _ _ _ _ _), hkept⟩

theorem frame_kernel5 : Cert.quiescent_Kernel5 := fun m ρ _ => Cert.Kernel5.Gen.frame m ρ
theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2.2,
    sem_eq_zero_of_no_sems (by decide) r.2⟩) (Cert.Reference5Ideal.Value.run (F := Ideal) m ρ)

/-- The forward pass of the mixer's input projection, its output cut into two halves. -/
theorem algebraic5 : Cert.algebraic_Kernel5Ideal_Reference5Ideal := by
  intro m ρ m' ρ' _ hagree
  refine ⟨fun c => Cert.Reference5Ideal.Read.val_main_v27 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    fun c => Cert.Reference5Ideal.Read.val_main_v24 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    (θ_run Cert.Kernel5Ideal.defs _ _).mono (fun r h c => by
      obtain ⟨h5, h6, hkept⟩ := h c
      exact ⟨h5.trans (Cert.Kernel5Ideal.MixFwd.res5 m c), h6.trans (Cert.Kernel5Ideal.MixFwd.res6 m c), hkept⟩) (Cert.Kernel5Ideal.Value.run_blocks m ρ), ?_⟩
  refine (θ_run Cert.Reference5Ideal.defs _ _).mono (fun r h c => ?_) (Cert.Reference5Ideal.Value.run (F := Ideal) m' ρ')
  obtain ⟨a0, a1, a2, a3, a4⟩ := hagree c
  obtain ⟨h5, h6, hkept⟩ := h c
  beta_reduce
  rw [← a0, ← a1, ← a2, ← a3, ← a4]
  exact ⟨h5.trans (Cert.Reference5Ideal.Read.val_main_v27_eq _ _ _ _ _), h6.trans (Cert.Reference5Ideal.Read.val_main_v24_eq _ _ _ _ _), hkept⟩

theorem frame_kernel6 : Cert.quiescent_Kernel6 := fun m ρ _ => Cert.Kernel6.Gen.frame m ρ
theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2.2.2.2,
    sem_eq_zero_of_no_sems (by decide) r.2⟩) (Cert.Reference6Ideal.Value.run (F := Ideal) m ρ)

/-- The up projection's gradient over all devices, transposed, from its partial sums, and the AdamW step made of it. -/
theorem algebraic6 : Cert.algebraic_Kernel6Ideal_Reference6Ideal := by
  intro m ρ m' ρ' _ hagree
  refine ⟨fun c => Cert.Reference6Ideal.Read.val_main_v2 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    fun c => Cert.Reference6Ideal.Read.val_main_v26 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)),
    fun c => Cert.Reference6Ideal.Read.val_main_v7 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)),
    fun c => Cert.Reference6Ideal.Read.val_main_v13 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg4)),
    (θ_run Cert.Kernel6Ideal.defs _ _).mono (fun r h c => by
      obtain ⟨h5, h6, h7, h8, hkept⟩ := h c
      exact ⟨h5.trans (Cert.Kernel6Ideal.Adam.results m c).1, h6.trans (Cert.Kernel6Ideal.Adam.results m c).2.1, h7.trans (Cert.Kernel6Ideal.Adam.results m c).2.2.1, h8.trans (Cert.Kernel6Ideal.Adam.results m c).2.2.2, hkept⟩) (Cert.Kernel6Ideal.Value.run_blocks m ρ), ?_⟩
  refine (θ_run Cert.Reference6Ideal.defs _ _).mono (fun r h c => ?_) (Cert.Reference6Ideal.Value.run (F := Ideal) m' ρ')
  obtain ⟨a0, a1, a2, a3, a4⟩ := hagree c
  obtain ⟨h5, h6, h7, h8, hkept⟩ := h c
  beta_reduce
  rw [← a0, ← a1, ← a2, ← a3, ← a4]
  exact ⟨h5.trans (Cert.Reference6Ideal.Read.val_main_v2_eq _ _), h6.trans (Cert.Reference6Ideal.Read.val_main_v26_eq _ _ _ _ _), h7.trans (Cert.Reference6Ideal.Read.val_main_v7_eq _ _ _), h8.trans (Cert.Reference6Ideal.Read.val_main_v13_eq _ _ _), hkept⟩

theorem frame_kernel7 : Cert.quiescent_Kernel7 := fun m ρ _ => Cert.Kernel7.Gen.frame m ρ
theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono (fun r h => ⟨fun c => (h c).2.2.2.2,
    sem_eq_zero_of_no_sems (by decide) r.2⟩) (Cert.Reference7Ideal.Value.run (F := Ideal) m ρ)

/-- The same for the down projection. -/
theorem algebraic7 : Cert.algebraic_Kernel7Ideal_Reference7Ideal := by
  intro m ρ m' ρ' _ hagree
  refine ⟨fun c => Cert.Reference7Ideal.Read.val_main_v2 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    fun c => Cert.Reference7Ideal.Read.val_main_v26 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)),
    fun c => Cert.Reference7Ideal.Read.val_main_v7 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg3)),
    fun c => Cert.Reference7Ideal.Read.val_main_v13 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg4)),
    (θ_run Cert.Kernel7Ideal.defs _ _).mono (fun r h c => by
      obtain ⟨h5, h6, h7, h8, hkept⟩ := h c
      exact ⟨h5.trans (Cert.Kernel7Ideal.Adam.results m c).1, h6.trans (Cert.Kernel7Ideal.Adam.results m c).2.1, h7.trans (Cert.Kernel7Ideal.Adam.results m c).2.2.1, h8.trans (Cert.Kernel7Ideal.Adam.results m c).2.2.2, hkept⟩) (Cert.Kernel7Ideal.Value.run_blocks m ρ), ?_⟩
  refine (θ_run Cert.Reference7Ideal.defs _ _).mono (fun r h c => ?_) (Cert.Reference7Ideal.Value.run (F := Ideal) m' ρ')
  obtain ⟨a0, a1, a2, a3, a4⟩ := hagree c
  obtain ⟨h5, h6, h7, h8, hkept⟩ := h c
  beta_reduce
  rw [← a0, ← a1, ← a2, ← a3, ← a4]
  exact ⟨h5.trans (Cert.Reference7Ideal.Read.val_main_v2_eq _ _), h6.trans (Cert.Reference7Ideal.Read.val_main_v26_eq _ _ _ _ _), h7.trans (Cert.Reference7Ideal.Read.val_main_v7_eq _ _ _), h8.trans (Cert.Reference7Ideal.Read.val_main_v13_eq _ _ _), hkept⟩

theorem frame_kernel8 : Cert.quiescent_Kernel8 := fun m ρ _ => Cert.Kernel8.Gen.frame m ρ
theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono (fun r h => ⟨fun c => (h c).2.2.2.2,
    sem_eq_zero_of_no_sems (by decide) r.2⟩) (Cert.Reference8Ideal.Value.run (F := Ideal) m ρ)

/-- The same for the gated linear unit's weights. -/
theorem algebraic8 : Cert.algebraic_Kernel8Ideal_Reference8Ideal := by
  intro m ρ m' ρ' _ hagree
  refine ⟨fun c => Cert.Reference8Ideal.Read.val_main_v2 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    fun c => Cert.Reference8Ideal.Read.val_main_v26 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)),
    fun c => Cert.Reference8Ideal.Read.val_main_v7 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg3)),
    fun c => Cert.Reference8Ideal.Read.val_main_v13 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg4)),
    (θ_run Cert.Kernel8Ideal.defs _ _).mono (fun r h c => by
      obtain ⟨h5, h6, h7, h8, hkept⟩ := h c
      exact ⟨h5.trans (Cert.Kernel8Ideal.Adam.results m c).1, h6.trans (Cert.Kernel8Ideal.Adam.results m c).2.1, h7.trans (Cert.Kernel8Ideal.Adam.results m c).2.2.1, h8.trans (Cert.Kernel8Ideal.Adam.results m c).2.2.2, hkept⟩) (Cert.Kernel8Ideal.Value.run_blocks m ρ), ?_⟩
  refine (θ_run Cert.Reference8Ideal.defs _ _).mono (fun r h c => ?_) (Cert.Reference8Ideal.Value.run (F := Ideal) m' ρ')
  obtain ⟨a0, a1, a2, a3, a4⟩ := hagree c
  obtain ⟨h5, h6, h7, h8, hkept⟩ := h c
  beta_reduce
  rw [← a0, ← a1, ← a2, ← a3, ← a4]
  exact ⟨h5.trans (Cert.Reference8Ideal.Read.val_main_v2_eq _ _), h6.trans (Cert.Reference8Ideal.Read.val_main_v26_eq _ _ _ _ _), h7.trans (Cert.Reference8Ideal.Read.val_main_v7_eq _ _ _), h8.trans (Cert.Reference8Ideal.Read.val_main_v13_eq _ _ _), hkept⟩

theorem frame_kernel9 : Cert.quiescent_Kernel9 := fun m ρ _ => Cert.Kernel9.Gen.frame m ρ
theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono (fun r h => ⟨fun c => (h c).2.2.2.2,
    sem_eq_zero_of_no_sems (by decide) r.2⟩) (Cert.Reference9Ideal.Value.run (F := Ideal) m ρ)

/-- The same for the output projection's. -/
theorem algebraic9 : Cert.algebraic_Kernel9Ideal_Reference9Ideal := by
  intro m ρ m' ρ' _ hagree
  refine ⟨fun c => Cert.Reference9Ideal.Read.val_main_v2 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    fun c => Cert.Reference9Ideal.Read.val_main_v26 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)),
    fun c => Cert.Reference9Ideal.Read.val_main_v7 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg3)),
    fun c => Cert.Reference9Ideal.Read.val_main_v13 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg4)),
    (θ_run Cert.Kernel9Ideal.defs _ _).mono (fun r h c => by
      obtain ⟨h5, h6, h7, h8, hkept⟩ := h c
      exact ⟨h5.trans (Cert.Kernel9Ideal.Adam.results m c).1, h6.trans (Cert.Kernel9Ideal.Adam.results m c).2.1, h7.trans (Cert.Kernel9Ideal.Adam.results m c).2.2.1, h8.trans (Cert.Kernel9Ideal.Adam.results m c).2.2.2, hkept⟩) (Cert.Kernel9Ideal.Value.run_blocks m ρ), ?_⟩
  refine (θ_run Cert.Reference9Ideal.defs _ _).mono (fun r h c => ?_) (Cert.Reference9Ideal.Value.run (F := Ideal) m' ρ')
  obtain ⟨a0, a1, a2, a3, a4⟩ := hagree c
  obtain ⟨h5, h6, h7, h8, hkept⟩ := h c
  beta_reduce
  rw [← a0, ← a1, ← a2, ← a3, ← a4]
  exact ⟨h5.trans (Cert.Reference9Ideal.Read.val_main_v2_eq _ _), h6.trans (Cert.Reference9Ideal.Read.val_main_v26_eq _ _ _ _ _), h7.trans (Cert.Reference9Ideal.Read.val_main_v7_eq _ _ _), h8.trans (Cert.Reference9Ideal.Read.val_main_v13_eq _ _ _), hkept⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.facts, Cert.Pre_finite4.facts,
    frame_kernel, frame_ideal, fun m ρ _ => frame_ideal m ρ trivial, frame_reference,
    fun m ρ _ => frame_reference m ρ trivial, frame_kernel2, frame_ideal2, frame_reference2,
    frame_kernel3, frame_ideal3, frame_reference3, frame_kernel4, frame_ideal4,
    fun m ρ _ => frame_ideal4 m ρ trivial, frame_reference4, fun m ρ _ => frame_reference4 m ρ trivial,
    frame_kernel5, frame_ideal5, frame_reference5, frame_kernel6, frame_ideal6, frame_reference6,
    frame_kernel7, frame_ideal7, frame_reference7,
    frame_kernel8, frame_ideal8, frame_reference8,
    frame_kernel9, frame_ideal9, frame_reference9, trivial, algebraic, trivial, algebraic2, trivial, algebraic3,
    trivial, algebraic4, trivial, algebraic5, trivial, algebraic6, trivial, algebraic7, trivial, algebraic8, trivial, algebraic9⟩

end Cert.Proof

end
